-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 4096, 8, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 4096, 8, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x8x64 : S_.BroadcastsInDim S2x512x8x64 (![] : Fin 0 → Fin S2x512x8x64.rank)
  reducesTo_S2x512x8x64_S_d0_1_2_3 : S2x512x8x64.ReducesTo [0, 1, 2, 3] S_

variable [Facts]

def fn {F : FTy → Type} [FloatOps F] (main_arg0 : FVec F S2x512x768 .f32) (main_arg1 : FVec F S768x512 .f32) (main_arg2 : FVec F S2x512x8x64 .f32) (main_arg3 : FVec F S2x512x8x64 .f32) (main_arg4 : FVec F S512x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x512x8x64 .f32 := Host.absf main_arg2
  let main_cst_2 : FVec F S_ .f32 := constant S_ .f32 0x7F800000#32
  let main_v10 : FVec F S2x512x8x64 .f32 := broadcastInDim S2x512x8x64 ![] bcast_S_S2x512x8x64 main_cst_2
  let main_v11 : IVec S2x512x8x64 1 := cmpf .olt main_v9 main_v10
  let main_c_3 : IVec S_ 1 := constantI S_ 1 1#1
  let main_v12 : IVec S_ 1 := (fun x v => Host.reduce IntOp.andi x v reducesTo_S2x512x8x64_S_d0_1_2_3 h_S_) main_v11 main_c_3
  let main_v13 : IVec S_ 1 := andi main_v8 main_v12
  main_v13
-- ==== Pre_finite_scores_ReferenceIdeal.lean ====
abbrev S2x512x768 : Shape := ⟨3, ![2, 512, 768]⟩
abbrev S768x512 : Shape := ⟨2, ![768, 512]⟩
abbrev S2x4096x8x64 : Shape := ⟨4, ![2, 4096, 8, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x4096x8x64 : S_.BroadcastsInDim S2x4096x8x64 (![] : Fin 0 → Fin S2x4096x8x64.rank)
  reducesTo_S2x4096x8x64_S_d0_1_2_3 : S2x4096x8x64.ReducesTo [0, 1, 2, 3] S_

variable [Facts]

def fn {F : FTy → Type} [FloatOps F] (main_arg0 : FVec F S2x512x768 .f32) (main_arg1 : FVec F S768x512 .f32) (main_arg2 : FVec F S2x4096x8x64 .f32) (main_arg3 : FVec F S2x4096x8x64 .f32) (main_arg4 : FVec F S512x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x4096x8x64 .f32 := Host.absf main_arg2
  let main_cst_2 : FVec F S_ .f32 := constant S_ .f32 0x7F800000#32
  let main_v10 : FVec F S2x4096x8x64 .f32 := broadcastInDim S2x4096x8x64 ![] bcast_S_S2x4096x8x64 main_cst_2
  let main_v11 : IVec S2x4096x8x64 1 := cmpf .olt main_v9 main_v10
  let main_c_3 : IVec S_ 1 := constantI S_ 1 1#1
  let main_v12 : IVec S_ 1 := (fun x v => Host.reduce IntOp.andi x v reducesTo_S2x4096x8x64_S_d0_1_2_3 h_S_) main_v11 main_c_3
  let main_v13 : IVec S_ 1 := andi main_v8 main_v12
  main_v13
-- ==== Kernel.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S8x2x66x512 : Shape := ⟨4, ![8, 2, 66, 512]⟩
abbrev S7x2x66x512 : Shape := ⟨4, ![7, 2, 66, 512]⟩
abbrev S8x2x64x512 : Shape := ⟨4, ![8, 2, 64, 512]⟩
abbrev S2x64x512 : Shape := ⟨3, ![2, 64, 512]⟩
abbrev S2x8 : Shape := ⟨2, ![2, 8]⟩
abbrev S2x7 : Shape := ⟨2, ![2, 7]⟩
abbrev S_ : Shape := ⟨0, ![]⟩
abbrev S1x512x768 : Shape := ⟨3, ![1, 512, 768]⟩
abbrev S1x512x8x64 : Shape := ⟨4, ![1, 512, 8, 64]⟩
abbrev S512x8x64 : Shape := ⟨3, ![512, 8, 64]⟩
abbrev S512x512 : Shape := ⟨2, ![512, 512]⟩
abbrev S64x64 : Shape := ⟨2, ![64, 64]⟩
abbrev S128x64 : Shape := ⟨2, ![128, 64]⟩
abbrev S64x1x64 : Shape := ⟨3, ![64, 1, 64]⟩
abbrev S128x128 : Shape := ⟨2, ![128, 128]⟩
abbrev S128 : Shape := ⟨1, ![128]⟩
abbrev S128x1 : Shape := ⟨2, ![128, 1]⟩
abbrev S1x1x64x64 : Shape := ⟨4, ![1, 1, 64, 64]⟩
abbrev S64 : Shape := ⟨1, ![64]⟩
abbrev S1x64 : Shape := ⟨2, ![1, 64]⟩
abbrev S2x64 : Shape := ⟨2, ![2, 64]⟩
abbrev S1x1x2x64 : Shape := ⟨4, ![1, 1, 2, 64]⟩
abbrev S1x1 : Shape := ⟨2, ![1, 1]⟩
abbrev S1x1x66x512 : Shape := ⟨4, ![1, 1, 66, 512]⟩
abbrev S66x512 : Shape := ⟨2, ![66, 512]⟩
abbrev S1x1x64x512 : Shape := ⟨4, ![1, 1, 64, 512]⟩
abbrev S64x512 : Shape := ⟨2, ![64, 512]⟩
abbrev S1x64x512 : Shape := ⟨3, ![1, 64, 512]⟩
abbrev S1x1x1x512 : Shape := ⟨4, ![1, 1, 1, 512]⟩
abbrev S512 : Shape := ⟨1, ![512]⟩
abbrev S1x64x64 : Shape := ⟨3, ![1, 64, 64]⟩
abbrev S64x1 : Shape := ⟨2, ![64, 1]⟩
abbrev S64x768 : Shape := ⟨2, ![64, 768]⟩
abbrev S1x64x768 : Shape := ⟨3, ![1, 64, 768]⟩

abbrev nBuf : Space → Nat
  | .hbm => 6
  | .vmem => 10
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x8x64, .f32⟩
  | .hbm, ⟨3, _⟩ => ⟨S2x512x8x64, .f32⟩
  | .hbm, ⟨4, _⟩ => ⟨S512x768, .f32⟩
  | .hbm, ⟨5, _⟩ => ⟨S2x512x768, .f32⟩
  | .local _ .vmem, ⟨0, _⟩ => ⟨S2x512x768, .f32⟩
  | .local _ .vmem, ⟨1, _⟩ => ⟨S768x512, .f32⟩
  | .local _ .vmem, ⟨2, _⟩ => ⟨S2x512x8x64, .f32⟩
  | .local _ .vmem, ⟨3, _⟩ => ⟨S2x512x8x64, .f32⟩
  | .local _ .vmem, ⟨4, _⟩ => ⟨S512x768, .f32⟩
  | .local _ .vmem, ⟨5, _⟩ => ⟨S2x512x768, .f32⟩
  | .local _ .vmem, ⟨6, _⟩ => ⟨S8x2x66x512, .bf16⟩
  | .local _ .vmem, ⟨7, _⟩ => ⟨S7x2x66x512, .bf16⟩
  | .local _ .vmem, ⟨8, _⟩ => ⟨S8x2x64x512, .bf16⟩
  | .local _ .vmem, ⟨9, _⟩ => ⟨S2x64x512, .f32⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_3922 : BitVec 32 := 0#32
  let c0_i32_3920 : BitVec 32 := 0#32
  let c1_i32_3921 : BitVec 32 := 1#32
  let v6644 : BitVec 32 := Scalar.muli c0_i32_3920 c1_i32_3921
  let v6645 : BitVec 32 := Scalar.addi c0_i32_3922 v6644
  v6645.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_3922 : BitVec 32 := 0#32
  let c1_i32_3920 : BitVec 32 := 1#32
  let c1_i32_3921 : BitVec 32 := 1#32
  let v6644 : BitVec 32 := Scalar.muli c1_i32_3920 c1_i32_3921
  let v6645 : BitVec 32 := Scalar.addi c0_i32_3922 v6644
  v6645.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_3922 : BitVec 32 := 0#32
  let c2_i32_3920 : BitVec 32 := 2#32
  let c1_i32_3921 : BitVec 32 := 1#32
  let v6644 : BitVec 32 := Scalar.muli c2_i32_3920 c1_i32_3921
  let v6645 : BitVec 32 := Scalar.addi c0_i32_3922 v6644
  v6645.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_3922 : BitVec 32 := 0#32
  let c3_i32_3920 : BitVec 32 := 3#32
  let c1_i32_3921 : BitVec 32 := 1#32
  let v6644 : BitVec 32 := Scalar.muli c3_i32_3920 c1_i32_3921
  let v6645 : BitVec 32 := Scalar.addi c0_i32_3922 v6644
  v6645.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_3922 : BitVec 32 := 0#32
  let c4_i32_3920 : BitVec 32 := 4#32
  let c1_i32_3921 : BitVec 32 := 1#32
  let v6644 : BitVec 32 := Scalar.muli c4_i32_3920 c1_i32_3921
  let v6645 : BitVec 32 := Scalar.addi c0_i32_3922 v6644
  v6645.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_3922 : BitVec 32 := 0#32
  let c5_i32_3920 : BitVec 32 := 5#32
  let c1_i32_3921 : BitVec 32 := 1#32
  let v6644 : BitVec 32 := Scalar.muli c5_i32_3920 c1_i32_3921
  let v6645 : BitVec 32 := Scalar.addi c0_i32_3922 v6644
  v6645.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_3922 : BitVec 32 := 0#32
  let c6_i32_3920 : BitVec 32 := 6#32
  let c1_i32_3921 : BitVec 32 := 1#32
  let v6644 : BitVec 32 := Scalar.muli c6_i32_3920 c1_i32_3921
  let v6645 : BitVec 32 := Scalar.addi c0_i32_3922 v6644
  v6645.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_3922 : BitVec 32 := 0#32
  let c7_i32_3920 : BitVec 32 := 7#32
  let c1_i32_3921 : BitVec 32 := 1#32
  let v6644 : BitVec 32 := Scalar.muli c7_i32_3920 c1_i32_3921
  let v6645 : BitVec 32 := Scalar.addi c0_i32_3922 v6644
  v6645.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_683 : BitVec 32 := 0#32
  let v1774 : BitVec 1 := Scalar.cmpi .ne v2 c0_i32_683
  let v1775 : BitVec 32 := Scalar.extui v1774
  let c0_i32_690 : BitVec 32 := 0#32
  let v1776 : BitVec 1 := Scalar.cmpi .ne v1775 c0_i32_690
  v1776

def k0_off1 (d0 : Dev nD) : Fin 2 → Nat :=
  let c0_i32_687 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_680 : BitVec 32 := 0#32
  let v1770 : BitVec 32 := Scalar.subi v2 c0_i32_680
  let c1_i32_681 : BitVec 32 := 1#32
  let v1771 : BitVec 32 := Scalar.subi v1770 c1_i32_681
  let c16_i32 : BitVec 32 := 16#32
  let v1772 : BitVec 32 := Scalar.addi v1771 c16_i32
  let c8_i32_682 : BitVec 32 := 8#32
  let v1773 : BitVec 32 := Scalar.remsi v1772 c8_i32_682
  ![0, v1773.toNat]
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_680 : BitVec 32 := 0#32
  let v1770 : BitVec 32 := Scalar.subi v2 c0_i32_680
  let c1_i32_681 : BitVec 32 := 1#32
  let v1771 : BitVec 32 := Scalar.subi v1770 c1_i32_681
  let c16_i32 : BitVec 32 := 16#32
  let v1772 : BitVec 32 := Scalar.addi v1771 c16_i32
  let c8_i32_682 : BitVec 32 := 8#32
  let v1773 : BitVec 32 := Scalar.remsi v1772 c8_i32_682
  let c0_i32_686 : BitVec 32 := 0#32
  let c0_i32_3922 : BitVec 32 := 0#32
  let c0_i32_3923 : BitVec 32 := 0#32
  ![v1773.toNat, 0, 0, 0]
def k0_dev9 : Nat :=
  let c0_i32_3921 : BitVec 32 := 0#32
  let c0_i32_3919 : BitVec 32 := 0#32
  let c1_i32_3920 : BitVec 32 := 1#32
  let v6644 : BitVec 32 := Scalar.muli c0_i32_3919 c1_i32_3920
  let v6645 : BitVec 32 := Scalar.addi c0_i32_3921 v6644
  v6645.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_695 : BitVec 32 := 1#32
  let v1781 : BitVec 1 := Scalar.cmpi .ne v2 c1_i32_695
  let v1782 : BitVec 32 := Scalar.extui v1781
  let c0_i32_702 : BitVec 32 := 0#32
  let v1783 : BitVec 1 := Scalar.cmpi .ne v1782 c0_i32_702
  v1783

def k0_off3 (d0 : Dev nD) : Fin 2 → Nat :=
  let c0_i32_699 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_691 : BitVec 32 := 1#32
  let v1777 : BitVec 32 := Scalar.subi v2 c1_i32_691
  let c1_i32_692 : BitVec 32 := 1#32
  let v1778 : BitVec 32 := Scalar.subi v1777 c1_i32_692
  let c16_i32_693 : BitVec 32 := 16#32
  let v1779 : BitVec 32 := Scalar.addi v1778 c16_i32_693
  let c8_i32_694 : BitVec 32 := 8#32
  let v1780 : BitVec 32 := Scalar.remsi v1779 c8_i32_694
  ![0, v1780.toNat]
def k0_off4 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_691 : BitVec 32 := 1#32
  let v1777 : BitVec 32 := Scalar.subi v2 c1_i32_691
  let c1_i32_692 : BitVec 32 := 1#32
  let v1778 : BitVec 32 := Scalar.subi v1777 c1_i32_692
  let c16_i32_693 : BitVec 32 := 16#32
  let v1779 : BitVec 32 := Scalar.addi v1778 c16_i32_693
  let c8_i32_694 : BitVec 32 := 8#32
  let v1780 : BitVec 32 := Scalar.remsi v1779 c8_i32_694
  let c0_i32_698 : BitVec 32 := 0#32
  let c0_i32_3922 : BitVec 32 := 0#32
  let c0_i32_3923 : BitVec 32 := 0#32
  ![v1780.toNat, 0, 0, 0]
def k0_dev10 : Nat :=
  let c0_i32_3921 : BitVec 32 := 0#32
  let c1_i32_3919 : BitVec 32 := 1#32
  let c1_i32_3920 : BitVec 32 := 1#32
  let v6644 : BitVec 32 := Scalar.muli c1_i32_3919 c1_i32_3920
  let v6645 : BitVec 32 := Scalar.addi c0_i32_3921 v6644
  v6645.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_707 : BitVec 32 := 2#32
  let v1788 : BitVec 1 := Scalar.cmpi .ne v2 c2_i32_707
  let v1789 : BitVec 32 := Scalar.extui v1788
  let c0_i32_714 : BitVec 32 := 0#32
  let v1790 : BitVec 1 := Scalar.cmpi .ne v1789 c0_i32_714
  v1790

def k0_off5 (d0 : Dev nD) : Fin 2 → Nat :=
  let c0_i32_711 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_703 : BitVec 32 := 2#32
  let v1784 : BitVec 32 := Scalar.subi v2 c2_i32_703
  let c1_i32_704 : BitVec 32 := 1#32
  let v1785 : BitVec 32 := Scalar.subi v1784 c1_i32_704
  let c16_i32_705 : BitVec 32 := 16#32
  let v1786 : BitVec 32 := Scalar.addi v1785 c16_i32_705
  let c8_i32_706 : BitVec 32 := 8#32
  let v1787 : BitVec 32 := Scalar.remsi v1786 c8_i32_706
  ![0, v1787.toNat]
def k0_off6 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_703 : BitVec 32 := 2#32
  let v1784 : BitVec 32 := Scalar.subi v2 c2_i32_703
  let c1_i32_704 : BitVec 32 := 1#32
  let v1785 : BitVec 32 := Scalar.subi v1784 c1_i32_704
  let c16_i32_705 : BitVec 32 := 16#32
  let v1786 : BitVec 32 := Scalar.addi v1785 c16_i32_705
  let c8_i32_706 : BitVec 32 := 8#32
  let v1787 : BitVec 32 := Scalar.remsi v1786 c8_i32_706
  let c0_i32_710 : BitVec 32 := 0#32
  let c0_i32_3922 : BitVec 32 := 0#32
  let c0_i32_3923 : BitVec 32 := 0#32
  ![v1787.toNat, 0, 0, 0]
def k0_dev11 : Nat :=
  let c0_i32_3921 : BitVec 32 := 0#32
  let c2_i32_3919 : BitVec 32 := 2#32
  let c1_i32_3920 : BitVec 32 := 1#32
  let v6644 : BitVec 32 := Scalar.muli c2_i32_3919 c1_i32_3920
  let v6645 : BitVec 32 := Scalar.addi c0_i32_3921 v6644
  v6645.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_719 : BitVec 32 := 3#32
  let v1795 : BitVec 1 := Scalar.cmpi .ne v2 c3_i32_719
  let v1796 : BitVec 32 := Scalar.extui v1795
  let c0_i32_726 : BitVec 32 := 0#32
  let v1797 : BitVec 1 := Scalar.cmpi .ne v1796 c0_i32_726
  v1797

def k0_off7 (d0 : Dev nD) : Fin 2 → Nat :=
  let c0_i32_723 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_715 : BitVec 32 := 3#32
  let v1791 : BitVec 32 := Scalar.subi v2 c3_i32_715
  let c1_i32_716 : BitVec 32 := 1#32
  let v1792 : BitVec 32 := Scalar.subi v1791 c1_i32_716
  let c16_i32_717 : BitVec 32 := 16#32
  let v1793 : BitVec 32 := Scalar.addi v1792 c16_i32_717
  let c8_i32_718 : BitVec 32 := 8#32
  let v1794 : BitVec 32 := Scalar.remsi v1793 c8_i32_718
  ![0, v1794.toNat]
def k0_off8 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_715 : BitVec 32 := 3#32
  let v1791 : BitVec 32 := Scalar.subi v2 c3_i32_715
  let c1_i32_716 : BitVec 32 := 1#32
  let v1792 : BitVec 32 := Scalar.subi v1791 c1_i32_716
  let c16_i32_717 : BitVec 32 := 16#32
  let v1793 : BitVec 32 := Scalar.addi v1792 c16_i32_717
  let c8_i32_718 : BitVec 32 := 8#32
  let v1794 : BitVec 32 := Scalar.remsi v1793 c8_i32_718
  let c0_i32_722 : BitVec 32 := 0#32
  let c0_i32_3922 : BitVec 32 := 0#32
  let c0_i32_3923 : BitVec 32 := 0#32
  ![v1794.toNat, 0, 0, 0]
def k0_dev12 : Nat :=
  let c0_i32_3921 : BitVec 32 := 0#32
  let c3_i32_3919 : BitVec 32 := 3#32
  let c1_i32_3920 : BitVec 32 := 1#32
  let v6644 : BitVec 32 := Scalar.muli c3_i32_3919 c1_i32_3920
  let v6645 : BitVec 32 := Scalar.addi c0_i32_3921 v6644
  v6645.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_731 : BitVec 32 := 4#32
  let v1802 : BitVec 1 := Scalar.cmpi .ne v2 c4_i32_731
  let v1803 : BitVec 32 := Scalar.extui v1802
  let c0_i32_738 : BitVec 32 := 0#32
  let v1804 : BitVec 1 := Scalar.cmpi .ne v1803 c0_i32_738
  v1804

def k0_off9 (d0 : Dev nD) : Fin 2 → Nat :=
  let c0_i32_735 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_727 : BitVec 32 := 4#32
  let v1798 : BitVec 32 := Scalar.subi v2 c4_i32_727
  let c1_i32_728 : BitVec 32 := 1#32
  let v1799 : BitVec 32 := Scalar.subi v1798 c1_i32_728
  let c16_i32_729 : BitVec 32 := 16#32
  let v1800 : BitVec 32 := Scalar.addi v1799 c16_i32_729
  let c8_i32_730 : BitVec 32 := 8#32
  let v1801 : BitVec 32 := Scalar.remsi v1800 c8_i32_730
  ![0, v1801.toNat]
def k0_off10 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_727 : BitVec 32 := 4#32
  let v1798 : BitVec 32 := Scalar.subi v2 c4_i32_727
  let c1_i32_728 : BitVec 32 := 1#32
  let v1799 : BitVec 32 := Scalar.subi v1798 c1_i32_728
  let c16_i32_729 : BitVec 32 := 16#32
  let v1800 : BitVec 32 := Scalar.addi v1799 c16_i32_729
  let c8_i32_730 : BitVec 32 := 8#32
  let v1801 : BitVec 32 := Scalar.remsi v1800 c8_i32_730
  let c0_i32_734 : BitVec 32 := 0#32
  let c0_i32_3922 : BitVec 32 := 0#32
  let c0_i32_3923 : BitVec 32 := 0#32
  ![v1801.toNat, 0, 0, 0]
def k0_dev13 : Nat :=
  let c0_i32_3921 : BitVec 32 := 0#32
  let c4_i32_3919 : BitVec 32 := 4#32
  let c1_i32_3920 : BitVec 32 := 1#32
  let v6644 : BitVec 32 := Scalar.muli c4_i32_3919 c1_i32_3920
  let v6645 : BitVec 32 := Scalar.addi c0_i32_3921 v6644
  v6645.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_743 : BitVec 32 := 5#32
  let v1809 : BitVec 1 := Scalar.cmpi .ne v2 c5_i32_743
  let v1810 : BitVec 32 := Scalar.extui v1809
  let c0_i32_750 : BitVec 32 := 0#32
  let v1811 : BitVec 1 := Scalar.cmpi .ne v1810 c0_i32_750
  v1811

def k0_off11 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_739 : BitVec 32 := 5#32
  let v1805 : BitVec 32 := Scalar.subi v2 c5_i32_739
  let c1_i32_740 : BitVec 32 := 1#32
  let v1806 : BitVec 32 := Scalar.subi v1805 c1_i32_740
  let c16_i32_741 : BitVec 32 := 16#32
  let v1807 : BitVec 32 := Scalar.addi v1806 c16_i32_741
  let c8_i32_742 : BitVec 32 := 8#32
  let v1808 : BitVec 32 := Scalar.remsi v1807 c8_i32_742
  ![0, v1808.toNat]
def k0_off12 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_739 : BitVec 32 := 5#32
  let v1805 : BitVec 32 := Scalar.subi v2 c5_i32_739
  let c1_i32_740 : BitVec 32 := 1#32
  let v1806 : BitVec 32 := Scalar.subi v1805 c1_i32_740
  let c16_i32_741 : BitVec 32 := 16#32
  let v1807 : BitVec 32 := Scalar.addi v1806 c16_i32_741
  let c8_i32_742 : BitVec 32 := 8#32
  let v1808 : BitVec 32 := Scalar.remsi v1807 c8_i32_742
  let c0_i32_746 : BitVec 32 := 0#32
  let c0_i32_3922 : BitVec 32 := 0#32
  let c0_i32_3923 : BitVec 32 := 0#32
  ![v1808.toNat, 0, 0, 0]
def k0_dev14 : Nat :=
  let c0_i32_3921 : BitVec 32 := 0#32
  let c5_i32_3919 : BitVec 32 := 5#32
  let c1_i32_3920 : BitVec 32 := 1#32
  let v6644 : BitVec 32 := Scalar.muli c5_i32_3919 c1_i32_3920
  let v6645 : BitVec 32 := Scalar.addi c0_i32_3921 v6644
  v6645.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_755 : BitVec 32 := 6#32
  let v1816 : BitVec 1 := Scalar.cmpi .ne v2 c6_i32_755
  let v1817 : BitVec 32 := Scalar.extui v1816
  let c0_i32_762 : BitVec 32 := 0#32
  let v1818 : BitVec 1 := Scalar.cmpi .ne v1817 c0_i32_762
  v1818

def k0_off13 (d0 : Dev nD) : Fin 2 → Nat :=
  let c0_i32_759 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_751 : BitVec 32 := 6#32
  let v1812 : BitVec 32 := Scalar.subi v2 c6_i32_751
  let c1_i32_752 : BitVec 32 := 1#32
  let v1813 : BitVec 32 := Scalar.subi v1812 c1_i32_752
  let c16_i32_753 : BitVec 32 := 16#32
  let v1814 : BitVec 32 := Scalar.addi v1813 c16_i32_753
  let c8_i32_754 : BitVec 32 := 8#32
  let v1815 : BitVec 32 := Scalar.remsi v1814 c8_i32_754
  ![0, v1815.toNat]
def k0_off14 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_751 : BitVec 32 := 6#32
  let v1812 : BitVec 32 := Scalar.subi v2 c6_i32_751
  let c1_i32_752 : BitVec 32 := 1#32
  let v1813 : BitVec 32 := Scalar.subi v1812 c1_i32_752
  let c16_i32_753 : BitVec 32 := 16#32
  let v1814 : BitVec 32 := Scalar.addi v1813 c16_i32_753
  let c8_i32_754 : BitVec 32 := 8#32
  let v1815 : BitVec 32 := Scalar.remsi v1814 c8_i32_754
  let c0_i32_758 : BitVec 32 := 0#32
  let c0_i32_3922 : BitVec 32 := 0#32
  let c0_i32_3923 : BitVec 32 := 0#32
  ![v1815.toNat, 0, 0, 0]
def k0_dev15 : Nat :=
  let c0_i32_3921 : BitVec 32 := 0#32
  let c6_i32_3919 : BitVec 32 := 6#32
  let c1_i32_3920 : BitVec 32 := 1#32
  let v6644 : BitVec 32 := Scalar.muli c6_i32_3919 c1_i32_3920
  let v6645 : BitVec 32 := Scalar.addi c0_i32_3921 v6644
  v6645.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_767 : BitVec 32 := 7#32
  let v1823 : BitVec 1 := Scalar.cmpi .ne v2 c7_i32_767
  let v1824 : BitVec 32 := Scalar.extui v1823
  let c0_i32_774 : BitVec 32 := 0#32
  let v1825 : BitVec 1 := Scalar.cmpi .ne v1824 c0_i32_774
  v1825

def k0_off15 (d0 : Dev nD) : Fin 2 → Nat :=
  let c0_i32_771 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_763 : BitVec 32 := 7#32
  let v1819 : BitVec 32 := Scalar.subi v2 c7_i32_763
  let c1_i32_764 : BitVec 32 := 1#32
  let v1820 : BitVec 32 := Scalar.subi v1819 c1_i32_764
  let c16_i32_765 : BitVec 32 := 16#32
  let v1821 : BitVec 32 := Scalar.addi v1820 c16_i32_765
  let c8_i32_766 : BitVec 32 := 8#32
  let v1822 : BitVec 32 := Scalar.remsi v1821 c8_i32_766
  ![0, v1822.toNat]
def k0_off16 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_763 : BitVec 32 := 7#32
  let v1819 : BitVec 32 := Scalar.subi v2 c7_i32_763
  let c1_i32_764 : BitVec 32 := 1#32
  let v1820 : BitVec 32 := Scalar.subi v1819 c1_i32_764
  let c16_i32_765 : BitVec 32 := 16#32
  let v1821 : BitVec 32 := Scalar.addi v1820 c16_i32_765
  let c8_i32_766 : BitVec 32 := 8#32
  let v1822 : BitVec 32 := Scalar.remsi v1821 c8_i32_766
  let c0_i32_770 : BitVec 32 := 0#32
  let c0_i32_3922 : BitVec 32 := 0#32
  let c0_i32_3923 : BitVec 32 := 0#32
  ![v1822.toNat, 0, 0, 0]
def k0_dev16 : Nat :=
  let c0_i32_3921 : BitVec 32 := 0#32
  let c7_i32_3919 : BitVec 32 := 7#32
  let c1_i32_3920 : BitVec 32 := 1#32
  let v6644 : BitVec 32 := Scalar.muli c7_i32_3919 c1_i32_3920
  let v6645 : BitVec 32 := Scalar.addi c0_i32_3921 v6644
  v6645.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1463 : BitVec 32 := 0#32
  let v3569 : BitVec 1 := Scalar.cmpi .ne v2 c0_i32_1463
  let v3570 : BitVec 32 := Scalar.extui v3569
  let c0_i32_1470 : BitVec 32 := 0#32
  let v3571 : BitVec 1 := Scalar.cmpi .ne v3570 c0_i32_1470
  v3571

def k0_off17 (d0 : Dev nD) : Fin 2 → Nat :=
  let c1_i32_1467 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1459 : BitVec 32 := 0#32
  let v3565 : BitVec 32 := Scalar.subi v2 c0_i32_1459
  let c1_i32_1460 : BitVec 32 := 1#32
  let v3566 : BitVec 32 := Scalar.subi v3565 c1_i32_1460
  let c16_i32_1461 : BitVec 32 := 16#32
  let v3567 : BitVec 32 := Scalar.addi v3566 c16_i32_1461
  let c8_i32_1462 : BitVec 32 := 8#32
  let v3568 : BitVec 32 := Scalar.remsi v3567 c8_i32_1462
  ![1, v3568.toNat]
def k0_off18 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1459 : BitVec 32 := 0#32
  let v3565 : BitVec 32 := Scalar.subi v2 c0_i32_1459
  let c1_i32_1460 : BitVec 32 := 1#32
  let v3566 : BitVec 32 := Scalar.subi v3565 c1_i32_1460
  let c16_i32_1461 : BitVec 32 := 16#32
  let v3567 : BitVec 32 := Scalar.addi v3566 c16_i32_1461
  let c8_i32_1462 : BitVec 32 := 8#32
  let v3568 : BitVec 32 := Scalar.remsi v3567 c8_i32_1462
  let c1_i32_1466 : BitVec 32 := 1#32
  let c0_i32_3922 : BitVec 32 := 0#32
  let c0_i32_3923 : BitVec 32 := 0#32
  ![v3568.toNat, 1, 0, 0]
def k0_dev17 : Nat :=
  let c0_i32_3921 : BitVec 32 := 0#32
  let c0_i32_3919 : BitVec 32 := 0#32
  let c1_i32_3920 : BitVec 32 := 1#32
  let v6644 : BitVec 32 := Scalar.muli c0_i32_3919 c1_i32_3920
  let v6645 : BitVec 32 := Scalar.addi c0_i32_3921 v6644
  v6645.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1475 : BitVec 32 := 1#32
  let v3576 : BitVec 1 := Scalar.cmpi .ne v2 c1_i32_1475
  let v3577 : BitVec 32 := Scalar.extui v3576
  let c0_i32_1482 : BitVec 32 := 0#32
  let v3578 : BitVec 1 := Scalar.cmpi .ne v3577 c0_i32_1482
  v3578

def k0_off19 (d0 : Dev nD) : Fin 2 → Nat :=
  let c1_i32_1479 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1471 : BitVec 32 := 1#32
  let v3572 : BitVec 32 := Scalar.subi v2 c1_i32_1471
  let c1_i32_1472 : BitVec 32 := 1#32
  let v3573 : BitVec 32 := Scalar.subi v3572 c1_i32_1472
  let c16_i32_1473 : BitVec 32 := 16#32
  let v3574 : BitVec 32 := Scalar.addi v3573 c16_i32_1473
  let c8_i32_1474 : BitVec 32 := 8#32
  let v3575 : BitVec 32 := Scalar.remsi v3574 c8_i32_1474
  ![1, v3575.toNat]
def k0_off20 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1471 : BitVec 32 := 1#32
  let v3572 : BitVec 32 := Scalar.subi v2 c1_i32_1471
  let c1_i32_1472 : BitVec 32 := 1#32
  let v3573 : BitVec 32 := Scalar.subi v3572 c1_i32_1472
  let c16_i32_1473 : BitVec 32 := 16#32
  let v3574 : BitVec 32 := Scalar.addi v3573 c16_i32_1473
  let c8_i32_1474 : BitVec 32 := 8#32
  let v3575 : BitVec 32 := Scalar.remsi v3574 c8_i32_1474
  let c1_i32_1478 : BitVec 32 := 1#32
  let c0_i32_3922 : BitVec 32 := 0#32
  let c0_i32_3923 : BitVec 32 := 0#32
  ![v3575.toNat, 1, 0, 0]
def k0_dev18 : Nat :=
  let c0_i32_3921 : BitVec 32 := 0#32
  let c1_i32_3919 : BitVec 32 := 1#32
  let c1_i32_3920 : BitVec 32 := 1#32
  let v6644 : BitVec 32 := Scalar.muli c1_i32_3919 c1_i32_3920
  let v6645 : BitVec 32 := Scalar.addi c0_i32_3921 v6644
  v6645.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1487 : BitVec 32 := 2#32
  let v3583 : BitVec 1 := Scalar.cmpi .ne v2 c2_i32_1487
  let v3584 : BitVec 32 := Scalar.extui v3583
  let c0_i32_1494 : BitVec 32 := 0#32
  let v3585 : BitVec 1 := Scalar.cmpi .ne v3584 c0_i32_1494
  v3585

def k0_off21 (d0 : Dev nD) : Fin 2 → Nat :=
  let c1_i32_1491 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1483 : BitVec 32 := 2#32
  let v3579 : BitVec 32 := Scalar.subi v2 c2_i32_1483
  let c1_i32_1484 : BitVec 32 := 1#32
  let v3580 : BitVec 32 := Scalar.subi v3579 c1_i32_1484
  let c16_i32_1485 : BitVec 32 := 16#32
  let v3581 : BitVec 32 := Scalar.addi v3580 c16_i32_1485
  let c8_i32_1486 : BitVec 32 := 8#32
  let v3582 : BitVec 32 := Scalar.remsi v3581 c8_i32_1486
  ![1, v3582.toNat]
def k0_off22 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1483 : BitVec 32 := 2#32
  let v3579 : BitVec 32 := Scalar.subi v2 c2_i32_1483
  let c1_i32_1484 : BitVec 32 := 1#32
  let v3580 : BitVec 32 := Scalar.subi v3579 c1_i32_1484
  let c16_i32_1485 : BitVec 32 := 16#32
  let v3581 : BitVec 32 := Scalar.addi v3580 c16_i32_1485
  let c8_i32_1486 : BitVec 32 := 8#32
  let v3582 : BitVec 32 := Scalar.remsi v3581 c8_i32_1486
  let c1_i32_1490 : BitVec 32 := 1#32
  let c0_i32_3922 : BitVec 32 := 0#32
  let c0_i32_3923 : BitVec 32 := 0#32
  ![v3582.toNat, 1, 0, 0]
def k0_dev19 : Nat :=
  let c0_i32_3921 : BitVec 32 := 0#32
  let c2_i32_3919 : BitVec 32 := 2#32
  let c1_i32_3920 : BitVec 32 := 1#32
  let v6644 : BitVec 32 := Scalar.muli c2_i32_3919 c1_i32_3920
  let v6645 : BitVec 32 := Scalar.addi c0_i32_3921 v6644
  v6645.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1499 : BitVec 32 := 3#32
  let v3590 : BitVec 1 := Scalar.cmpi .ne v2 c3_i32_1499
  let v3591 : BitVec 32 := Scalar.extui v3590
  let c0_i32_1506 : BitVec 32 := 0#32
  let v3592 : BitVec 1 := Scalar.cmpi .ne v3591 c0_i32_1506
  v3592

def k0_off23 (d0 : Dev nD) : Fin 2 → Nat :=
  let c1_i32_1503 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1495 : BitVec 32 := 3#32
  let v3586 : BitVec 32 := Scalar.subi v2 c3_i32_1495
  let c1_i32_1496 : BitVec 32 := 1#32
  let v3587 : BitVec 32 := Scalar.subi v3586 c1_i32_1496
  let c16_i32_1497 : BitVec 32 := 16#32
  let v3588 : BitVec 32 := Scalar.addi v3587 c16_i32_1497
  let c8_i32_1498 : BitVec 32 := 8#32
  let v3589 : BitVec 32 := Scalar.remsi v3588 c8_i32_1498
  ![1, v3589.toNat]
def k0_off24 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1495 : BitVec 32 := 3#32
  let v3586 : BitVec 32 := Scalar.subi v2 c3_i32_1495
  let c1_i32_1496 : BitVec 32 := 1#32
  let v3587 : BitVec 32 := Scalar.subi v3586 c1_i32_1496
  let c16_i32_1497 : BitVec 32 := 16#32
  let v3588 : BitVec 32 := Scalar.addi v3587 c16_i32_1497
  let c8_i32_1498 : BitVec 32 := 8#32
  let v3589 : BitVec 32 := Scalar.remsi v3588 c8_i32_1498
  let c1_i32_1502 : BitVec 32 := 1#32
  let c0_i32_3922 : BitVec 32 := 0#32
  let c0_i32_3923 : BitVec 32 := 0#32
  ![v3589.toNat, 1, 0, 0]
def k0_dev20 : Nat :=
  let c0_i32_3921 : BitVec 32 := 0#32
  let c3_i32_3919 : BitVec 32 := 3#32
  let c1_i32_3920 : BitVec 32 := 1#32
  let v6644 : BitVec 32 := Scalar.muli c3_i32_3919 c1_i32_3920
  let v6645 : BitVec 32 := Scalar.addi c0_i32_3921 v6644
  v6645.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1511 : BitVec 32 := 4#32
  let v3597 : BitVec 1 := Scalar.cmpi .ne v2 c4_i32_1511
  let v3598 : BitVec 32 := Scalar.extui v3597
  let c0_i32_1518 : BitVec 32 := 0#32
  let v3599 : BitVec 1 := Scalar.cmpi .ne v3598 c0_i32_1518
  v3599

def k0_off25 (d0 : Dev nD) : Fin 2 → Nat :=
  let c1_i32_1515 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1507 : BitVec 32 := 4#32
  let v3593 : BitVec 32 := Scalar.subi v2 c4_i32_1507
  let c1_i32_1508 : BitVec 32 := 1#32
  let v3594 : BitVec 32 := Scalar.subi v3593 c1_i32_1508
  let c16_i32_1509 : BitVec 32 := 16#32
  let v3595 : BitVec 32 := Scalar.addi v3594 c16_i32_1509
  let c8_i32_1510 : BitVec 32 := 8#32
  let v3596 : BitVec 32 := Scalar.remsi v3595 c8_i32_1510
  ![1, v3596.toNat]
def k0_off26 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1507 : BitVec 32 := 4#32
  let v3593 : BitVec 32 := Scalar.subi v2 c4_i32_1507
  let c1_i32_1508 : BitVec 32 := 1#32
  let v3594 : BitVec 32 := Scalar.subi v3593 c1_i32_1508
  let c16_i32_1509 : BitVec 32 := 16#32
  let v3595 : BitVec 32 := Scalar.addi v3594 c16_i32_1509
  let c8_i32_1510 : BitVec 32 := 8#32
  let v3596 : BitVec 32 := Scalar.remsi v3595 c8_i32_1510
  let c1_i32_1514 : BitVec 32 := 1#32
  let c0_i32_3922 : BitVec 32 := 0#32
  let c0_i32_3923 : BitVec 32 := 0#32
  ![v3596.toNat, 1, 0, 0]
def k0_dev21 : Nat :=
  let c0_i32_3921 : BitVec 32 := 0#32
  let c4_i32_3919 : BitVec 32 := 4#32
  let c1_i32_3920 : BitVec 32 := 1#32
  let v6644 : BitVec 32 := Scalar.muli c4_i32_3919 c1_i32_3920
  let v6645 : BitVec 32 := Scalar.addi c0_i32_3921 v6644
  v6645.toNat
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1523 : BitVec 32 := 5#32
  let v3604 : BitVec 1 := Scalar.cmpi .ne v2 c5_i32_1523
  let v3605 : BitVec 32 := Scalar.extui v3604
  let c0_i32_1530 : BitVec 32 := 0#32
  let v3606 : BitVec 1 := Scalar.cmpi .ne v3605 c0_i32_1530
  v3606

def k0_off27 (d0 : Dev nD) : Fin 2 → Nat :=
  let c1_i32_1527 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1519 : BitVec 32 := 5#32
  let v3600 : BitVec 32 := Scalar.subi v2 c5_i32_1519
  let c1_i32_1520 : BitVec 32 := 1#32
  let v3601 : BitVec 32 := Scalar.subi v3600 c1_i32_1520
  let c16_i32_1521 : BitVec 32 := 16#32
  let v3602 : BitVec 32 := Scalar.addi v3601 c16_i32_1521
  let c8_i32_1522 : BitVec 32 := 8#32
  let v3603 : BitVec 32 := Scalar.remsi v3602 c8_i32_1522
  ![1, v3603.toNat]
def k0_off28 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1519 : BitVec 32 := 5#32
  let v3600 : BitVec 32 := Scalar.subi v2 c5_i32_1519
  let c1_i32_1520 : BitVec 32 := 1#32
  let v3601 : BitVec 32 := Scalar.subi v3600 c1_i32_1520
  let c16_i32_1521 : BitVec 32 := 16#32
  let v3602 : BitVec 32 := Scalar.addi v3601 c16_i32_1521
  let c8_i32_1522 : BitVec 32 := 8#32
  let v3603 : BitVec 32 := Scalar.remsi v3602 c8_i32_1522
  let c1_i32_1526 : BitVec 32 := 1#32
  let c0_i32_3922 : BitVec 32 := 0#32
  let c0_i32_3923 : BitVec 32 := 0#32
  ![v3603.toNat, 1, 0, 0]
def k0_dev22 : Nat :=
  let c0_i32_3921 : BitVec 32 := 0#32
  let c5_i32_3919 : BitVec 32 := 5#32
  let c1_i32_3920 : BitVec 32 := 1#32
  let v6644 : BitVec 32 := Scalar.muli c5_i32_3919 c1_i32_3920
  let v6645 : BitVec 32 := Scalar.addi c0_i32_3921 v6644
  v6645.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1535 : BitVec 32 := 6#32
  let v3611 : BitVec 1 := Scalar.cmpi .ne v2 c6_i32_1535
  let v3612 : BitVec 32 := Scalar.extui v3611
  let c0_i32_1542 : BitVec 32 := 0#32
  let v3613 : BitVec 1 := Scalar.cmpi .ne v3612 c0_i32_1542
  v3613

def k0_off29 (d0 : Dev nD) : Fin 2 → Nat :=
  let c1_i32_1539 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1531 : BitVec 32 := 6#32
  let v3607 : BitVec 32 := Scalar.subi v2 c6_i32_1531
  let c1_i32_1532 : BitVec 32 := 1#32
  let v3608 : BitVec 32 := Scalar.subi v3607 c1_i32_1532
  let c16_i32_1533 : BitVec 32 := 16#32
  let v3609 : BitVec 32 := Scalar.addi v3608 c16_i32_1533
  let c8_i32_1534 : BitVec 32 := 8#32
  let v3610 : BitVec 32 := Scalar.remsi v3609 c8_i32_1534
  ![1, v3610.toNat]
def k0_off30 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1531 : BitVec 32 := 6#32
  let v3607 : BitVec 32 := Scalar.subi v2 c6_i32_1531
  let c1_i32_1532 : BitVec 32 := 1#32
  let v3608 : BitVec 32 := Scalar.subi v3607 c1_i32_1532
  let c16_i32_1533 : BitVec 32 := 16#32
  let v3609 : BitVec 32 := Scalar.addi v3608 c16_i32_1533
  let c8_i32_1534 : BitVec 32 := 8#32
  let v3610 : BitVec 32 := Scalar.remsi v3609 c8_i32_1534
  let c1_i32_1538 : BitVec 32 := 1#32
  let c0_i32_3922 : BitVec 32 := 0#32
  let c0_i32_3923 : BitVec 32 := 0#32
  ![v3610.toNat, 1, 0, 0]
def k0_dev23 : Nat :=
  let c0_i32_3921 : BitVec 32 := 0#32
  let c6_i32_3919 : BitVec 32 := 6#32
  let c1_i32_3920 : BitVec 32 := 1#32
  let v6644 : BitVec 32 := Scalar.muli c6_i32_3919 c1_i32_3920
  let v6645 : BitVec 32 := Scalar.addi c0_i32_3921 v6644
  v6645.toNat
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1547 : BitVec 32 := 7#32
  let v3618 : BitVec 1 := Scalar.cmpi .ne v2 c7_i32_1547
  let v3619 : BitVec 32 := Scalar.extui v3618
  let c0_i32_1554 : BitVec 32 := 0#32
  let v3620 : BitVec 1 := Scalar.cmpi .ne v3619 c0_i32_1554
  v3620

def k0_off31 (d0 : Dev nD) : Fin 2 → Nat :=
  let c1_i32_1551 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1543 : BitVec 32 := 7#32
  let v3614 : BitVec 32 := Scalar.subi v2 c7_i32_1543
  let c1_i32_1544 : BitVec 32 := 1#32
  let v3615 : BitVec 32 := Scalar.subi v3614 c1_i32_1544
  let c16_i32_1545 : BitVec 32 := 16#32
  let v3616 : BitVec 32 := Scalar.addi v3615 c16_i32_1545
  let c8_i32_1546 : BitVec 32 := 8#32
  let v3617 : BitVec 32 := Scalar.remsi v3616 c8_i32_1546
  ![1, v3617.toNat]
def k0_off32 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1543 : BitVec 32 := 7#32
  let v3614 : BitVec 32 := Scalar.subi v2 c7_i32_1543
  let c1_i32_1544 : BitVec 32 := 1#32
  let v3615 : BitVec 32 := Scalar.subi v3614 c1_i32_1544
  let c16_i32_1545 : BitVec 32 := 16#32
  let v3616 : BitVec 32 := Scalar.addi v3615 c16_i32_1545
  let c8_i32_1546 : BitVec 32 := 8#32
  let v3617 : BitVec 32 := Scalar.remsi v3616 c8_i32_1546
  let c1_i32_1550 : BitVec 32 := 1#32
  let c0_i32_3922 : BitVec 32 := 0#32
  let c0_i32_3923 : BitVec 32 := 0#32
  ![v3617.toNat, 1, 0, 0]
def k0_dev24 : Nat :=
  let c0_i32_3921 : BitVec 32 := 0#32
  let c7_i32_3919 : BitVec 32 := 7#32
  let c1_i32_3920 : BitVec 32 := 1#32
  let v6644 : BitVec 32 := Scalar.muli c7_i32_3919 c1_i32_3920
  let v6645 : BitVec 32 := Scalar.addi c0_i32_3921 v6644
  v6645.toNat
def k0_off33 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3624 : Index := Scalar.indexCast v2
  let c0_1557 : Index := 0#32
  let c0_1558 : Index := 0#32
  let c0_1559 : Index := 0#32
  ![v3624.toNat, 0, 0, 0]
def k0_off34 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3631 : Index := Scalar.indexCast v2
  let c0_1563 : Index := 0#32
  let c64_1564 : Index := 64#32
  let c0_1565 : Index := 0#32
  ![v3631.toNat, 0, 64, 0]
def k0_off35 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3635 : Index := Scalar.indexCast v2
  let c0_1566 : Index := 0#32
  let c65 : Index := 65#32
  let c0_1567 : Index := 0#32
  ![v3635.toNat, 0, 65, 0]
def k0_off36 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4754 : Index := Scalar.indexCast v2
  let c0_2286 : Index := 0#32
  let c0_2287 : Index := 0#32
  let c0_2288 : Index := 0#32
  ![v4754.toNat, 0, 0, 0]
def k0_off37 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4765 : Index := Scalar.indexCast v2
  let c0_2292 : Index := 0#32
  let c0_2293 : Index := 0#32
  let c64_2294 : Index := 64#32
  ![v4765.toNat, 0, 0, 64]
def k0_off38 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4776 : Index := Scalar.indexCast v2
  let c0_2298 : Index := 0#32
  let c0_2299 : Index := 0#32
  let c128_2300 : Index := 128#32
  ![v4776.toNat, 0, 0, 128]
def k0_off39 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4787 : Index := Scalar.indexCast v2
  let c0_2304 : Index := 0#32
  let c0_2305 : Index := 0#32
  let c192_2306 : Index := 192#32
  ![v4787.toNat, 0, 0, 192]
def k0_off40 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4798 : Index := Scalar.indexCast v2
  let c0_2310 : Index := 0#32
  let c0_2311 : Index := 0#32
  let c256_2312 : Index := 256#32
  ![v4798.toNat, 0, 0, 256]
def k0_off41 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4809 : Index := Scalar.indexCast v2
  let c0_2316 : Index := 0#32
  let c0_2317 : Index := 0#32
  let c320_2318 : Index := 320#32
  ![v4809.toNat, 0, 0, 320]
def k0_off42 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4820 : Index := Scalar.indexCast v2
  let c0_2322 : Index := 0#32
  let c0_2323 : Index := 0#32
  let c384_2324 : Index := 384#32
  ![v4820.toNat, 0, 0, 384]
def k0_off43 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4831 : Index := Scalar.indexCast v2
  let c0_2328 : Index := 0#32
  let c0_2329 : Index := 0#32
  let c448_2330 : Index := 448#32
  ![v4831.toNat, 0, 0, 448]
def k0_off44 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2334 : BitVec 32 := 0#32
  let c0_i32_2341 : BitVec 32 := 0#32
  let c0_i32_2342 : BitVec 32 := 0#32
  ![v2.toNat, 0, 0, 0]
def k0_dev25 (d0 : Dev nD) : Nat :=
  let c0_i32_2340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2331 : BitVec 32 := 1#32
  let v4835 : BitVec 32 := Scalar.addi v2 c1_i32_2331
  let c8_i32_2332 : BitVec 32 := 8#32
  let v4836 : BitVec 32 := Scalar.remsi v4835 c8_i32_2332
  let c1_i32_2339 : BitVec 32 := 1#32
  let v4837 : BitVec 32 := Scalar.muli v4836 c1_i32_2339
  let v4838 : BitVec 32 := Scalar.addi c0_i32_2340 v4837
  v4838.toNat
def k0_dev26 (d0 : Dev nD) : Nat :=
  let c0_i32_2354 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2345 : BitVec 32 := 2#32
  let v4847 : BitVec 32 := Scalar.addi v2 c2_i32_2345
  let c8_i32_2346 : BitVec 32 := 8#32
  let v4848 : BitVec 32 := Scalar.remsi v4847 c8_i32_2346
  let c1_i32_2353 : BitVec 32 := 1#32
  let v4849 : BitVec 32 := Scalar.muli v4848 c1_i32_2353
  let v4850 : BitVec 32 := Scalar.addi c0_i32_2354 v4849
  v4850.toNat
def k0_dev27 (d0 : Dev nD) : Nat :=
  let c0_i32_2368 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2359 : BitVec 32 := 3#32
  let v4859 : BitVec 32 := Scalar.addi v2 c3_i32_2359
  let c8_i32_2360 : BitVec 32 := 8#32
  let v4860 : BitVec 32 := Scalar.remsi v4859 c8_i32_2360
  let c1_i32_2367 : BitVec 32 := 1#32
  let v4861 : BitVec 32 := Scalar.muli v4860 c1_i32_2367
  let v4862 : BitVec 32 := Scalar.addi c0_i32_2368 v4861
  v4862.toNat
def k0_dev28 (d0 : Dev nD) : Nat :=
  let c0_i32_2382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2373 : BitVec 32 := 4#32
  let v4871 : BitVec 32 := Scalar.addi v2 c4_i32_2373
  let c8_i32_2374 : BitVec 32 := 8#32
  let v4872 : BitVec 32 := Scalar.remsi v4871 c8_i32_2374
  let c1_i32_2381 : BitVec 32 := 1#32
  let v4873 : BitVec 32 := Scalar.muli v4872 c1_i32_2381
  let v4874 : BitVec 32 := Scalar.addi c0_i32_2382 v4873
  v4874.toNat
def k0_dev29 (d0 : Dev nD) : Nat :=
  let c0_i32_2396 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2387 : BitVec 32 := 5#32
  let v4883 : BitVec 32 := Scalar.addi v2 c5_i32_2387
  let c8_i32_2388 : BitVec 32 := 8#32
  let v4884 : BitVec 32 := Scalar.remsi v4883 c8_i32_2388
  let c1_i32_2395 : BitVec 32 := 1#32
  let v4885 : BitVec 32 := Scalar.muli v4884 c1_i32_2395
  let v4886 : BitVec 32 := Scalar.addi c0_i32_2396 v4885
  v4886.toNat
def k0_dev30 (d0 : Dev nD) : Nat :=
  let c0_i32_2410 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2401 : BitVec 32 := 6#32
  let v4895 : BitVec 32 := Scalar.addi v2 c6_i32_2401
  let c8_i32_2402 : BitVec 32 := 8#32
  let v4896 : BitVec 32 := Scalar.remsi v4895 c8_i32_2402
  let c1_i32_2409 : BitVec 32 := 1#32
  let v4897 : BitVec 32 := Scalar.muli v4896 c1_i32_2409
  let v4898 : BitVec 32 := Scalar.addi c0_i32_2410 v4897
  v4898.toNat
def k0_dev31 (d0 : Dev nD) : Nat :=
  let c0_i32_2424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2415 : BitVec 32 := 7#32
  let v4907 : BitVec 32 := Scalar.addi v2 c7_i32_2415
  let c8_i32_2416 : BitVec 32 := 8#32
  let v4908 : BitVec 32 := Scalar.remsi v4907 c8_i32_2416
  let c1_i32_2423 : BitVec 32 := 1#32
  let v4909 : BitVec 32 := Scalar.muli v4908 c1_i32_2423
  let v4910 : BitVec 32 := Scalar.addi c0_i32_2424 v4909
  v4910.toNat
def k0_off45 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4919 : Index := Scalar.indexCast v2
  let c0_2429 : Index := 0#32
  let c0_2430 : Index := 0#32
  let c0_2431 : Index := 0#32
  ![v4919.toNat, 0, 0, 0]
def k0_off46 (d0 : Dev nD) : Fin 3 → Nat :=
  let c0_2433 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v4923 : BitVec 32 := Scalar.muli v2 c64_i32
  let v4924 : Index := Scalar.indexCast v4923
  let c0_2434 : Index := 0#32
  ![0, v4924.toNat, 0]
def k0_off47 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4928 : Index := Scalar.indexCast v2
  let c1_2435 : Index := 1#32
  let c0_2436 : Index := 0#32
  let c0_2437 : Index := 0#32
  ![v4928.toNat, 1, 0, 0]
def k0_off48 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4935 : Index := Scalar.indexCast v2
  let c1_2441 : Index := 1#32
  let c64_2442 : Index := 64#32
  let c0_2443 : Index := 0#32
  ![v4935.toNat, 1, 64, 0]
def k0_off49 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4939 : Index := Scalar.indexCast v2
  let c1_2444 : Index := 1#32
  let c65_2445 : Index := 65#32
  let c0_2446 : Index := 0#32
  ![v4939.toNat, 1, 65, 0]
def k0_off50 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6058 : Index := Scalar.indexCast v2
  let c1_3165 : Index := 1#32
  let c0_3166 : Index := 0#32
  let c0_3167 : Index := 0#32
  ![v6058.toNat, 1, 0, 0]
def k0_off51 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6069 : Index := Scalar.indexCast v2
  let c1_3171 : Index := 1#32
  let c0_3172 : Index := 0#32
  let c64_3173 : Index := 64#32
  ![v6069.toNat, 1, 0, 64]
def k0_off52 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6080 : Index := Scalar.indexCast v2
  let c1_3177 : Index := 1#32
  let c0_3178 : Index := 0#32
  let c128_3179 : Index := 128#32
  ![v6080.toNat, 1, 0, 128]
def k0_off53 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6091 : Index := Scalar.indexCast v2
  let c1_3183 : Index := 1#32
  let c0_3184 : Index := 0#32
  let c192_3185 : Index := 192#32
  ![v6091.toNat, 1, 0, 192]
def k0_off54 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6102 : Index := Scalar.indexCast v2
  let c1_3189 : Index := 1#32
  let c0_3190 : Index := 0#32
  let c256_3191 : Index := 256#32
  ![v6102.toNat, 1, 0, 256]
def k0_off55 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6113 : Index := Scalar.indexCast v2
  let c1_3195 : Index := 1#32
  let c0_3196 : Index := 0#32
  let c320_3197 : Index := 320#32
  ![v6113.toNat, 1, 0, 320]
def k0_off56 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6124 : Index := Scalar.indexCast v2
  let c1_3201 : Index := 1#32
  let c0_3202 : Index := 0#32
  let c384_3203 : Index := 384#32
  ![v6124.toNat, 1, 0, 384]
def k0_off57 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6135 : Index := Scalar.indexCast v2
  let c1_3207 : Index := 1#32
  let c0_3208 : Index := 0#32
  let c448_3209 : Index := 448#32
  ![v6135.toNat, 1, 0, 448]
def k0_off58 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3213 : BitVec 32 := 1#32
  let c0_i32_3220 : BitVec 32 := 0#32
  let c0_i32_3221 : BitVec 32 := 0#32
  ![v2.toNat, 1, 0, 0]
def k0_dev32 (d0 : Dev nD) : Nat :=
  let c0_i32_3219 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3210 : BitVec 32 := 1#32
  let v6139 : BitVec 32 := Scalar.addi v2 c1_i32_3210
  let c8_i32_3211 : BitVec 32 := 8#32
  let v6140 : BitVec 32 := Scalar.remsi v6139 c8_i32_3211
  let c1_i32_3218 : BitVec 32 := 1#32
  let v6141 : BitVec 32 := Scalar.muli v6140 c1_i32_3218
  let v6142 : BitVec 32 := Scalar.addi c0_i32_3219 v6141
  v6142.toNat
def k0_dev33 (d0 : Dev nD) : Nat :=
  let c0_i32_3233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_3224 : BitVec 32 := 2#32
  let v6151 : BitVec 32 := Scalar.addi v2 c2_i32_3224
  let c8_i32_3225 : BitVec 32 := 8#32
  let v6152 : BitVec 32 := Scalar.remsi v6151 c8_i32_3225
  let c1_i32_3232 : BitVec 32 := 1#32
  let v6153 : BitVec 32 := Scalar.muli v6152 c1_i32_3232
  let v6154 : BitVec 32 := Scalar.addi c0_i32_3233 v6153
  v6154.toNat
def k0_dev34 (d0 : Dev nD) : Nat :=
  let c0_i32_3247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_3238 : BitVec 32 := 3#32
  let v6163 : BitVec 32 := Scalar.addi v2 c3_i32_3238
  let c8_i32_3239 : BitVec 32 := 8#32
  let v6164 : BitVec 32 := Scalar.remsi v6163 c8_i32_3239
  let c1_i32_3246 : BitVec 32 := 1#32
  let v6165 : BitVec 32 := Scalar.muli v6164 c1_i32_3246
  let v6166 : BitVec 32 := Scalar.addi c0_i32_3247 v6165
  v6166.toNat
def k0_dev35 (d0 : Dev nD) : Nat :=
  let c0_i32_3261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3252 : BitVec 32 := 4#32
  let v6175 : BitVec 32 := Scalar.addi v2 c4_i32_3252
  let c8_i32_3253 : BitVec 32 := 8#32
  let v6176 : BitVec 32 := Scalar.remsi v6175 c8_i32_3253
  let c1_i32_3260 : BitVec 32 := 1#32
  let v6177 : BitVec 32 := Scalar.muli v6176 c1_i32_3260
  let v6178 : BitVec 32 := Scalar.addi c0_i32_3261 v6177
  v6178.toNat
def k0_dev36 (d0 : Dev nD) : Nat :=
  let c0_i32_3275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_3266 : BitVec 32 := 5#32
  let v6187 : BitVec 32 := Scalar.addi v2 c5_i32_3266
  let c8_i32_3267 : BitVec 32 := 8#32
  let v6188 : BitVec 32 := Scalar.remsi v6187 c8_i32_3267
  let c1_i32_3274 : BitVec 32 := 1#32
  let v6189 : BitVec 32 := Scalar.muli v6188 c1_i32_3274
  let v6190 : BitVec 32 := Scalar.addi c0_i32_3275 v6189
  v6190.toNat
def k0_dev37 (d0 : Dev nD) : Nat :=
  let c0_i32_3289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3280 : BitVec 32 := 6#32
  let v6199 : BitVec 32 := Scalar.addi v2 c6_i32_3280
  let c8_i32_3281 : BitVec 32 := 8#32
  let v6200 : BitVec 32 := Scalar.remsi v6199 c8_i32_3281
  let c1_i32_3288 : BitVec 32 := 1#32
  let v6201 : BitVec 32 := Scalar.muli v6200 c1_i32_3288
  let v6202 : BitVec 32 := Scalar.addi c0_i32_3289 v6201
  v6202.toNat
def k0_dev38 (d0 : Dev nD) : Nat :=
  let c0_i32_3303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_3294 : BitVec 32 := 7#32
  let v6211 : BitVec 32 := Scalar.addi v2 c7_i32_3294
  let c8_i32_3295 : BitVec 32 := 8#32
  let v6212 : BitVec 32 := Scalar.remsi v6211 c8_i32_3295
  let c1_i32_3302 : BitVec 32 := 1#32
  let v6213 : BitVec 32 := Scalar.muli v6212 c1_i32_3302
  let v6214 : BitVec 32 := Scalar.addi c0_i32_3303 v6213
  v6214.toNat
def k0_off59 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6223 : Index := Scalar.indexCast v2
  let c1_3308 : Index := 1#32
  let c0_3309 : Index := 0#32
  let c0_3310 : Index := 0#32
  ![v6223.toNat, 1, 0, 0]
def k0_off60 (d0 : Dev nD) : Fin 3 → Nat :=
  let c1_3313 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_3312 : BitVec 32 := 64#32
  let v6227 : BitVec 32 := Scalar.muli v2 c64_i32_3312
  let v6228 : Index := Scalar.indexCast v6227
  let c0_3314 : Index := 0#32
  ![1, v6228.toNat, 0]
def k0_off61 (d0 : Dev nD) (c0_i32_3328 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6240 : BitVec 32 := Scalar.addi v2 c0_i32_3328
  let c1_i32_3329 : BitVec 32 := 1#32
  let v6241 : BitVec 32 := Scalar.addi v6240 c1_i32_3329
  let c8_i32_3330 : BitVec 32 := 8#32
  let v6242 : BitVec 32 := Scalar.remsi v6241 c8_i32_3330
  let v6243 : Index := Scalar.indexCast v6242
  let c0_3331 : Index := 0#32
  let c0_3332 : Index := 0#32
  let c0_3333 : Index := 0#32
  ![v6243.toNat, 0, 0, 0]
def k0_off62 (d0 : Dev nD) (c0_i32_3328 : BitVec 32) : Fin 3 → Nat :=
  let c0_3336 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6240 : BitVec 32 := Scalar.addi v2 c0_i32_3328
  let c1_i32_3329 : BitVec 32 := 1#32
  let v6241 : BitVec 32 := Scalar.addi v6240 c1_i32_3329
  let c8_i32_3330 : BitVec 32 := 8#32
  let v6242 : BitVec 32 := Scalar.remsi v6241 c8_i32_3330
  let c64_i32_3335 : BitVec 32 := 64#32
  let v6247 : BitVec 32 := Scalar.muli v6242 c64_i32_3335
  let v6248 : Index := Scalar.indexCast v6247
  let c0_3337 : Index := 0#32
  ![0, v6248.toNat, 0]
def k0_off63 (d0 : Dev nD) (c0_i32_3489 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6380 : BitVec 32 := Scalar.addi v2 c0_i32_3489
  let c1_i32_3490 : BitVec 32 := 1#32
  let v6381 : BitVec 32 := Scalar.addi v6380 c1_i32_3490
  let c8_i32_3491 : BitVec 32 := 8#32
  let v6382 : BitVec 32 := Scalar.remsi v6381 c8_i32_3491
  let v6383 : Index := Scalar.indexCast v6382
  let c1_3492 : Index := 1#32
  let c0_3493 : Index := 0#32
  let c0_3494 : Index := 0#32
  ![v6383.toNat, 1, 0, 0]
def k0_off64 (d0 : Dev nD) (c0_i32_3489 : BitVec 32) : Fin 3 → Nat :=
  let c1_3497 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6380 : BitVec 32 := Scalar.addi v2 c0_i32_3489
  let c1_i32_3490 : BitVec 32 := 1#32
  let v6381 : BitVec 32 := Scalar.addi v6380 c1_i32_3490
  let c8_i32_3491 : BitVec 32 := 8#32
  let v6382 : BitVec 32 := Scalar.remsi v6381 c8_i32_3491
  let c64_i32_3496 : BitVec 32 := 64#32
  let v6387 : BitVec 32 := Scalar.muli v6382 c64_i32_3496
  let v6388 : Index := Scalar.indexCast v6387
  let c0_3498 : Index := 0#32
  ![1, v6388.toNat, 0]
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_3637 : BitVec 32 := 0#32
  let v6512 : BitVec 1 := Scalar.cmpi .ne v2 c0_i32_3637
  let v6513 : BitVec 32 := Scalar.extui v6512
  let c0_i32_3644 : BitVec 32 := 0#32
  let v6514 : BitVec 1 := Scalar.cmpi .ne v6513 c0_i32_3644
  v6514

def k0_off65 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_680 : BitVec 32 := 0#32
  let v1770 : BitVec 32 := Scalar.subi v2 c0_i32_680
  let c1_i32_681 : BitVec 32 := 1#32
  let v1771 : BitVec 32 := Scalar.subi v1770 c1_i32_681
  let c16_i32 : BitVec 32 := 16#32
  let v1772 : BitVec 32 := Scalar.addi v1771 c16_i32
  let c8_i32_682 : BitVec 32 := 8#32
  let v1773 : BitVec 32 := Scalar.remsi v1772 c8_i32_682
  let c0_i32_3638 : BitVec 32 := 0#32
  let c0_i32_3923 : BitVec 32 := 0#32
  let c0_i32_3924 : BitVec 32 := 0#32
  ![v1773.toNat, 0, 0, 0]
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3645 : BitVec 32 := 1#32
  let v6515 : BitVec 1 := Scalar.cmpi .ne v2 c1_i32_3645
  let v6516 : BitVec 32 := Scalar.extui v6515
  let c0_i32_3652 : BitVec 32 := 0#32
  let v6517 : BitVec 1 := Scalar.cmpi .ne v6516 c0_i32_3652
  v6517

def k0_off66 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_691 : BitVec 32 := 1#32
  let v1777 : BitVec 32 := Scalar.subi v2 c1_i32_691
  let c1_i32_692 : BitVec 32 := 1#32
  let v1778 : BitVec 32 := Scalar.subi v1777 c1_i32_692
  let c16_i32_693 : BitVec 32 := 16#32
  let v1779 : BitVec 32 := Scalar.addi v1778 c16_i32_693
  let c8_i32_694 : BitVec 32 := 8#32
  let v1780 : BitVec 32 := Scalar.remsi v1779 c8_i32_694
  let c0_i32_3646 : BitVec 32 := 0#32
  let c0_i32_3923 : BitVec 32 := 0#32
  let c0_i32_3924 : BitVec 32 := 0#32
  ![v1780.toNat, 0, 0, 0]
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_3653 : BitVec 32 := 2#32
  let v6518 : BitVec 1 := Scalar.cmpi .ne v2 c2_i32_3653
  let v6519 : BitVec 32 := Scalar.extui v6518
  let c0_i32_3660 : BitVec 32 := 0#32
  let v6520 : BitVec 1 := Scalar.cmpi .ne v6519 c0_i32_3660
  v6520

def k0_off67 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_703 : BitVec 32 := 2#32
  let v1784 : BitVec 32 := Scalar.subi v2 c2_i32_703
  let c1_i32_704 : BitVec 32 := 1#32
  let v1785 : BitVec 32 := Scalar.subi v1784 c1_i32_704
  let c16_i32_705 : BitVec 32 := 16#32
  let v1786 : BitVec 32 := Scalar.addi v1785 c16_i32_705
  let c8_i32_706 : BitVec 32 := 8#32
  let v1787 : BitVec 32 := Scalar.remsi v1786 c8_i32_706
  let c0_i32_3654 : BitVec 32 := 0#32
  let c0_i32_3923 : BitVec 32 := 0#32
  let c0_i32_3924 : BitVec 32 := 0#32
  ![v1787.toNat, 0, 0, 0]
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_3661 : BitVec 32 := 3#32
  let v6521 : BitVec 1 := Scalar.cmpi .ne v2 c3_i32_3661
  let v6522 : BitVec 32 := Scalar.extui v6521
  let c0_i32_3668 : BitVec 32 := 0#32
  let v6523 : BitVec 1 := Scalar.cmpi .ne v6522 c0_i32_3668
  v6523

def k0_off68 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_715 : BitVec 32 := 3#32
  let v1791 : BitVec 32 := Scalar.subi v2 c3_i32_715
  let c1_i32_716 : BitVec 32 := 1#32
  let v1792 : BitVec 32 := Scalar.subi v1791 c1_i32_716
  let c16_i32_717 : BitVec 32 := 16#32
  let v1793 : BitVec 32 := Scalar.addi v1792 c16_i32_717
  let c8_i32_718 : BitVec 32 := 8#32
  let v1794 : BitVec 32 := Scalar.remsi v1793 c8_i32_718
  let c0_i32_3662 : BitVec 32 := 0#32
  let c0_i32_3923 : BitVec 32 := 0#32
  let c0_i32_3924 : BitVec 32 := 0#32
  ![v1794.toNat, 0, 0, 0]
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3669 : BitVec 32 := 4#32
  let v6524 : BitVec 1 := Scalar.cmpi .ne v2 c4_i32_3669
  let v6525 : BitVec 32 := Scalar.extui v6524
  let c0_i32_3676 : BitVec 32 := 0#32
  let v6526 : BitVec 1 := Scalar.cmpi .ne v6525 c0_i32_3676
  v6526

def k0_off69 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_727 : BitVec 32 := 4#32
  let v1798 : BitVec 32 := Scalar.subi v2 c4_i32_727
  let c1_i32_728 : BitVec 32 := 1#32
  let v1799 : BitVec 32 := Scalar.subi v1798 c1_i32_728
  let c16_i32_729 : BitVec 32 := 16#32
  let v1800 : BitVec 32 := Scalar.addi v1799 c16_i32_729
  let c8_i32_730 : BitVec 32 := 8#32
  let v1801 : BitVec 32 := Scalar.remsi v1800 c8_i32_730
  let c0_i32_3670 : BitVec 32 := 0#32
  let c0_i32_3923 : BitVec 32 := 0#32
  let c0_i32_3924 : BitVec 32 := 0#32
  ![v1801.toNat, 0, 0, 0]
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_3677 : BitVec 32 := 5#32
  let v6527 : BitVec 1 := Scalar.cmpi .ne v2 c5_i32_3677
  let v6528 : BitVec 32 := Scalar.extui v6527
  let c0_i32_3684 : BitVec 32 := 0#32
  let v6529 : BitVec 1 := Scalar.cmpi .ne v6528 c0_i32_3684
  v6529

def k0_off70 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_739 : BitVec 32 := 5#32
  let v1805 : BitVec 32 := Scalar.subi v2 c5_i32_739
  let c1_i32_740 : BitVec 32 := 1#32
  let v1806 : BitVec 32 := Scalar.subi v1805 c1_i32_740
  let c16_i32_741 : BitVec 32 := 16#32
  let v1807 : BitVec 32 := Scalar.addi v1806 c16_i32_741
  let c8_i32_742 : BitVec 32 := 8#32
  let v1808 : BitVec 32 := Scalar.remsi v1807 c8_i32_742
  let c0_i32_3678 : BitVec 32 := 0#32
  let c0_i32_3923 : BitVec 32 := 0#32
  let c0_i32_3924 : BitVec 32 := 0#32
  ![v1808.toNat, 0, 0, 0]
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3685 : BitVec 32 := 6#32
  let v6530 : BitVec 1 := Scalar.cmpi .ne v2 c6_i32_3685
  let v6531 : BitVec 32 := Scalar.extui v6530
  let c0_i32_3692 : BitVec 32 := 0#32
  let v6532 : BitVec 1 := Scalar.cmpi .ne v6531 c0_i32_3692
  v6532

def k0_off71 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_751 : BitVec 32 := 6#32
  let v1812 : BitVec 32 := Scalar.subi v2 c6_i32_751
  let c1_i32_752 : BitVec 32 := 1#32
  let v1813 : BitVec 32 := Scalar.subi v1812 c1_i32_752
  let c16_i32_753 : BitVec 32 := 16#32
  let v1814 : BitVec 32 := Scalar.addi v1813 c16_i32_753
  let c8_i32_754 : BitVec 32 := 8#32
  let v1815 : BitVec 32 := Scalar.remsi v1814 c8_i32_754
  let c0_i32_3686 : BitVec 32 := 0#32
  let c0_i32_3923 : BitVec 32 := 0#32
  let c0_i32_3924 : BitVec 32 := 0#32
  ![v1815.toNat, 0, 0, 0]
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_3693 : BitVec 32 := 7#32
  let v6533 : BitVec 1 := Scalar.cmpi .ne v2 c7_i32_3693
  let v6534 : BitVec 32 := Scalar.extui v6533
  let c0_i32_3700 : BitVec 32 := 0#32
  let v6535 : BitVec 1 := Scalar.cmpi .ne v6534 c0_i32_3700
  v6535

def k0_off72 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_763 : BitVec 32 := 7#32
  let v1819 : BitVec 32 := Scalar.subi v2 c7_i32_763
  let c1_i32_764 : BitVec 32 := 1#32
  let v1820 : BitVec 32 := Scalar.subi v1819 c1_i32_764
  let c16_i32_765 : BitVec 32 := 16#32
  let v1821 : BitVec 32 := Scalar.addi v1820 c16_i32_765
  let c8_i32_766 : BitVec 32 := 8#32
  let v1822 : BitVec 32 := Scalar.remsi v1821 c8_i32_766
  let c0_i32_3694 : BitVec 32 := 0#32
  let c0_i32_3923 : BitVec 32 := 0#32
  let c0_i32_3924 : BitVec 32 := 0#32
  ![v1822.toNat, 0, 0, 0]
def k0_cond33 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_3701 : BitVec 32 := 0#32
  let v6536 : BitVec 1 := Scalar.cmpi .ne v2 c0_i32_3701
  let v6537 : BitVec 32 := Scalar.extui v6536
  let c0_i32_3708 : BitVec 32 := 0#32
  let v6538 : BitVec 1 := Scalar.cmpi .ne v6537 c0_i32_3708
  v6538

def k0_off73 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1459 : BitVec 32 := 0#32
  let v3565 : BitVec 32 := Scalar.subi v2 c0_i32_1459
  let c1_i32_1460 : BitVec 32 := 1#32
  let v3566 : BitVec 32 := Scalar.subi v3565 c1_i32_1460
  let c16_i32_1461 : BitVec 32 := 16#32
  let v3567 : BitVec 32 := Scalar.addi v3566 c16_i32_1461
  let c8_i32_1462 : BitVec 32 := 8#32
  let v3568 : BitVec 32 := Scalar.remsi v3567 c8_i32_1462
  let c1_i32_3702 : BitVec 32 := 1#32
  let c0_i32_3923 : BitVec 32 := 0#32
  let c0_i32_3924 : BitVec 32 := 0#32
  ![v3568.toNat, 1, 0, 0]
def k0_cond34 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3709 : BitVec 32 := 1#32
  let v6539 : BitVec 1 := Scalar.cmpi .ne v2 c1_i32_3709
  let v6540 : BitVec 32 := Scalar.extui v6539
  let c0_i32_3716 : BitVec 32 := 0#32
  let v6541 : BitVec 1 := Scalar.cmpi .ne v6540 c0_i32_3716
  v6541

def k0_off74 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1471 : BitVec 32 := 1#32
  let v3572 : BitVec 32 := Scalar.subi v2 c1_i32_1471
  let c1_i32_1472 : BitVec 32 := 1#32
  let v3573 : BitVec 32 := Scalar.subi v3572 c1_i32_1472
  let c16_i32_1473 : BitVec 32 := 16#32
  let v3574 : BitVec 32 := Scalar.addi v3573 c16_i32_1473
  let c8_i32_1474 : BitVec 32 := 8#32
  let v3575 : BitVec 32 := Scalar.remsi v3574 c8_i32_1474
  let c1_i32_3710 : BitVec 32 := 1#32
  let c0_i32_3923 : BitVec 32 := 0#32
  let c0_i32_3924 : BitVec 32 := 0#32
  ![v3575.toNat, 1, 0, 0]
def k0_cond35 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_3717 : BitVec 32 := 2#32
  let v6542 : BitVec 1 := Scalar.cmpi .ne v2 c2_i32_3717
  let v6543 : BitVec 32 := Scalar.extui v6542
  let c0_i32_3724 : BitVec 32 := 0#32
  let v6544 : BitVec 1 := Scalar.cmpi .ne v6543 c0_i32_3724
  v6544

def k0_off75 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1483 : BitVec 32 := 2#32
  let v3579 : BitVec 32 := Scalar.subi v2 c2_i32_1483
  let c1_i32_1484 : BitVec 32 := 1#32
  let v3580 : BitVec 32 := Scalar.subi v3579 c1_i32_1484
  let c16_i32_1485 : BitVec 32 := 16#32
  let v3581 : BitVec 32 := Scalar.addi v3580 c16_i32_1485
  let c8_i32_1486 : BitVec 32 := 8#32
  let v3582 : BitVec 32 := Scalar.remsi v3581 c8_i32_1486
  let c1_i32_3718 : BitVec 32 := 1#32
  let c0_i32_3923 : BitVec 32 := 0#32
  let c0_i32_3924 : BitVec 32 := 0#32
  ![v3582.toNat, 1, 0, 0]
def k0_cond36 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_3725 : BitVec 32 := 3#32
  let v6545 : BitVec 1 := Scalar.cmpi .ne v2 c3_i32_3725
  let v6546 : BitVec 32 := Scalar.extui v6545
  let c0_i32_3732 : BitVec 32 := 0#32
  let v6547 : BitVec 1 := Scalar.cmpi .ne v6546 c0_i32_3732
  v6547

def k0_off76 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1495 : BitVec 32 := 3#32
  let v3586 : BitVec 32 := Scalar.subi v2 c3_i32_1495
  let c1_i32_1496 : BitVec 32 := 1#32
  let v3587 : BitVec 32 := Scalar.subi v3586 c1_i32_1496
  let c16_i32_1497 : BitVec 32 := 16#32
  let v3588 : BitVec 32 := Scalar.addi v3587 c16_i32_1497
  let c8_i32_1498 : BitVec 32 := 8#32
  let v3589 : BitVec 32 := Scalar.remsi v3588 c8_i32_1498
  let c1_i32_3726 : BitVec 32 := 1#32
  let c0_i32_3923 : BitVec 32 := 0#32
  let c0_i32_3924 : BitVec 32 := 0#32
  ![v3589.toNat, 1, 0, 0]
def k0_cond37 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3733 : BitVec 32 := 4#32
  let v6548 : BitVec 1 := Scalar.cmpi .ne v2 c4_i32_3733
  let v6549 : BitVec 32 := Scalar.extui v6548
  let c0_i32_3740 : BitVec 32 := 0#32
  let v6550 : BitVec 1 := Scalar.cmpi .ne v6549 c0_i32_3740
  v6550

def k0_off77 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1507 : BitVec 32 := 4#32
  let v3593 : BitVec 32 := Scalar.subi v2 c4_i32_1507
  let c1_i32_1508 : BitVec 32 := 1#32
  let v3594 : BitVec 32 := Scalar.subi v3593 c1_i32_1508
  let c16_i32_1509 : BitVec 32 := 16#32
  let v3595 : BitVec 32 := Scalar.addi v3594 c16_i32_1509
  let c8_i32_1510 : BitVec 32 := 8#32
  let v3596 : BitVec 32 := Scalar.remsi v3595 c8_i32_1510
  let c1_i32_3734 : BitVec 32 := 1#32
  let c0_i32_3923 : BitVec 32 := 0#32
  let c0_i32_3924 : BitVec 32 := 0#32
  ![v3596.toNat, 1, 0, 0]
def k0_cond38 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_3741 : BitVec 32 := 5#32
  let v6551 : BitVec 1 := Scalar.cmpi .ne v2 c5_i32_3741
  let v6552 : BitVec 32 := Scalar.extui v6551
  let c0_i32_3748 : BitVec 32 := 0#32
  let v6553 : BitVec 1 := Scalar.cmpi .ne v6552 c0_i32_3748
  v6553

def k0_off78 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1519 : BitVec 32 := 5#32
  let v3600 : BitVec 32 := Scalar.subi v2 c5_i32_1519
  let c1_i32_1520 : BitVec 32 := 1#32
  let v3601 : BitVec 32 := Scalar.subi v3600 c1_i32_1520
  let c16_i32_1521 : BitVec 32 := 16#32
  let v3602 : BitVec 32 := Scalar.addi v3601 c16_i32_1521
  let c8_i32_1522 : BitVec 32 := 8#32
  let v3603 : BitVec 32 := Scalar.remsi v3602 c8_i32_1522
  let c1_i32_3742 : BitVec 32 := 1#32
  let c0_i32_3923 : BitVec 32 := 0#32
  let c0_i32_3924 : BitVec 32 := 0#32
  ![v3603.toNat, 1, 0, 0]
def k0_cond39 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3749 : BitVec 32 := 6#32
  let v6554 : BitVec 1 := Scalar.cmpi .ne v2 c6_i32_3749
  let v6555 : BitVec 32 := Scalar.extui v6554
  let c0_i32_3756 : BitVec 32 := 0#32
  let v6556 : BitVec 1 := Scalar.cmpi .ne v6555 c0_i32_3756
  v6556

def k0_off79 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1531 : BitVec 32 := 6#32
  let v3607 : BitVec 32 := Scalar.subi v2 c6_i32_1531
  let c1_i32_1532 : BitVec 32 := 1#32
  let v3608 : BitVec 32 := Scalar.subi v3607 c1_i32_1532
  let c16_i32_1533 : BitVec 32 := 16#32
  let v3609 : BitVec 32 := Scalar.addi v3608 c16_i32_1533
  let c8_i32_1534 : BitVec 32 := 8#32
  let v3610 : BitVec 32 := Scalar.remsi v3609 c8_i32_1534
  let c1_i32_3750 : BitVec 32 := 1#32
  let c0_i32_3923 : BitVec 32 := 0#32
  let c0_i32_3924 : BitVec 32 := 0#32
  ![v3610.toNat, 1, 0, 0]
def k0_cond40 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_3757 : BitVec 32 := 7#32
  let v6557 : BitVec 1 := Scalar.cmpi .ne v2 c7_i32_3757
  let v6558 : BitVec 32 := Scalar.extui v6557
  let c0_i32_3764 : BitVec 32 := 0#32
  let v6559 : BitVec 1 := Scalar.cmpi .ne v6558 c0_i32_3764
  v6559

def k0_off80 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1543 : BitVec 32 := 7#32
  let v3614 : BitVec 32 := Scalar.subi v2 c7_i32_1543
  let c1_i32_1544 : BitVec 32 := 1#32
  let v3615 : BitVec 32 := Scalar.subi v3614 c1_i32_1544
  let c16_i32_1545 : BitVec 32 := 16#32
  let v3616 : BitVec 32 := Scalar.addi v3615 c16_i32_1545
  let c8_i32_1546 : BitVec 32 := 8#32
  let v3617 : BitVec 32 := Scalar.remsi v3616 c8_i32_1546
  let c1_i32_3758 : BitVec 32 := 1#32
  let c0_i32_3923 : BitVec 32 := 0#32
  let c0_i32_3924 : BitVec 32 := 0#32
  ![v3617.toNat, 1, 0, 0]
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x512 : Shape := ⟨2, ![768, 512]⟩
abbrev S2x4096x8x64 : Shape := ⟨4, ![2, 4096, 8, 64]⟩
abbrev S512x768 : Shape := ⟨2, ![512, 768]⟩
abbrev S2x512x512 : Shape := ⟨3, ![2, 512, 512]⟩
abbrev S2x512x8x64 : Shape := ⟨4, ![2, 512, 8, 64]⟩
abbrev S512 : Shape := ⟨1, ![512]⟩
abbrev S_ : Shape := ⟨0, ![]⟩
abbrev S512x1 : Shape := ⟨2, ![512, 1]⟩
abbrev S4096 : Shape := ⟨1, ![4096]⟩
abbrev S1x4096 : Shape := ⟨2, ![1, 4096]⟩
abbrev S512x4096 : Shape := ⟨2, ![512, 4096]⟩
abbrev S2x8x512x4096 : Shape := ⟨4, ![2, 8, 512, 4096]⟩
abbrev S1x1x512x4096 : Shape := ⟨4, ![1, 1, 512, 4096]⟩
abbrev S2x8x512 : Shape := ⟨3, ![2, 8, 512]⟩
abbrev S2x8x512x1 : Shape := ⟨4, ![2, 8, 512, 1]⟩
abbrev S1x1x512x1 : Shape := ⟨4, ![1, 1, 512, 1]⟩
abbrev S2x8x64x512 : Shape := ⟨4, ![2, 8, 64, 512]⟩

abbrev nBuf : Space → Nat
  | .hbm => 137
  | .vmem => 0
  | .smem => 0
  | _ => 0

abbrev hbmTy0_0 (i : Nat) : BufTy := match i % 128 with
  | 0 => ⟨S2x512x768, .f32⟩
  | 1 => ⟨S768x512, .f32⟩
  | 2 => ⟨S2x4096x8x64, .f32⟩
  | 3 => ⟨S2x4096x8x64, .f32⟩
  | 4 => ⟨S512x768, .f32⟩
  | 5 => ⟨S2x512x512, .f32⟩
  | 6 => ⟨S2x512x8x64, .f32⟩
  | 7 => ⟨S512, .i32⟩
  | 8 => ⟨S_, .i32⟩
  | 9 => ⟨S_, .i32⟩
  | 10 => ⟨S512, .i32⟩
  | 11 => ⟨S512, .i32⟩
  | 12 => ⟨S512, .i32⟩
  | 13 => ⟨S_, .i32⟩
  | 14 => ⟨S512, .i32⟩
  | 15 => ⟨S512, .i1⟩
  | 16 => ⟨S512, .i32⟩
  | 17 => ⟨S512, .i32⟩
  | 18 => ⟨S_, .i32⟩
  | 19 => ⟨S512, .i32⟩
  | 20 => ⟨S512, .i1⟩
  | 21 => ⟨S512, .i1⟩
  | 22 => ⟨S_, .i32⟩
  | 23 => ⟨S512, .i32⟩
  | 24 => ⟨S512, .i32⟩
  | 25 => ⟨S512, .i32⟩
  | 26 => ⟨S512x1, .i32⟩
  | 27 => ⟨S4096, .i32⟩
  | 28 => ⟨S_, .i32⟩
  | 29 => ⟨S_, .i32⟩
  | 30 => ⟨S4096, .i32⟩
  | 31 => ⟨S4096, .i32⟩
  | 32 => ⟨S4096, .i32⟩
  | 33 => ⟨S_, .i32⟩
  | 34 => ⟨S4096, .i32⟩
  | 35 => ⟨S4096, .i1⟩
  | 36 => ⟨S4096, .i32⟩
  | 37 => ⟨S4096, .i32⟩
  | 38 => ⟨S_, .i32⟩
  | 39 => ⟨S4096, .i32⟩
  | 40 => ⟨S4096, .i1⟩
  | 41 => ⟨S4096, .i1⟩
  | 42 => ⟨S_, .i32⟩
  | 43 => ⟨S4096, .i32⟩
  | 44 => ⟨S4096, .i32⟩
  | 45 => ⟨S4096, .i32⟩
  | 46 => ⟨S1x4096, .i32⟩
  | 47 => ⟨S512x4096, .i32⟩
  | 48 => ⟨S512x4096, .i32⟩
  | 49 => ⟨S512x4096, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x4096, .i32⟩
  | 57 => ⟨S1x4096, .i32⟩
  | 58 => ⟨S_, .i32⟩
  | 59 => ⟨S1x4096, .i32⟩
  | 60 => ⟨S1x4096, .i1⟩
  | 61 => ⟨S_, .i32⟩
  | 62 => ⟨S1x4096, .i32⟩
  | 63 => ⟨S1x4096, .i1⟩
  | 64 => ⟨S_, .i32⟩
  | 65 => ⟨S_, .i1⟩
  | 66 => ⟨S1x4096, .i1⟩
  | 67 => ⟨S1x4096, .i1⟩
  | 68 => ⟨S1x4096, .i1⟩
  | 69 => ⟨S1x4096, .i32⟩
  | 70 => ⟨S1x4096, .i32⟩
  | 71 => ⟨S1x4096, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S512x1, .i32⟩
  | 79 => ⟨S512x1, .i32⟩
  | 80 => ⟨S_, .i32⟩
  | 81 => ⟨S512x1, .i32⟩
  | 82 => ⟨S512x1, .i1⟩
  | 83 => ⟨S_, .i32⟩
  | 84 => ⟨S512x1, .i32⟩
  | 85 => ⟨S512x1, .i1⟩
  | 86 => ⟨S_, .i32⟩
  | 87 => ⟨S_, .i1⟩
  | 88 => ⟨S512x1, .i1⟩
  | 89 => ⟨S512x1, .i1⟩
  | 90 => ⟨S512x1, .i1⟩
  | 91 => ⟨S512x1, .i32⟩
  | 92 => ⟨S512x1, .i32⟩
  | 93 => ⟨S512x1, .i32⟩
  | 94 => ⟨S512x4096, .i32⟩
  | 95 => ⟨S512x4096, .i32⟩
  | 96 => ⟨S512x4096, .i1⟩
  | 97 => ⟨S512x4096, .i1⟩
  | 98 => ⟨S2x8x512x4096, .f32⟩
  | 99 => ⟨S_, .f32⟩
  | 100 => ⟨S2x8x512x4096, .f32⟩
  | 101 => ⟨S2x8x512x4096, .f32⟩
  | 102 => ⟨S1x1x512x4096, .i1⟩
  | 103 => ⟨S_, .f32⟩
  | 104 => ⟨S_, .f32⟩
  | 105 => ⟨S2x8x512x4096, .i1⟩
  | 106 => ⟨S2x8x512x4096, .f32⟩
  | 107 => ⟨S2x8x512x4096, .f32⟩
  | 108 => ⟨S_, .f32⟩
  | 109 => ⟨S2x8x512, .f32⟩
  | 110 => ⟨S2x8x512x1, .f32⟩
  | 111 => ⟨S2x8x512x4096, .f32⟩
  | 112 => ⟨S2x8x512x4096, .f32⟩
  | 113 => ⟨S2x8x512x4096, .f32⟩
  | 114 => ⟨S_, .i1⟩
  | 115 => ⟨S512, .i1⟩
  | 116 => ⟨S1x1x512x1, .i1⟩
  | 117 => ⟨S_, .f32⟩
  | 118 => ⟨S2x8x512, .f32⟩
  | 119 => ⟨S2x8x512x1, .f32⟩
  | 120 => ⟨S_, .f32⟩
  | 121 => ⟨S_, .f32⟩
  | 122 => ⟨S2x8x512x1, .i1⟩
  | 123 => ⟨S2x8x512x1, .f32⟩
  | 124 => ⟨S2x8x512x1, .f32⟩
  | 125 => ⟨S2x8x512x4096, .f32⟩
  | 126 => ⟨S2x8x512x4096, .f32⟩
  | 127 => ⟨S1x1x512x1, .i1⟩
  | _ => ⟨S2x512x768, .f32⟩

abbrev hbmTy0_1 (i : Nat) : BufTy := match i % 128 with
  | 0 => ⟨S_, .f32⟩
  | 1 => ⟨S_, .f32⟩
  | 2 => ⟨S2x8x512x4096, .i1⟩
  | 3 => ⟨S2x8x512x4096, .f32⟩
  | 4 => ⟨S2x8x512x4096, .f32⟩
  | 5 => ⟨S2x8x64x512, .f32⟩
  | 6 => ⟨S2x512x8x64, .f32⟩
  | 7 => ⟨S2x512x512, .f32⟩
  | 8 => ⟨S2x512x768, .f32⟩
  | _ => ⟨S2x512x768, .f32⟩

abbrev hbmTy (i : Nat) : BufTy := match i / 128 with
  | 0 => hbmTy0_0 i
  | 1 => hbmTy0_1 i
  | _ => ⟨S2x512x768, .f32⟩

abbrev bufTy : (tb : Table) → Fin (tcTables nBuf tb) → BufTy
  | .hbm, ⟨i, _⟩ => hbmTy i
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Text.lean ====
/- The kernel's text, folded. The printed body is a straight line of some six thousand operations;
   the same line is written here as runs over short lists (devices, heads, query blocks, slots), each
   run a fold of one parametrised step. Later modules reason about the steps, one at a time. -/
module

public import proofs.«01_k».proof.Proof.Gen.KernelIdeal

@[expose] public section

namespace Cert.Attn

open Idealize.ShloMosaic Idealize.SL.Sem
open Cert.KernelIdeal Cert.KernelIdeal.Gen

noncomputable section

variable {F : FTy → Type} [FloatOps F]

/-- Programs of the kernel's core. -/
abbrev Pr (F : FTy → Type) (α : Type) : Type 1 := Prog (TpuEff nD τ sig (Elt F) Λ₀ .tc) α

/-- Run `f` at each member of a list, in order. -/
def seqL {α : Type} (f : α → Pr F PUnit) : List α → Pr F PUnit
  | [] => pure ⟨⟩
  | x :: xs => do f x; seqL f xs

/-- Run `f` at each member of a list, in order, handing a state along. -/
def foldL {α σ : Type} (f : σ → α → Pr F σ) : List α → σ → Pr F σ
  | [], s => pure s
  | x :: xs, s => do let s' ← f s x; foldL f xs s'

def devs : List (Fin 8) := [0, 1, 2, 3, 4, 5, 6, 7]
def slots : List (Fin 7) := [0, 1, 2, 3, 4, 5, 6]
def tilesL : List (Fin 8 × Fin 4) :=
  [(0, 0), (0, 1), (0, 2), (0, 3), (1, 0), (1, 1), (1, 2), (1, 3), (2, 0), (2, 1), (2, 2), (2, 3),
   (3, 0), (3, 1), (3, 2), (3, 3), (4, 0), (4, 1), (4, 2), (4, 3), (5, 0), (5, 1), (5, 2), (5, 3),
   (6, 0), (6, 1), (6, 2), (6, 3), (7, 0), (7, 1), (7, 2), (7, 3)]

/-! ### The buffers and the semaphores -/

abbrev xM : Memref sig .tc .vmem S2x512x768 .f32 := Memref.whole cc0_stg0_0
abbrev wqM : Memref sig .tc .vmem S768x512 .f32 := Memref.whole cc0_stg1_0
abbrev kM : Memref sig .tc .vmem S2x512x8x64 .f32 := Memref.whole cc0_stg2_0
abbrev vM : Memref sig .tc .vmem S2x512x8x64 .f32 := Memref.whole cc0_stg3_0
abbrev woM : Memref sig .tc .vmem S512x768 .f32 := Memref.whole cc0_stg4_0
abbrev outM : Memref sig .tc .vmem S2x512x768 .f32 := Memref.whole cc0_stg5_0
abbrev partM : Memref sig .tc .vmem S8x2x66x512 .bf16 := Memref.whole cc0_scratch0
abbrev rrM : Memref sig .tc .vmem S7x2x66x512 .bf16 := Memref.whole cc0_scratch1
abbrev agM : Memref sig .tc .vmem S8x2x64x512 .bf16 := Memref.whole cc0_scratch2
abbrev accM : Memref sig .tc .vmem S2x64x512 .f32 := Memref.whole cc0_scratch3

/-- The barrier's semaphore. -/
abbrev barS : Sem sig := (SemArray.scalar (sig.barrier 0 rfl) : Sems sig S_).sem

theorem sems8_inb : ∀ (b : Fin 2) (d : Fin 8), ∀ a, (![b.val, d.val] : Fin 2 → Nat) a + S1x1.size a ≤ S2x8.size a := by decide
theorem sems7_inb : ∀ (b : Fin 2) (k : Fin 7), ∀ a, (![b.val, k.val] : Fin 2 → Nat) a + S1x1.size a ≤ S2x7.size a := by decide

abbrev rssS (b : Fin 2) (d : Fin 8) : DmaSem sig :=
  ((cc0_scratch4.slice (Rect.unit (s := S2x8) ![b.val, d.val] S1x1.size (sems8_inb b d))).squeeze S_ squeezes_S1x1_S_).sem
abbrev rsrS (b : Fin 2) (k : Fin 7) : DmaSem sig :=
  ((cc0_scratch5.slice (Rect.unit (s := S2x7) ![b.val, k.val] S1x1.size (sems7_inb b k))).squeeze S_ squeezes_S1x1_S_).sem
abbrev agsS (b : Fin 2) (k : Fin 7) : DmaSem sig :=
  ((cc0_scratch6.slice (Rect.unit (s := S2x7) ![b.val, k.val] S1x1.size (sems7_inb b k))).squeeze S_ squeezes_S1x1_S_).sem
abbrev agrS (b : Fin 2) (k : Fin 7) : DmaSem sig :=
  ((cc0_scratch7.slice (Rect.unit (s := S2x7) ![b.val, k.val] S1x1.size (sems7_inb b k))).squeeze S_ squeezes_S1x1_S_).sem

/-! ### The words: this device's index, "not this one", a slot, a neighbour -/

/-- This device's index, as the kernel computes it. -/
abbrev meW (c : Dev nD) : BitVec 32 := Scalar.remsi (Scalar.divsi (Dev.word c) 1#32) 8#32

/-- The bit "this device is not `d`". -/
abbrev neW (c d : Dev nD) : BitVec 1 :=
  Scalar.cmpi .ne (Scalar.extui (Scalar.cmpi .ne (meW c) (BitVec.ofNat 32 d.val))) 0#32

/-- The slot in which device `d` keeps what this device sends it. -/
abbrev slotW (c d : Dev nD) : BitVec 32 :=
  Scalar.remsi (Scalar.addi (Scalar.subi (Scalar.subi (meW c) (BitVec.ofNat 32 d.val)) 1#32) 16#32) 8#32

/-- The device `k + 1` further along. -/
abbrev upW (c : Dev nD) (k : Fin 7) : BitVec 32 := Scalar.remsi (Scalar.addi (meW c) (BitVec.ofNat 32 (k.val + 1))) 8#32

/-- The same, computed by two additions, as the gathering does. -/
abbrev srcW (c : Dev nD) (k : Fin 7) : BitVec 32 :=
  Scalar.remsi (Scalar.addi (Scalar.addi (meW c) (BitVec.ofNat 32 k.val)) 1#32) 8#32

theorem meW_toNat : ∀ c : Dev nD, (meW c).toNat = c.val := by decide +kernel
theorem meW_lt : ∀ c : Dev nD, (meW c).toNat < 8 := by decide +kernel
theorem slotW_lt : ∀ c d : Dev nD, neW c d = 1#1 → (slotW c d).toNat < 7 := by decide +kernel
theorem upDev_lt : ∀ (c : Dev nD) (k : Fin 7), (Scalar.addi 0#32 (Scalar.muli (upW c k) 1#32)).toNat < nD := by decide +kernel
theorem cstDev_lt : ∀ d : Dev nD, (Scalar.addi 0#32 (Scalar.muli (BitVec.ofNat 32 d.val) 1#32)).toNat < nD := by decide +kernel
theorem srcW_lt : ∀ (c : Dev nD) (k : Fin 7), (srcW c k).toNat < 8 := by decide +kernel

abbrev cstDev (d : Dev nD) : Dev nD := ⟨(Scalar.addi 0#32 (Scalar.muli (BitVec.ofNat 32 d.val) 1#32)).toNat, cstDev_lt d⟩
abbrev upDev (c : Dev nD) (k : Fin 7) : Dev nD := ⟨(Scalar.addi 0#32 (Scalar.muli (upW c k) 1#32)).toNat, upDev_lt c k⟩

/-- This device's index as an index of the windows. -/
abbrev meI (c : Dev nD) : Fin 8 := ⟨(meW c).toNat, meW_lt c⟩
abbrev slotI (c d : Dev nD) (h : neW c d = 1#1) : Fin 7 := ⟨(slotW c d).toNat, slotW_lt c d h⟩
abbrev srcI (c : Dev nD) (k : Fin 7) : Fin 8 := ⟨(srcW c k).toNat, srcW_lt c k⟩

/-! ### Rectangles of the buffers -/

section rects

theorem partW_inb : ∀ (q : Fin 8) (b : Fin 2), ∀ a, (![q.val, b.val, 0, 0] : Fin 4 → Nat) a + S1x1x66x512.size a ≤ S8x2x66x512.size a := by decide
theorem rrW_inb : ∀ (q : Fin 7) (b : Fin 2), ∀ a, (![q.val, b.val, 0, 0] : Fin 4 → Nat) a + S1x1x66x512.size a ≤ S7x2x66x512.size a := by decide
theorem agW_inb : ∀ (q : Fin 8) (b : Fin 2), ∀ a, (![q.val, b.val, 0, 0] : Fin 4 → Nat) a + S1x1x64x512.size a ≤ S8x2x64x512.size a := by decide

/-- The window of the partial results meant for device `q`, batch `b`. -/
abbrev partW (q : Fin 8) (b : Fin 2) : Rect S8x2x66x512 := Rect.unit ![q.val, b.val, 0, 0] S1x1x66x512.size (partW_inb q b)
/-- The window in which slot `q`, batch `b`, arrives. -/
abbrev rrW (q : Fin 7) (b : Fin 2) : Rect S7x2x66x512 := Rect.unit ![q.val, b.val, 0, 0] S1x1x66x512.size (rrW_inb q b)
/-- The window of device `q`'s finished block, batch `b`. -/
abbrev agW (q : Fin 8) (b : Fin 2) : Rect S8x2x64x512 := Rect.unit ![q.val, b.val, 0, 0] S1x1x64x512.size (agW_inb q b)

theorem partW_words : ∀ (q : Fin 8) (b : Fin 2), (partW q b).WholeWords (EltTy.packing .bf16) := by decide
theorem rrW_words : ∀ (q : Fin 7) (b : Fin 2), (rrW q b).WholeWords (EltTy.packing .bf16) := by decide
theorem agW_words : ∀ (q : Fin 8) (b : Fin 2), (agW q b).WholeWords (EltTy.packing .bf16) := by decide

abbrev partV (q : Fin 8) (b : Fin 2) : Memref sig .tc .vmem S66x512 .bf16 :=
  (partM.slice (partW q b) (fun _ => rfl)).squeeze S66x512 squeezes_S1x1x66x512_S66x512
abbrev rrV (q : Fin 7) (b : Fin 2) : Memref sig .tc .vmem S66x512 .bf16 :=
  (rrM.slice (rrW q b) (fun _ => rfl)).squeeze S66x512 squeezes_S1x1x66x512_S66x512
abbrev agV (q : Fin 8) (b : Fin 2) : Memref sig .tc .vmem S64x512 .bf16 :=
  (agM.slice (agW q b) (fun _ => rfl)).squeeze S64x512 squeezes_S1x1x64x512_S64x512

theorem partV_exact (q : Fin 8) (b : Fin 2) : (partV q b).view.WordExact :=
  ((Memref.isWhole_whole cc0_scratch0).wordExact_slice rfl _ (partW_words q b)).reshape _ _
theorem rrV_exact (q : Fin 7) (b : Fin 2) : (rrV q b).view.WordExact :=
  ((Memref.isWhole_whole cc0_scratch1).wordExact_slice rfl _ (rrW_words q b)).reshape _ _
theorem agV_exact (q : Fin 8) (b : Fin 2) : (agV q b).view.WordExact :=
  ((Memref.isWhole_whole cc0_scratch2).wordExact_slice rfl _ (agW_words q b)).reshape _ _

/-! Inside the windows: a head's columns, the two rows below them, the pieces of a block. -/

theorem partH_inb : ∀ (q : Fin 8) (b : Fin 2) (h : Fin 8), ∀ a, (![q.val, b.val, 0, 64 * h.val] : Fin 4 → Nat) a + S1x1x64x64.size a ≤ S8x2x66x512.size a := by decide +kernel
theorem partS_inb : ∀ (q : Fin 8) (b : Fin 2) (h : Fin 8), ∀ a, (![q.val, b.val, 64, 64 * h.val] : Fin 4 → Nat) a + S1x1x2x64.size a ≤ S8x2x66x512.size a := by decide +kernel
theorem partA_inb : ∀ (q : Fin 8) (b : Fin 2), ∀ a, (![q.val, b.val, 0, 0] : Fin 4 → Nat) a + S1x1x64x512.size a ≤ S8x2x66x512.size a := by decide
theorem partR_inb : ∀ (q : Fin 8) (b : Fin 2) (j : Fin 2), ∀ a, (![q.val, b.val, 64 + j.val, 0] : Fin 4 → Nat) a + S1x1x1x512.size a ≤ S8x2x66x512.size a := by decide
theorem rrH_inb : ∀ (k : Fin 7) (b : Fin 2) (h : Fin 8), ∀ a, (![k.val, b.val, 0, 64 * h.val] : Fin 4 → Nat) a + S1x1x64x64.size a ≤ S7x2x66x512.size a := by decide +kernel
theorem rrR_inb : ∀ (k : Fin 7) (b : Fin 2) (j : Fin 2), ∀ a, (![k.val, b.val, 64 + j.val, 0] : Fin 4 → Nat) a + S1x1x1x512.size a ≤ S7x2x66x512.size a := by decide
theorem agH_inb : ∀ (q : Fin 8) (b : Fin 2) (h : Fin 8), ∀ a, (![q.val, b.val, 0, 64 * h.val] : Fin 4 → Nat) a + S1x1x64x64.size a ≤ S8x2x64x512.size a := by decide +kernel
theorem accA_inb : ∀ (b : Fin 2), ∀ a, (![b.val, 0, 0] : Fin 3 → Nat) a + S1x64x512.size a ≤ S2x64x512.size a := by decide
theorem accH_inb : ∀ (b : Fin 2) (h : Fin 8), ∀ a, (![b.val, 0, 64 * h.val] : Fin 3 → Nat) a + S1x64x64.size a ≤ S2x64x512.size a := by decide +kernel
theorem x_inb : ∀ (b : Fin 2), ∀ a, (![b.val, 0, 0] : Fin 3 → Nat) a + S1x512x768.size a ≤ S2x512x768.size a := by decide
theorem kv_inb : ∀ (b : Fin 2), ∀ a, (![b.val, 0, 0, 0] : Fin 4 → Nat) a + S1x512x8x64.size a ≤ S2x512x8x64.size a := by decide

abbrev partH (q : Fin 8) (b : Fin 2) (h : Fin 8) : Rect S8x2x66x512 := Rect.unit ![q.val, b.val, 0, 64 * h.val] S1x1x64x64.size (partH_inb q b h)
abbrev partS (q : Fin 8) (b : Fin 2) (h : Fin 8) : Rect S8x2x66x512 := Rect.unit ![q.val, b.val, 64, 64 * h.val] S1x1x2x64.size (partS_inb q b h)
abbrev partA (q : Fin 8) (b : Fin 2) : Rect S8x2x66x512 := Rect.unit ![q.val, b.val, 0, 0] S1x1x64x512.size (partA_inb q b)
abbrev partR (q : Fin 8) (b : Fin 2) (j : Fin 2) : Rect S8x2x66x512 := Rect.unit ![q.val, b.val, 64 + j.val, 0] S1x1x1x512.size (partR_inb q b j)
abbrev rrH (k : Fin 7) (b : Fin 2) (h : Fin 8) : Rect S7x2x66x512 := Rect.unit ![k.val, b.val, 0, 64 * h.val] S1x1x64x64.size (rrH_inb k b h)
abbrev rrR (k : Fin 7) (b : Fin 2) (j : Fin 2) : Rect S7x2x66x512 := Rect.unit ![k.val, b.val, 64 + j.val, 0] S1x1x1x512.size (rrR_inb k b j)
abbrev agH (q : Fin 8) (b : Fin 2) (h : Fin 8) : Rect S8x2x64x512 := Rect.unit ![q.val, b.val, 0, 64 * h.val] S1x1x64x64.size (agH_inb q b h)
abbrev accA (b : Fin 2) : Rect S2x64x512 := Rect.unit ![b.val, 0, 0] S1x64x512.size (accA_inb b)
abbrev accH (b : Fin 2) (h : Fin 8) : Rect S2x64x512 := Rect.unit ![b.val, 0, 64 * h.val] S1x64x64.size (accH_inb b h)
abbrev xR (b : Fin 2) : Rect S2x512x768 := Rect.unit ![b.val, 0, 0] S1x512x768.size (x_inb b)
abbrev kvR (b : Fin 2) : Rect S2x512x8x64 := Rect.unit ![b.val, 0, 0, 0] S1x512x8x64.size (kv_inb b)

theorem partH_packed : ∀ (q : Fin 8) (b : Fin 2) (h : Fin 8), (partH q b h).PackedRows (EltTy.packing .bf16) := by decide +kernel
theorem partS_packed : ∀ (q : Fin 8) (b : Fin 2) (h : Fin 8), (partS q b h).PackedRows (EltTy.packing .bf16) := by decide +kernel
theorem agH_packed : ∀ (q : Fin 8) (b : Fin 2) (h : Fin 8), (agH q b h).PackedRows (EltTy.packing .bf16) := by decide +kernel

/-- The rows of the result that device `w` (a word) finishes. -/
theorem outO_inb (w : BitVec 32) (hw : w.toNat < 8) (b : Fin 2) :
    ∀ a, (![b.val, (Scalar.indexCast (Scalar.muli w 64#32)).toNat, 0] : Fin 3 → Nat) a + S1x64x768.size a ≤ S2x512x768.size a := by
  have h : ∀ q : Fin 8, ∀ b : Fin 2, ∀ a, (![b.val, (Scalar.indexCast (Scalar.muli (BitVec.ofNat 32 q.val) 64#32)).toNat, 0] : Fin 3 → Nat) a
      + S1x64x768.size a ≤ S2x512x768.size a := by decide +kernel
  have e : BitVec.ofNat 32 w.toNat = w := by simp
  have := h ⟨w.toNat, hw⟩ b
  rwa [e] at this

abbrev outO (w : BitVec 32) (hw : w.toNat < 8) (b : Fin 2) : Rect S2x512x768 :=
  Rect.unit ![b.val, (Scalar.indexCast (Scalar.muli w 64#32)).toNat, 0] S1x64x768.size (outO_inb w hw b)

end rects

end

end Cert.Attn
-- ==== Proof.Vals.lean ====
/- The values the kernel's steps compute, as functions of what they load: a tile's projections,
   scores, maxima, sums and weighted values; the merge of two partial results; the last division. -/
module

public import proofs.«01_k».proof.Proof.Text

@[expose] public section

namespace Cert.Attn

open Idealize.ShloMosaic Idealize.SL.Sem
open Cert.KernelIdeal Cert.KernelIdeal.Gen

noncomputable section

variable {F : FTy → Type} [FloatOps F]

theorem qSl : ∀ (g : Fin 2) (h : Fin 8) (r : Fin 4), S512x512.Slices ![64 * r.val + 256 * g.val, 64 * h.val] S64x64 := by decide +kernel
theorem kSl : ∀ (g : Fin 2) (h : Fin 8) (r : Fin 4), S512x8x64.Slices ![64 * r.val + 256 * g.val, h.val, 0] S64x1x64 := by decide +kernel
theorem aSl : ∀ g : Fin 2, S128x64.Slices ![64 * g.val, 0] S64x64 := by decide
theorem sSl : ∀ g : Fin 2, S128.Slices ![64 * g.val] S64 := by decide
theorem hSl : ∀ h : Fin 8, S512.Slices ![64 * h.val] S64 := by decide

/-- The query weights, rounded for the multiplier. -/
def wqV (w : Vec F S768x512 .f32) : FVec F S768x512 .bf16 := truncf .bf16 (shapeCast S768x512 w shapeCasts_S768x512_S768x512) bitsLt_bf16_f32

/-- The output weights, likewise. -/
def woV (w : Vec F S512x768 .f32) : FVec F S512x768 .bf16 := truncf .bf16 (shapeCast S512x768 w shapeCasts_S512x768_S512x768) bitsLt_bf16_f32

/-- A batch's keys or values, likewise. -/
def kvV (k : Vec F S1x512x8x64 .f32) : FVec F S512x8x64 .bf16 := truncf .bf16 (shapeCast S512x8x64 k shapeCasts_S1x512x8x64_S512x8x64) bitsLt_bf16_f32

/-- A batch's queries. -/
def qV (x : Vec F S1x512x768 .f32) (w : FVec F S768x512 .bf16) : FVec F S512x512 .bf16 :=
  truncf .bf16 (matmul dot_S512x768_S768x512_S512x512_1_0_0_1_n_n none
    (truncf .bf16 (shapeCast S512x768 x shapeCasts_S1x512x768_S512x768) bitsLt_bf16_f32 : FVec F S512x768 .bf16) w (constant S512x512 .f32 0x00000000#32)) bitsLt_bf16_f32

/-- The queries of blocks `r` and `r + 4`, head `h`. -/
def tQ (q : FVec F S512x512 .bf16) (h : Fin 8) (r : Fin 4) : FVec F S128x64 .bf16 :=
  concatenate S128x64 0 [⟨S64x64, extractStridedSlice S64x64 ![64 * r.val + 256 * (0 : Fin 2).val, 64 * h.val] q (qSl 0 h r)⟩,
    ⟨S64x64, extractStridedSlice S64x64 ![64 * r.val + 256 * (1 : Fin 2).val, 64 * h.val] q (qSl 1 h r)⟩] concatenates_S64x64_S64x64_S128x64_d0

/-- The keys (or values) of blocks `r` and `r + 4`, head `h`. -/
def tK (k : FVec F S512x8x64 .bf16) (h : Fin 8) (r : Fin 4) : FVec F S128x64 .bf16 :=
  concatenate S128x64 0 [⟨S64x64, shapeCast S64x64 (extractStridedSlice S64x1x64 ![64 * r.val + 256 * (0 : Fin 2).val, h.val, 0] k (kSl 0 h r)) shapeCasts_S64x1x64_S64x64⟩,
    ⟨S64x64, shapeCast S64x64 (extractStridedSlice S64x1x64 ![64 * r.val + 256 * (1 : Fin 2).val, h.val, 0] k (kSl 1 h r)) shapeCasts_S64x1x64_S64x64⟩] concatenates_S64x64_S64x64_S128x64_d0

/-- The scaled scores of a tile. -/
def tS (q k : FVec F S128x64 .bf16) : FVec F S128x128 .f32 :=
  mulf (matmul dot_S128x64_S128x64_S128x128_1_1_0_0_n_n none q k (constant S128x128 .f32 0x00000000#32)) (broadcast S128x128 (Scalar.ofBits .f32 0x3E000000#32 : F .f32))

/-- Each row's largest score. -/
def tM (s : FVec F S128x128 .f32) : FVec F S128 .f32 := multiReduction .maximumf [1] S128 s 0xFF800000#32 reduces_S128x128_S128 (.inl rfl) rfl

/-- The exponentials of the scores, each less its row's largest. -/
def tW (s : FVec F S128x128 .f32) : FVec F S128x128 .bf16 :=
  truncf .bf16 (exp (subf s (broadcastTo S128x128 (shapeCast S128x1 (tM s) shapeCasts_S128_S128x1) broadcasts_S128x1_S128x128))) bitsLt_bf16_f32

/-- Each row's sum of exponentials. -/
def tL (w : FVec F S128x128 .bf16) : FVec F S128 .f32 := multiReduction .add [1] S128 (extf .f32 w bitsLt_bf16_f32) 0x00000000#32 reduces_S128x128_S128 (.inl rfl) rfl

/-- Each row's weighted sum of values. -/
def tA (w : FVec F S128x128 .bf16) (v : FVec F S128x64 .bf16) : FVec F S128x64 .bf16 :=
  truncf .bf16 (matmul dot_S128x128_S128x64_S128x64_1_0_0_1_n_n none w v (constant S128x64 .f32 0x00000000#32)) bitsLt_bf16_f32

/-- The weighted sums of one half of a tile, as stored. -/
def stA (a : FVec F S128x64 .bf16) (g : Fin 2) : FVec F S1x1x64x64 .bf16 :=
  shapeCast S1x1x64x64 (extractStridedSlice S64x64 ![64 * g.val, 0] a (aSl g)) shapeCasts_S64x64_S1x1x64x64

/-- The maxima and the sums of one half of a tile, as stored. -/
def stS (m l : FVec F S128 .f32) (g : Fin 2) : FVec F S1x1x2x64 .bf16 :=
  shapeCast S1x1x2x64 (concatenate S2x64 0
    [⟨S1x64, shapeCast S1x64 (truncf .bf16 (extractStridedSlice S64 ![64 * g.val] m (sSl g)) bitsLt_bf16_f32 : FVec F S64 .bf16) shapeCasts_S64_S1x64⟩,
     ⟨S1x64, shapeCast S1x64 (truncf .bf16 (extractStridedSlice S64 ![64 * g.val] l (sSl g)) bitsLt_bf16_f32 : FVec F S64 .bf16) shapeCasts_S64_S1x64⟩]
    concatenates_S1x64_S1x64_S2x64_d0) shapeCasts_S2x64_S1x1x2x64

/-- The sums a device starts its merge from, as kept. -/
def accV (p : Vec F S1x1x64x512 .bf16) : FVec F S1x64x512 .f32 :=
  shapeCast S1x64x512 (extf .f32 (shapeCast S64x512 p shapeCasts_S1x1x64x512_S64x512 : FVec F S64x512 .bf16) bitsLt_bf16_f32) shapeCasts_S64x512_S1x64x512

/-- A row of maxima or of sums, as loaded. -/
def rowV (p : Vec F S1x1x1x512 .bf16) : FVec F S512 .f32 := extf .f32 (shapeCast S512 p shapeCasts_S1x1x1x512_S512 : FVec F S512 .bf16) bitsLt_bf16_f32

/-- A head's column factors, spread over its block. -/
def spread (a : FVec F S512 .f32) (h : Fin 8) : FVec F S64x64 .f32 :=
  broadcastTo S64x64 (shapeCast S64x1 (extractStridedSlice S64 ![64 * h.val] a (hSl h)) shapeCasts_S64_S64x1) broadcasts_S64x1_S64x64

/-- The merge of the running maxima with a slot's. -/
def mMax (m mk : FVec F S512 .f32) : FVec F S512 .f32 := maximumf m mk

/-- The factor that brings sums taken below one maximum to a larger one. -/
def mFac (m m' : FVec F S512 .f32) : FVec F S512 .f32 := exp (subf m m')

/-- The merged sums. -/
def mSum (a l e lk : FVec F S512 .f32) : FVec F S512 .f32 := addf (mulf a l) (mulf e lk)

/-- The merged weighted sums of one head. -/
def mAcc (a e : FVec F S512 .f32) (h : Fin 8) (r : Vec F S1x64x64 .f32) (p : Vec F S1x1x64x64 .bf16) : FVec F S1x64x64 .f32 :=
  shapeCast S1x64x64 (addf (mulf (shapeCast S64x64 r shapeCasts_S1x64x64_S64x64) (spread a h))
    (mulf (extf .f32 (shapeCast S64x64 p shapeCasts_S1x1x64x64_S64x64 : FVec F S64x64 .bf16) bitsLt_bf16_f32) (spread e h))) shapeCasts_S64x64_S1x64x64

/-- One over the sums. -/
def inv (l : FVec F S512 .f32) : FVec F S512 .f32 := divf (broadcast S512 (Scalar.ofBits .f32 0x3F800000#32 : F .f32)) l

/-- A head's finished block, as sent round. -/
def fin (i : FVec F S512 .f32) (h : Fin 8) (r : Vec F S1x64x64 .f32) : FVec F S1x1x64x64 .bf16 :=
  shapeCast S1x1x64x64 (truncf .bf16 (mulf (shapeCast S64x64 r shapeCasts_S1x64x64_S64x64) (spread i h)) bitsLt_bf16_f32 : FVec F S64x64 .bf16) shapeCasts_S64x64_S1x1x64x64

/-- A device's rows of the result. -/
def outV (wo : FVec F S512x768 .bf16) (p : Vec F S1x1x64x512 .bf16) : FVec F S1x64x768 .f32 :=
  shapeCast S1x64x768 (matmul dot_S64x512_S512x768_S64x768_1_0_0_1_n_n none (shapeCast S64x512 p shapeCasts_S1x1x64x512_S64x512 : FVec F S64x512 .bf16) wo
    (constant S64x768 .f32 0x00000000#32)) shapeCasts_S64x768_S1x64x768

end

end Cert.Attn
-- ==== Proof.Steps.lean ====
/- The kernel's steps, and the body they make. -/
module

public import proofs.«01_k».proof.Proof.Vals

@[expose] public section

namespace Cert.Attn

open Idealize.ShloMosaic Idealize.SL.Sem
open Cert.KernelIdeal Cert.KernelIdeal.Gen

noncomputable section

variable {F : FTy → Type} [FloatOps F]

/-- Tell device `d` that this one has entered. -/
def barSig (c d : Dev nD) : Pr F PUnit :=
  if _h : neW c d = 1#1 then do
    semSignalWord (cstDev d) barS 1#32
    pure ⟨⟩
  else do
    pure ⟨⟩

/-- Store into the partial results: the block's weighted sums, then its maxima and sums. -/
def tileStore (b : Fin 2) (h : Fin 8) (q : Fin 8) (a : FVec F S1x1x64x64 .bf16) (s : FVec F S1x1x2x64 .bf16) : Pr F PUnit := do
  let _ : Vec F S1x1x64x64 .bf16 ← Prog.lift (.load partM (partH q b h).toLoadRect (View.loadsAt_vmem h_S1x1x64x64))
  Prog.lift (.store partM (partH q b h) a Finset.univ (View.stores_vmem h_S1x1x64x64 ((Memref.isWhole_whole cc0_scratch0).storeExact_slice rfl _ (partH_packed q b h)) (fun _ => rfl)) (.inl rfl))
  let _ : Vec F S1x1x2x64 .bf16 ← Prog.lift (.load partM (partS q b h).toLoadRect (View.loadsAt_vmem h_S1x1x2x64))
  Prog.lift (.store partM (partS q b h) s Finset.univ (View.stores_vmem h_S1x1x2x64 ((Memref.isWhole_whole cc0_scratch0).storeExact_slice rfl _ (partS_packed q b h)) (fun _ => rfl)) (.inl rfl))

theorem blk_lt : ∀ (r : Fin 4) (g : Fin 2), r.val + 4 * g.val < 8 := by decide
/-- Query block `r + 4 g`. -/
abbrev blk (r : Fin 4) (g : Fin 2) : Fin 8 := ⟨r.val + 4 * g.val, blk_lt r g⟩

/-- One tile: head `h`, query blocks `r` and `r + 4`. -/
def tile (b : Fin 2) (q : FVec F S512x512 .bf16) (k v : FVec F S512x8x64 .bf16) (hr : Fin 8 × Fin 4) : Pr F PUnit := do
  let s := tS (tQ q hr.1 hr.2) (tK k hr.1 hr.2)
  let a := tA (tW s) (tK v hr.1 hr.2)
  tileStore b hr.1 (blk hr.2 0) (stA a 0) (stS (tM s) (tL (tW s)) 0)
  tileStore b hr.1 (blk hr.2 1) (stA a 1) (stS (tM s) (tL (tW s)) 1)

/-- A batch's tiles. -/
def tiles (wq : FVec F S768x512 .bf16) (b : Fin 2) : Pr F PUnit := do
  let x : Vec F S1x512x768 .f32 ← Prog.lift (.load xM (xR b).toLoadRect (View.loadsAt_vmem h_S1x512x768))
  let k : Vec F S1x512x8x64 .f32 ← Prog.lift (.load kM (kvR b).toLoadRect (View.loadsAt_vmem h_S1x512x8x64))
  let v : Vec F S1x512x8x64 .f32 ← Prog.lift (.load vM (kvR b).toLoadRect (View.loadsAt_vmem h_S1x512x8x64))
  seqL (tile b (qV x wq) (kvV k) (kvV v)) tilesL

/-- Send device `d` its partial results of batch `b`. -/
def rsSend (c : Dev nD) (b : Fin 2) (d : Dev nD) : Pr F PUnit :=
  if h : neW c d = 1#1 then do
    Prog.lift (.enqueueDma (partV d b) (.remote (Dev.tc (cstDev d)) (rrV (slotI c d h) b) (.dma (rssS b d))) (.dma (rsrS b (slotI c d h)))
      (partV_exact d b) (rrV_exact (slotI c d h) b) ⟨⟨rfl, Or.inl rfl⟩, trivial⟩)
    pure ⟨⟩
  else do
    pure ⟨⟩

/-- Merge one head of slot `k`. -/
def mergeHead (b : Fin 2) (k : Fin 7) (a e : FVec F S512 .f32) (h : Fin 8) : Pr F PUnit := do
  let r : Vec F S1x64x64 .f32 ← Prog.lift (.load accM (accH b h).toLoadRect (View.loadsAt_vmem h_S1x64x64))
  let p : Vec F S1x1x64x64 .bf16 ← Prog.lift (.load rrM (rrH k b h).toLoadRect (View.loadsAt_vmem h_S1x1x64x64))
  let _ : Vec F S1x64x64 .f32 ← Prog.lift (.load accM (accH b h).toLoadRect (View.loadsAt_vmem h_S1x64x64))
  Prog.lift (.store accM (accH b h) (mAcc a e h r p) Finset.univ (View.stores_vmem_bits_univ h_S1x64x64 rfl) (.inl rfl))

/-- Wait for slot `k` and merge it. -/
def merge (b : Fin 2) (ml : FVec F S512 .f32 × FVec F S512 .f32) (k : Fin 7) : Pr F (FVec F S512 .f32 × FVec F S512 .f32) := do
  Prog.lift (.waitDma2 (rsrS b k) (partV 0 b) (rrV k b) (partV_exact 0 b) (rrV_exact k b))
  let mk : Vec F S1x1x1x512 .bf16 ← Prog.lift (.load rrM (rrR k b 0).toLoadRect (View.loadsAt_vmem h_S1x1x1x512))
  let lk : Vec F S1x1x1x512 .bf16 ← Prog.lift (.load rrM (rrR k b 1).toLoadRect (View.loadsAt_vmem h_S1x1x1x512))
  let m' := mMax ml.1 (rowV mk)
  let a := mFac ml.1 m'
  let e := mFac (rowV mk) m'
  seqL (mergeHead b k a e) devs
  pure (m', mSum a ml.2 e (rowV lk))

/-- Finish one head: divide, and keep it in the block that goes round. -/
def finHead (c : Dev nD) (b : Fin 2) (i : FVec F S512 .f32) (h : Fin 8) : Pr F PUnit := do
  let r : Vec F S1x64x64 .f32 ← Prog.lift (.load accM (accH b h).toLoadRect (View.loadsAt_vmem h_S1x64x64))
  let _ : Vec F S1x1x64x64 .bf16 ← Prog.lift (.load agM (agH (meI c) b h).toLoadRect (View.loadsAt_vmem h_S1x1x64x64))
  Prog.lift (.store agM (agH (meI c) b h) (fin i h r) Finset.univ (View.stores_vmem h_S1x1x64x64 ((Memref.isWhole_whole cc0_scratch2).storeExact_slice rfl _ (agH_packed (meI c) b h)) (fun _ => rfl)) (.inl rfl))

theorem rev7_lt : ∀ t : Fin 7, 6 - t.val < 7 := by decide
/-- The slot at which a block sent `t + 1` along arrives. -/
abbrev rev7 (t : Fin 7) : Fin 7 := ⟨6 - t.val, rev7_lt t⟩

/-- Send this device's finished block to the device `t + 1` along. -/
def agSend (c : Dev nD) (b : Fin 2) (t : Fin 7) : Pr F PUnit :=
  Prog.lift (.enqueueDma (agV (meI c) b) (.remote (Dev.tc (upDev c t)) (agV (meI c) b) (.dma (agsS b t))) (.dma (agrS b (rev7 t)))
    (agV_exact (meI c) b) (agV_exact (meI c) b) ⟨⟨rfl, Or.inl rfl⟩, trivial⟩)

/-- Multiply a finished block into its rows of the result. -/
def outRows (wo : FVec F S512x768 .bf16) (b : Fin 2) (w : BitVec 32) (hw : w.toNat < 8) : Pr F PUnit := do
  let p : Vec F S1x1x64x512 .bf16 ← Prog.lift (.load agM (agW ⟨w.toNat, hw⟩ b).toLoadRect (View.loadsAt_vmem h_S1x1x64x512))
  let _ : Vec F S1x64x768 .f32 ← Prog.lift (.load outM (outO w hw b).toLoadRect (View.loadsAt_vmem h_S1x64x768))
  Prog.lift (.store outM (outO w hw b) (outV wo p) Finset.univ (View.stores_vmem_bits_univ h_S1x64x768 rfl) (.inl rfl))

/-- Reduce a batch: start from this device's own part, merge the seven others, divide, send the
    block round and multiply it into the result. -/
def reduce (c : Dev nD) (wo : FVec F S512x768 .bf16) (b : Fin 2) : Pr F PUnit := do
  let p : Vec F S1x1x64x512 .bf16 ← Prog.lift (.load partM (partA (meI c) b).toLoadRect (View.loadsAt_vmem h_S1x1x64x512))
  let _ : Vec F S1x64x512 .f32 ← Prog.lift (.load accM (accA b).toLoadRect (View.loadsAt_vmem h_S1x64x512))
  Prog.lift (.store accM (accA b) (accV p) Finset.univ (View.stores_vmem_bits_univ h_S1x64x512 rfl) (.inl rfl))
  let m : Vec F S1x1x1x512 .bf16 ← Prog.lift (.load partM (partR (meI c) b 0).toLoadRect (View.loadsAt_vmem h_S1x1x1x512))
  let l : Vec F S1x1x1x512 .bf16 ← Prog.lift (.load partM (partR (meI c) b 1).toLoadRect (View.loadsAt_vmem h_S1x1x1x512))
  let ml ← foldL (merge b) slots (rowV m, rowV l)
  seqL (finHead c b (inv ml.2)) devs
  seqL (agSend c b) slots
  outRows wo b (meW c) (meW_lt c)

/-- Wait for the block of slot `k` and multiply it in. -/
def gather (c : Dev nD) (wo : FVec F S512x768 .bf16) (b : Fin 2) (k : Fin 7) : Pr F PUnit := do
  Prog.lift (.waitDma2 (agrS b k) (agV 0 b) (agV (meI c) b) (agV_exact 0 b) (agV_exact (meI c) b))
  outRows wo b (srcW c k) (srcW_lt c k)

/-- Wait until the partial results for device `d` have left. -/
def rsWait (c : Dev nD) (b : Fin 2) (d : Dev nD) : Pr F PUnit :=
  if h : neW c d = 1#1 then do
    Prog.lift (.waitDma2 (rssS b d) (rrV (slotI c d h) b) (partV d b) (rrV_exact (slotI c d h) b) (partV_exact d b))
    pure ⟨⟩
  else do
    pure ⟨⟩

/-- Wait until the finished block has left for the device `t + 1` along. -/
def agWait (c : Dev nD) (b : Fin 2) (t : Fin 7) : Pr F PUnit :=
  Prog.lift (.waitDma2 (agsS b t) (agV (meI c) b) (agV (meI c) b) (agV_exact (meI c) b) (agV_exact (meI c) b))

/-- The body on device `c`. -/
def bodyOn (c : Dev nD) : Pr F PUnit := do
  seqL (barSig c) devs
  let wq : Vec F S768x512 .f32 ← Prog.lift (.load wqM (Rect.unit (s := S768x512) ![0, 0] S768x512.size inb_S768x512_S768x512_0_0).toLoadRect (View.loadsAt_vmem h_S768x512))
  tiles (wqV wq) 0
  semWaitWord barS 7#32
  seqL (rsSend c 0) devs
  tiles (wqV wq) 1
  seqL (rsSend c 1) devs
  let wo : Vec F S512x768 .f32 ← Prog.lift (.load woM (Rect.unit (s := S512x768) ![0, 0] S512x768.size inb_S512x768_S512x768_0_0).toLoadRect (View.loadsAt_vmem h_S512x768))
  reduce c (woV wo) 0
  reduce c (woV wo) 1
  seqL (gather c (woV wo) 0) slots
  seqL (gather c (woV wo) 1) slots
  seqL (rsWait c 0) devs
  seqL (rsWait c 1) devs
  seqL (agWait c 0) slots
  seqL (agWait c 1) slots

end

end Cert.Attn
-- ==== Proof.Cont.lean ====
/- What each buffer holds, and when: functions of the blocks the devices are launched on. -/
module

public import proofs.«01_k».proof.Proof.Steps
public import Idealize.ShloMosaic.Lib.Pipeline.ValueKit.Geometry
public import Idealize.ShloMosaic.Lib.Pointwise.Index

@[expose] public section

namespace Cert.Attn

open Idealize.ShloMosaic Idealize.SL.Sem
open Cert.KernelIdeal Cert.KernelIdeal.Gen

noncomputable section

variable {F : FTy → Type} [FloatOps F]

/-- A device's five operands, as staged. -/
structure Stg (F : FTy → Type) where
  x : (cc0_stg0_0 : Ref sig .tc).ty.Contents (Elt F)
  wq : (cc0_stg1_0 : Ref sig .tc).ty.Contents (Elt F)
  k : (cc0_stg2_0 : Ref sig .tc).ty.Contents (Elt F)
  v : (cc0_stg3_0 : Ref sig .tc).ty.Contents (Elt F)
  wo : (cc0_stg4_0 : Ref sig .tc).ty.Contents (Elt F)

/-! ### The ring -/

/-- The device `k + 1` further along. -/
def up (c : Fin 8) (k : Fin 7) : Fin 8 := ⟨(c.val + k.val + 1) % 8, Nat.mod_lt _ (by decide)⟩
/-- The slot in which device `d` keeps what `c` sends it (of no use at `c = d`). -/
def slotOf (c d : Fin 8) : Fin 7 := ⟨((c.val + 15 - d.val) % 8) % 7, Nat.mod_lt _ (by decide)⟩

theorem up_ne : ∀ (c : Fin 8) (k : Fin 7), up c k ≠ c := by decide
theorem up_inj : ∀ (c : Fin 8) (k k' : Fin 7), up c k = up c k' → k = k' := by decide
theorem slotOf_up : ∀ (c : Fin 8) (k : Fin 7), slotOf (up c k) c = k := by decide
theorem up_slotOf : ∀ c d : Fin 8, c ≠ d → up d (slotOf c d) = c := by decide
theorem slotOf_up' : ∀ (c : Fin 8) (t : Fin 7), slotOf c (up c t) = rev7 t := by decide
theorem up_rev : ∀ (c : Fin 8) (t : Fin 7), up (up c t) (rev7 t) = c := by decide

theorem neW_iff : ∀ c d : Fin 8, neW c d = 1#1 ↔ d ≠ c := by decide +kernel
theorem slotI_eq : ∀ (c d : Fin 8) (h : neW c d = 1#1), slotI c d h = slotOf c d := by decide +kernel
theorem meI_eq : ∀ c : Fin 8, meI c = c := by decide +kernel
theorem srcI_eq : ∀ (c : Fin 8) (k : Fin 7), srcI c k = up c k := by decide +kernel
theorem upDev_eq : ∀ (c : Fin 8) (k : Fin 7), upDev c k = up c k := by decide +kernel
theorem cstDev_eq : ∀ d : Fin 8, cstDev d = d := by decide +kernel
theorem outRow : ∀ q : Fin 8, (Scalar.indexCast (Scalar.muli (BitVec.ofNat 32 q.val) 64#32)).toNat = 64 * q.val := by decide +kernel
theorem outRow' (w : BitVec 32) (hw : w.toNat < 8) : (Scalar.indexCast (Scalar.muli w 64#32)).toNat = 64 * w.toNat := by
  have e : BitVec.ofNat 32 w.toNat = w := by simp
  have := outRow ⟨w.toNat, hw⟩
  rwa [e] at this

/-! ### Loads and stores of rectangles -/

/-- Where a unit-stride rectangle puts an index. -/
theorem emb_of {s : Shape} (r : Rect s) (j : r.shape.Idx) (a : Fin s.rank) (o : Nat) (h : r.off a = o) (h' : r.stride a = 1) :
    (r.emb j a : Nat) = o + (j a).val := by
  rw [Rect.emb_apply, h, h', Nat.one_mul]

/-- What a load through `r` reads of contents `f`. -/
abbrev rd (b : Ref sig .tc) (r : Rect b.ty.shape) (f : b.ty.Contents (Elt F)) : r.shape.Idx → Elt F b.ty.elt :=
  ((Memref.whole b).access r).read (Elt F) f

omit [FloatOps F] in
theorem rd_apply (b : Ref sig .tc) (r : Rect b.ty.shape) (f : b.ty.Contents (Elt F)) (j : r.shape.Idx) : rd b r f j = f (r.emb j) := rfl

omit [FloatOps F] in
/-- Storing what `g` holds on `r` makes the contents `g` there, and leaves the rest. -/
theorem write_rd (b : Ref sig .tc) (r : Rect b.ty.shape) (f g : b.ty.Contents (Elt F)) (w : r.shape.Idx → Elt F b.ty.elt)
    (hw : w = rd b r g) (i : b.ty.shape.Idx) :
    (((Memref.whole b).access r).write (Elt F) f w Finset.univ : b.ty.Contents (Elt F)) i = if i ∈ r.set then g i else f i := by
  subst hw
  by_cases h : i ∈ r.set
  · rw [if_pos h]
    rw [← Rect.map_emb_univ] at h
    obtain ⟨j, -, rfl⟩ := Finset.mem_map.mp h
    exact View.write_emb_of_mem (v := (Memref.whole b).access r) f _ (Finset.mem_univ j)
  · rw [if_neg h]
    refine View.write_of_not_mem (v := (Memref.whole b).access r) f _ _ ?_
    rw [View.setOn_univ]
    show i ∉ ((View.whole b).slice r).set
    rwa [View.set_slice_whole]

/-! ### A device's partial results -/

/-- A batch's queries, scores and so on, of one device's blocks. -/
def ldX (s : Stg F) (b : Fin 2) : Vec F S1x512x768 .f32 := rd cc0_stg0_0 (xR b) s.x
def ldK (s : Stg F) (b : Fin 2) : Vec F S1x512x8x64 .f32 := rd cc0_stg2_0 (kvR b) s.k
def ldV (s : Stg F) (b : Fin 2) : Vec F S1x512x8x64 .f32 := rd cc0_stg3_0 (kvR b) s.v
def ldWq (s : Stg F) : Vec F S768x512 .f32 := rd cc0_stg1_0 (Rect.unit (s := S768x512) ![0, 0] S768x512.size inb_S768x512_S768x512_0_0) s.wq
def ldWo (s : Stg F) : Vec F S512x768 .f32 := rd cc0_stg4_0 (Rect.unit (s := S512x768) ![0, 0] S512x768.size inb_S512x768_S512x768_0_0) s.wo

/-- The scores of tile `(h, r)` of batch `b`. -/
def sc (s : Stg F) (b : Fin 2) (h : Fin 8) (r : Fin 4) : FVec F S128x128 .f32 :=
  tS (tQ (qV (ldX s b) (wqV (ldWq s))) h r) (tK (kvV (ldK s b)) h r)

/-- The tile's weighted sums, one half. -/
def gA (s : Stg F) (b : Fin 2) (h : Fin 8) (r : Fin 4) (g : Fin 2) : FVec F S1x1x64x64 .bf16 :=
  stA (tA (tW (sc s b h r)) (tK (kvV (ldV s b)) h r)) g
/-- The tile's maxima and sums, one half. -/
def gS (s : Stg F) (b : Fin 2) (h : Fin 8) (r : Fin 4) (g : Fin 2) : FVec F S1x1x2x64 .bf16 :=
  stS (tM (sc s b h r)) (tL (tW (sc s b h r))) g

abbrev hd (col : Fin 512) : Fin 8 := ⟨col.val / 64, by omega⟩
abbrev lo (col : Fin 512) : Fin 64 := ⟨col.val % 64, by omega⟩
abbrev q4 (q : Fin 8) : Fin 4 := ⟨q.val % 4, by omega⟩
abbrev q2 (q : Fin 8) : Fin 2 := ⟨q.val / 4, by omega⟩

/-- The partial results, element by element. -/
def gAt (s : Stg F) (q : Fin 8) (b : Fin 2) (row : Fin 66) (col : Fin 512) : Elt F .bf16 :=
  if h : row.val < 64 then gA s b (hd col) (q4 q) (q2 q) (ix4 (0 : Fin 1) (0 : Fin 1) (⟨row.val, h⟩ : Fin 64) (lo col))
  else gS s b (hd col) (q4 q) (q2 q) (ix4 (0 : Fin 1) (0 : Fin 1) (⟨row.val - 64, by omega⟩ : Fin 2) (lo col))

/-- A device's partial results. -/
def GF (s : Stg F) : (cc0_scratch0 : Ref sig .tc).ty.Contents (Elt F) :=
  fun (i : S8x2x66x512.Idx) => gAt s (i 0) (i 1) (i 2) (i 3)

theorem gA_congr {s : Stg F} {b b' : Fin 2} {h h' : Fin 8} {r r' : Fin 4} {g g' : Fin 2} {j j' : S1x1x64x64.Idx}
    (e1 : b.val = b'.val) (e2 : h.val = h'.val) (e3 : r.val = r'.val) (e4 : g.val = g'.val) (e5 : ∀ a, (j a).val = (j' a).val) :
    gA s b h r g j = gA s b' h' r' g' j' := by
  obtain rfl := Fin.ext e1; obtain rfl := Fin.ext e2; obtain rfl := Fin.ext e3; obtain rfl := Fin.ext e4
  obtain rfl : j = j' := funext fun a => Fin.ext (e5 a)
  rfl

theorem gS_congr {s : Stg F} {b b' : Fin 2} {h h' : Fin 8} {r r' : Fin 4} {g g' : Fin 2} {j j' : S1x1x2x64.Idx}
    (e1 : b.val = b'.val) (e2 : h.val = h'.val) (e3 : r.val = r'.val) (e4 : g.val = g'.val) (e5 : ∀ a, (j a).val = (j' a).val) :
    gS s b h r g j = gS s b' h' r' g' j' := by
  obtain rfl := Fin.ext e1; obtain rfl := Fin.ext e2; obtain rfl := Fin.ext e3; obtain rfl := Fin.ext e4
  obtain rfl : j = j' := funext fun a => Fin.ext (e5 a)
  rfl

theorem forall4 {P : Fin 4 → Prop} (h0 : P 0) (h1 : P 1) (h2 : P 2) (h3 : P 3) : ∀ a, P a
  | 0 => h0 | 1 => h1 | 2 => h2 | 3 => h3
theorem forall3 {P : Fin 3 → Prop} (h0 : P 0) (h1 : P 1) (h2 : P 2) : ∀ a, P a
  | 0 => h0 | 1 => h1 | 2 => h2

theorem gA_rd (s : Stg F) (b : Fin 2) (h : Fin 8) (r : Fin 4) (g : Fin 2) :
    gA s b h r g = rd cc0_scratch0 (partH (blk r g) b h) (GF s) := by
  funext (j : S1x1x64x64.Idx)
  have e0 : ((partH (blk r g) b h).emb j 0 : Nat) = (r.val + 4 * g.val) + (j 0).val := emb_of (partH (blk r g) b h) j 0 _ rfl rfl
  have e1 : ((partH (blk r g) b h).emb j 1 : Nat) = b.val + (j 1).val := emb_of (partH (blk r g) b h) j 1 _ rfl rfl
  have e2 : ((partH (blk r g) b h).emb j 2 : Nat) = 0 + (j 2).val := emb_of (partH (blk r g) b h) j 2 _ rfl rfl
  have e3 : ((partH (blk r g) b h).emb j 3 : Nat) = 64 * h.val + (j 3).val := emb_of (partH (blk r g) b h) j 3 _ rfl rfl
  have l0 : (j 0).val < 1 := (j 0).isLt
  have l1 : (j 1).val < 1 := (j 1).isLt
  have l2 : (j 2).val < 64 := (j 2).isLt
  have l3 : (j 3).val < 64 := (j 3).isLt
  rw [rd_apply]
  show _ = gAt s _ _ _ _
  unfold gAt
  rw [dif_pos (by omega)]
  refine gA_congr (by omega) (by show h.val = _ / 64; omega) (by show r.val = _ % 4; omega) (by show g.val = _ / 4; omega) (forall4 ?_ ?_ ?_ ?_)
  · show (j 0).val = 0; omega
  · show (j 1).val = 0; omega
  · show (j 2).val = _; rw [ix4_2]; show _ = ((partH (blk r g) b h).emb j 2 : Nat); omega
  · show (j 3).val = _; rw [ix4_3]; show _ = ((partH (blk r g) b h).emb j 3 : Nat) % 64; omega

theorem gS_rd (s : Stg F) (b : Fin 2) (h : Fin 8) (r : Fin 4) (g : Fin 2) :
    gS s b h r g = rd cc0_scratch0 (partS (blk r g) b h) (GF s) := by
  funext (j : S1x1x2x64.Idx)
  have e0 : ((partS (blk r g) b h).emb j 0 : Nat) = (r.val + 4 * g.val) + (j 0).val := emb_of (partS (blk r g) b h) j 0 _ rfl rfl
  have e1 : ((partS (blk r g) b h).emb j 1 : Nat) = b.val + (j 1).val := emb_of (partS (blk r g) b h) j 1 _ rfl rfl
  have e2 : ((partS (blk r g) b h).emb j 2 : Nat) = 64 + (j 2).val := emb_of (partS (blk r g) b h) j 2 _ rfl rfl
  have e3 : ((partS (blk r g) b h).emb j 3 : Nat) = 64 * h.val + (j 3).val := emb_of (partS (blk r g) b h) j 3 _ rfl rfl
  have l0 : (j 0).val < 1 := (j 0).isLt
  have l1 : (j 1).val < 1 := (j 1).isLt
  have l2 : (j 2).val < 2 := (j 2).isLt
  have l3 : (j 3).val < 64 := (j 3).isLt
  rw [rd_apply]
  show _ = gAt s _ _ _ _
  unfold gAt
  rw [dif_neg (by omega)]
  refine gS_congr (by omega) (by show h.val = _ / 64; omega) (by show r.val = _ % 4; omega) (by show g.val = _ / 4; omega) (forall4 ?_ ?_ ?_ ?_)
  · show (j 0).val = 0; omega
  · show (j 1).val = 0; omega
  · show (j 2).val = _; rw [ix4_2]; show _ = ((partS (blk r g) b h).emb j 2 : Nat) - 64; omega
  · show (j 3).val = _; rw [ix4_3]; show _ = ((partS (blk r g) b h).emb j 3 : Nat) % 64; omega

/-! ### What arrives, the merge, the finished blocks, the result -/

variable (E : Dev nD → Stg F)

/-- What arrives at device `c`: slot `k` holds the partial results, meant for `c`, of the device `k + 1` along. -/
def RRF (c : Dev nD) : (cc0_scratch1 : Ref sig .tc).ty.Contents (Elt F) :=
  fun (i : S7x2x66x512.Idx) => gAt (E (up c (i 0))) c (i 1) (i 2) (i 3)

/-- The state of a merge: maxima, sums, weighted sums. -/
structure MS (F : FTy → Type) where
  m : FVec F S512 .f32
  l : FVec F S512 .f32
  a : (cc0_scratch3 : Ref sig .tc).ty.Contents (Elt F)

/-- The merge starts from the device's own part. -/
def ms0 (c : Dev nD) (b : Fin 2) : MS F where
  m := rowV (rd cc0_scratch0 (partR c b 0) (GF (E c)))
  l := rowV (rd cc0_scratch0 (partR c b 1) (GF (E c)))
  a := fun (i : S2x64x512.Idx) => accV (rd cc0_scratch0 (partA c b) (GF (E c))) (ix3 (0 : Fin 1) (i 1) (i 2))

/-- Slot `k`'s maxima and sums. -/
def rowK (c : Dev nD) (b : Fin 2) (k : Fin 7) (j : Fin 2) : FVec F S512 .f32 := rowV (rd cc0_scratch1 (rrR k b j) (RRF E c))

def msM (c : Dev nD) (b : Fin 2) (s : MS F) (k : Fin 7) : FVec F S512 .f32 := mMax s.m (rowK E c b k 0)

/-- The weighted sums of one head after slot `k`. -/
def msH (c : Dev nD) (b : Fin 2) (s : MS F) (k : Fin 7) (h : Fin 8) : FVec F S1x64x64 .f32 :=
  mAcc (mFac s.m (msM E c b s k)) (mFac (rowK E c b k 0) (msM E c b s k)) h (rd cc0_scratch3 (accH b h) s.a) (rd cc0_scratch1 (rrH k b h) (RRF E c))

/-- One slot merged. -/
def msStep (c : Dev nD) (b : Fin 2) (s : MS F) (k : Fin 7) : MS F where
  m := msM E c b s k
  l := mSum (mFac s.m (msM E c b s k)) s.l (mFac (rowK E c b k 0) (msM E c b s k)) (rowK E c b k 1)
  a := fun (i : S2x64x512.Idx) => msH E c b s k (hd (i 2)) (ix3 (0 : Fin 1) (i 1) (lo (i 2)))

/-- The merge of the slots `l`, in order. -/
def ms (c : Dev nD) (b : Fin 2) (l : List (Fin 7)) : MS F := l.foldl (msStep E c b) (ms0 E c b)

/-- A head of a finished block. -/
def agB (c : Dev nD) (b : Fin 2) (h : Fin 8) : FVec F S1x1x64x64 .bf16 :=
  fin (inv (ms E c b slots).l) h (rd cc0_scratch3 (accH b h) (ms E c b slots).a)

/-- The finished blocks of all devices. -/
def AGF : (cc0_scratch2 : Ref sig .tc).ty.Contents (Elt F) :=
  fun (i : S8x2x64x512.Idx) => agB E (i 0) (i 1) (hd (i 3)) (ix4 (0 : Fin 1) (0 : Fin 1) (i 2) (lo (i 3)))

/-- Device `d`'s rows of the result, as device `c` computes them. -/
def outB (c : Dev nD) (b : Fin 2) (d : Fin 8) : FVec F S1x64x768 .f32 :=
  outV (woV (ldWo (E c))) (rd cc0_scratch2 (agW d b) (AGF E))

/-- The result on device `c`. -/
def OUTF (c : Dev nD) : (cc0_stg5_0 : Ref sig .tc).ty.Contents (Elt F) :=
  fun (i : S2x512x768.Idx) => outB E c (i 0) (hd (i 1)) (ix3 (0 : Fin 1) (lo (i 1)) (i 2))

theorem acc0_rd (c : Dev nD) (b : Fin 2) : accV (rd cc0_scratch0 (partA c b) (GF (E c))) = rd cc0_scratch3 (accA b) (ms0 E c b).a := by
  funext (j : S1x64x512.Idx)
  have e1 : ((accA b).emb j 1 : Nat) = 0 + (j 1).val := emb_of (accA b) j 1 _ rfl rfl
  have e2 : ((accA b).emb j 2 : Nat) = 0 + (j 2).val := emb_of (accA b) j 2 _ rfl rfl
  have l0 : (j 0).val < 1 := (j 0).isLt
  rw [rd_apply]
  refine congrArg (accV (rd cc0_scratch0 (partA c b) (GF (E c)))) (funext (forall3 ?_ ?_ ?_)) <;> refine Fin.ext ?_
  · show (j 0).val = 0; omega
  · show (j 1).val = ((accA b).emb j 1 : Nat); omega
  · show (j 2).val = ((accA b).emb j 2 : Nat); omega

theorem accH_rd (c : Dev nD) (b : Fin 2) (s : MS F) (k : Fin 7) (h : Fin 8) : msH E c b s k h = rd cc0_scratch3 (accH b h) (msStep E c b s k).a := by
  funext (j : S1x64x64.Idx)
  have e1 : ((accH b h).emb j 1 : Nat) = 0 + (j 1).val := emb_of (accH b h) j 1 _ rfl rfl
  have e2 : ((accH b h).emb j 2 : Nat) = 64 * h.val + (j 2).val := emb_of (accH b h) j 2 _ rfl rfl
  have l0 : (j 0).val < 1 := (j 0).isLt
  have l2 : (j 2).val < 64 := (j 2).isLt
  rw [rd_apply]
  show _ = msH E c b s k _ _
  have eh : hd ((accH b h).emb j 2) = h := Fin.ext (by show ((accH b h).emb j 2 : Nat) / 64 = _; omega)
  rw [eh]
  refine congrArg (msH E c b s k h) (funext (forall3 ?_ ?_ ?_)) <;> refine Fin.ext ?_
  · show (j 0).val = 0; omega
  · show (j 1).val = ((accH b h).emb j 1 : Nat); omega
  · show (j 2).val = ((accH b h).emb j 2 : Nat) % 64; omega

theorem agH_rd (c : Dev nD) (b : Fin 2) (h : Fin 8) : agB E c b h = rd cc0_scratch2 (agH c b h) (AGF E) := by
  funext (j : S1x1x64x64.Idx)
  have e0 : ((agH c b h).emb j 0 : Nat) = c.val + (j 0).val := emb_of (agH c b h) j 0 _ rfl rfl
  have e1 : ((agH c b h).emb j 1 : Nat) = b.val + (j 1).val := emb_of (agH c b h) j 1 _ rfl rfl
  have e2 : ((agH c b h).emb j 2 : Nat) = 0 + (j 2).val := emb_of (agH c b h) j 2 _ rfl rfl
  have e3 : ((agH c b h).emb j 3 : Nat) = 64 * h.val + (j 3).val := emb_of (agH c b h) j 3 _ rfl rfl
  have l0 : (j 0).val < 1 := (j 0).isLt
  have l1 : (j 1).val < 1 := (j 1).isLt
  have l3 : (j 3).val < 64 := (j 3).isLt
  rw [rd_apply]
  show _ = agB E _ _ _ _
  have h0 : ((agH c b h).emb j 0 : Fin 8) = c := Fin.ext (by omega)
  have h1 : ((agH c b h).emb j 1 : Fin 2) = b := Fin.ext (by omega)
  have eh : hd ((agH c b h).emb j 3) = h := Fin.ext (by show ((agH c b h).emb j 3 : Nat) / 64 = _; omega)
  rw [h0, h1, eh]
  refine congrArg (agB E c b h) (funext (forall4 ?_ ?_ ?_ ?_)) <;> refine Fin.ext ?_
  · show (j 0).val = 0; omega
  · show (j 1).val = 0; omega
  · show (j 2).val = ((agH c b h).emb j 2 : Nat); omega
  · show (j 3).val = ((agH c b h).emb j 3 : Nat) % 64; omega

theorem outO_rd (c : Dev nD) (b : Fin 2) (w : BitVec 32) (hw : w.toNat < 8) :
    outB E c b ⟨w.toNat, hw⟩ = rd cc0_stg5_0 (outO w hw b) (OUTF E c) := by
  funext (j : S1x64x768.Idx)
  have e0 : ((outO w hw b).emb j 0 : Nat) = b.val + (j 0).val := emb_of (outO w hw b) j 0 _ rfl rfl
  have e1 : ((outO w hw b).emb j 1 : Nat) = 64 * w.toNat + (j 1).val :=
    (emb_of (outO w hw b) j 1 _ rfl rfl).trans (congrArg (· + (j 1).val) (outRow' w hw))
  have e2 : ((outO w hw b).emb j 2 : Nat) = 0 + (j 2).val := emb_of (outO w hw b) j 2 _ rfl rfl
  have l0 : (j 0).val < 1 := (j 0).isLt
  have l1 : (j 1).val < 64 := (j 1).isLt
  rw [rd_apply]
  show _ = outB E c _ _ _
  have h0 : ((outO w hw b).emb j 0 : Fin 2) = b := Fin.ext (by omega)
  have eh : hd ((outO w hw b).emb j 1) = ⟨w.toNat, hw⟩ := Fin.ext (by show ((outO w hw b).emb j 1 : Nat) / 64 = w.toNat; omega)
  rw [h0, eh]
  refine congrArg (outB E c b _) (funext (forall3 ?_ ?_ ?_)) <;> refine Fin.ext ?_
  · show (j 0).val = 0; omega
  · show (j 1).val = ((outO w hw b).emb j 1 : Nat) % 64; omega
  · show (j 2).val = ((outO w hw b).emb j 2 : Nat); omega

end

end Cert.Attn
-- ==== Proof.Base.lean ====
/- The setting of the run: the resources, weakest preconditions of the steps, loops. -/
module

public import proofs.«01_k».proof.Proof.Cont
public import Idealize.ShloMosaic.Lib.Pipeline.Launch
public import Idealize.ShloMosaic.Lib.Pipeline.Kit
public import Idealize.ShloMosaic.Lib.ShareLeaves
public import Idealize.ShloMosaic.Lib.Tactic

@[expose] public section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

noncomputable section

variable {F : FTy → Type} [FloatOps F]

/-- Rounds of the cells; a duty is named by the device that pays it. -/
abbrev UB : Type := URounds (GSem nD τ sig) (Fin 8)
abbrev UU : Type := UR sig nD τ × UB
abbrev MM (F : FTy → Type) : Type := MT nD τ sig Unit (Elt F) ℕ UU ℕ
abbrev SP (F : FTy → Type) := sProp (MM F)

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The weakest precondition of a program on device `c`'s core. -/
abbrev WP {α : Type} (c : Dev nD) (p : Pr F α) (Q : α → SP F) : SP F :=
  wp frame (wpE (defs₀ (F := F)) 𝒱₀ (c : Thread nD τ) none) Set.univ p Q

/-- Elements `S` of buffer `b` on device `c`, at share `q`, with contents `f`. -/
abbrev pt (c : Dev nD) (b : Ref sig .tc) (S : Finset b.ty.shape.Idx) (q : PosShare TreeShare) (f : b.ty.Contents (Elt F)) : SP F :=
  iprop(((c : Thread nD τ).loc b) ↦[S]{q} (show Buf (Elt F) ((c : Thread nD τ).loc b) from f))

/-- The first of a list of resources, and the rest. -/
theorem consL {I : Type} (i : I) (l : List I) (Φ : I → SP F) : bigSepL (i :: l) Φ = iprop(Φ i ∗ bigSepL l Φ) := bigSepL_cons i l Φ

/-! ### Programs in sequence -/

section seq
variable {α β : Type} (c : Dev nD)

theorem WP_bind (p : Pr F α) (k : α → Pr F β) (Q : β → SP F) : WP c (p >>= k) Q = WP c p fun a => WP c (k a) Q :=
  wp_bind _ _ _ p k Q

theorem WP_mono {p : Pr F α} {Q Q' : α → SP F} (h : ∀ a, Q a ⊢ Q' a) : WP c p Q ⊢ WP c p Q' := wp_mono _ _ _ h

theorem WP_ret (a : α) (Q : α → SP F) : Q a ⊢ WP c (pure a : Pr F α) Q := le_wp_ret _ _ _ a Q

/-- Run `p` from `P`, keep `R` aside, and go on. -/
theorem WP_seq {P R : SP F} {p : Pr F α} {k : α → Pr F β} {Q : α → SP F} {Q' : β → SP F}
    (h : P ⊢ WP c p Q) (h' : ∀ a, iprop(Q a ∗ R) ⊢ WP c (k a) Q') : iprop(P ∗ R) ⊢ WP c (p >>= k) Q' := by
  rw [WP_bind]
  exact ((sep_mono_left h).trans (wp_frame_r _ _ _)).trans (WP_mono c h')

/-- The same at the end of a program. -/
theorem WP_last {P R : SP F} {p : Pr F α} {Q Q' : α → SP F}
    (h : P ⊢ WP c p Q) (h' : ∀ a, iprop(Q a ∗ R) ⊢ Q' a) : iprop(P ∗ R) ⊢ WP c p Q' :=
  ((sep_mono_left h).trans (wp_frame_r _ _ _)).trans (WP_mono c h')

/-- A loop: each pass takes its own resources `Pre x` and leaves `Post x`, and `J` is what goes along. -/
theorem WP_loop {f : α → Pr F PUnit} {J : List α → SP F} {Pre Post : α → SP F}
    (h : ∀ x xs, iprop(J (x :: xs) ∗ Pre x) ⊢ WP c (f x) fun _ => iprop(J xs ∗ Post x)) (l : List α) :
    iprop(J l ∗ bigSepL l Pre) ⊢ WP c (seqL f l) fun _ => iprop(J [] ∗ bigSepL l Post) := by
  induction l with
  | nil =>
    unfold seqL
    exact WP_ret c (⟨⟩ : PUnit) (fun _ => iprop(J [] ∗ bigSepL [] Post))
  | cons x xs ih =>
    unfold seqL
    rw [consL, consL]
    have e : iprop(J (x :: xs) ∗ Pre x ∗ bigSepL xs Pre) ⊢ iprop((J (x :: xs) ∗ Pre x) ∗ bigSepL xs Pre) := by
      iintro ⟨H1, H2, H3⟩
      isplitl [H1 H2]
      · isplitl [H1] <;> iassumption
      iexact H3
    refine e.trans (WP_seq c (h x xs) fun _ => ?_)
    have e2 : iprop((J xs ∗ Post x) ∗ bigSepL xs Pre) ⊢ iprop((J xs ∗ bigSepL xs Pre) ∗ Post x) := by
      iintro ⟨⟨H1, H2⟩, H3⟩
      isplitl [H1 H3]
      · isplitl [H1] <;> iassumption
      iexact H2
    refine e2.trans (WP_last c ih fun _ => ?_)
    iintro ⟨⟨H1, H2⟩, H3⟩
    isplitl [H1]; · iexact H1
    isplitl [H3] <;> iassumption

/-- A loop that hands a state along. -/
theorem WP_loopS {σ : Type} {f : σ → α → Pr F σ} {J : List α → σ → SP F} {Pre Post : α → SP F}
    (h : ∀ x xs s, iprop(J (x :: xs) s ∗ Pre x) ⊢ WP c (f s x) fun s' => iprop(J xs s' ∗ Post x)) (l : List α) (s : σ) :
    iprop(J l s ∗ bigSepL l Pre) ⊢ WP c (foldL f l s) fun s' => iprop(J [] s' ∗ bigSepL l Post) := by
  induction l generalizing s with
  | nil =>
    unfold foldL
    exact WP_ret c s (fun s' => iprop(J [] s' ∗ bigSepL [] Post))
  | cons x xs ih =>
    unfold foldL
    rw [consL, consL]
    have e : iprop(J (x :: xs) s ∗ Pre x ∗ bigSepL xs Pre) ⊢ iprop((J (x :: xs) s ∗ Pre x) ∗ bigSepL xs Pre) := by
      iintro ⟨H1, H2, H3⟩
      isplitl [H1 H2]
      · isplitl [H1] <;> iassumption
      iexact H3
    refine e.trans (WP_seq c (h x xs s) fun s' => ?_)
    have e2 : iprop((J xs s' ∗ Post x) ∗ bigSepL xs Pre) ⊢ iprop((J xs s' ∗ bigSepL xs Pre) ∗ Post x) := by
      iintro ⟨⟨H1, H2⟩, H3⟩
      isplitl [H1 H3]
      · isplitl [H1] <;> iassumption
      iexact H2
    refine e2.trans (WP_last c (ih s') fun _ => ?_)
    iintro ⟨⟨H1, H2⟩, H3⟩
    isplitl [H1]; · iexact H1
    isplitl [H3] <;> iassumption

/-- A loop over something all passes share and change. -/
theorem WP_loop1 {f : α → Pr F PUnit} {J : List α → SP F}
    (h : ∀ x xs, J (x :: xs) ⊢ WP c (f x) fun _ => J xs) (l : List α) : J l ⊢ WP c (seqL f l) fun _ => J [] := by
  induction l with
  | nil => unfold seqL; exact WP_ret c (⟨⟩ : PUnit) (fun _ => J [])
  | cons x xs ih =>
    unfold seqL
    rw [WP_bind]
    exact (h x xs).trans (WP_mono c fun _ => ih)

end seq

/-! ### Windows as sets of indices -/

/-- Where the buffers are cut into windows: one per device (or slot) and batch. -/
abbrev partSet (q : Fin 8) (b : Fin 2) : Finset S8x2x66x512.Idx := (partW q b).set
abbrev rrSet (k : Fin 7) (b : Fin 2) : Finset S7x2x66x512.Idx := (rrW k b).set
abbrev agSet (q : Fin 8) (b : Fin 2) : Finset S8x2x64x512.Idx := (agW q b).set

theorem mem_part {q : Fin 8} {b : Fin 2} {i : S8x2x66x512.Idx} : i ∈ partSet q b ↔ (i 0).val = q.val ∧ (i 1).val = b.val := by
  rw [Rect.mem_set_unit]
  have h2 : (i 2).val < 66 := (i 2).isLt
  have h3 : (i 3).val < 512 := (i 3).isLt
  constructor
  · intro h
    have a0 : q.val ≤ (i 0).val ∧ (i 0).val < q.val + 1 := h 0
    have a1 : b.val ≤ (i 1).val ∧ (i 1).val < b.val + 1 := h 1
    omega
  · rintro ⟨h0, h1⟩
    refine forall4 ?_ ?_ ?_ ?_
    · show q.val ≤ (i 0).val ∧ (i 0).val < q.val + 1; omega
    · show b.val ≤ (i 1).val ∧ (i 1).val < b.val + 1; omega
    · show 0 ≤ (i 2).val ∧ (i 2).val < 0 + 66; omega
    · show 0 ≤ (i 3).val ∧ (i 3).val < 0 + 512; omega

theorem mem_rr {q : Fin 7} {b : Fin 2} {i : S7x2x66x512.Idx} : i ∈ rrSet q b ↔ (i 0).val = q.val ∧ (i 1).val = b.val := by
  rw [Rect.mem_set_unit]
  have h2 : (i 2).val < 66 := (i 2).isLt
  have h3 : (i 3).val < 512 := (i 3).isLt
  constructor
  · intro h
    have a0 : q.val ≤ (i 0).val ∧ (i 0).val < q.val + 1 := h 0
    have a1 : b.val ≤ (i 1).val ∧ (i 1).val < b.val + 1 := h 1
    omega
  · rintro ⟨h0, h1⟩
    refine forall4 ?_ ?_ ?_ ?_
    · show q.val ≤ (i 0).val ∧ (i 0).val < q.val + 1; omega
    · show b.val ≤ (i 1).val ∧ (i 1).val < b.val + 1; omega
    · show 0 ≤ (i 2).val ∧ (i 2).val < 0 + 66; omega
    · show 0 ≤ (i 3).val ∧ (i 3).val < 0 + 512; omega

theorem mem_ag {q : Fin 8} {b : Fin 2} {i : S8x2x64x512.Idx} : i ∈ agSet q b ↔ (i 0).val = q.val ∧ (i 1).val = b.val := by
  rw [Rect.mem_set_unit]
  have h2 : (i 2).val < 64 := (i 2).isLt
  have h3 : (i 3).val < 512 := (i 3).isLt
  constructor
  · intro h
    have a0 : q.val ≤ (i 0).val ∧ (i 0).val < q.val + 1 := h 0
    have a1 : b.val ≤ (i 1).val ∧ (i 1).val < b.val + 1 := h 1
    omega
  · rintro ⟨h0, h1⟩
    refine forall4 ?_ ?_ ?_ ?_
    · show q.val ≤ (i 0).val ∧ (i 0).val < q.val + 1; omega
    · show b.val ≤ (i 1).val ∧ (i 1).val < b.val + 1; omega
    · show 0 ≤ (i 2).val ∧ (i 2).val < 0 + 64; omega
    · show 0 ≤ (i 3).val ∧ (i 3).val < 0 + 512; omega

/-- A pair of window numbers; the windows of different pairs are disjoint. -/
theorem part_disj : ∀ p ∈ (Finset.univ : Finset (Fin 8 × Fin 2)), ∀ p' ∈ (Finset.univ : Finset (Fin 8 × Fin 2)), p ≠ p' →
    Disjoint (partSet p.1 p.2) (partSet p'.1 p'.2) := by
  intro p _ p' _ hne
  rw [Finset.disjoint_left]
  intro i h h'
  rw [mem_part] at h h'
  exact hne (Prod.ext (Fin.ext (h.1.symm.trans h'.1)) (Fin.ext (h.2.symm.trans h'.2)))
theorem rr_disj : ∀ p ∈ (Finset.univ : Finset (Fin 7 × Fin 2)), ∀ p' ∈ (Finset.univ : Finset (Fin 7 × Fin 2)), p ≠ p' →
    Disjoint (rrSet p.1 p.2) (rrSet p'.1 p'.2) := by
  intro p _ p' _ hne
  rw [Finset.disjoint_left]
  intro i h h'
  rw [mem_rr] at h h'
  exact hne (Prod.ext (Fin.ext (h.1.symm.trans h'.1)) (Fin.ext (h.2.symm.trans h'.2)))
theorem ag_disj : ∀ p ∈ (Finset.univ : Finset (Fin 8 × Fin 2)), ∀ p' ∈ (Finset.univ : Finset (Fin 8 × Fin 2)), p ≠ p' →
    Disjoint (agSet p.1 p.2) (agSet p'.1 p'.2) := by
  intro p _ p' _ hne
  rw [Finset.disjoint_left]
  intro i h h'
  rw [mem_ag] at h h'
  exact hne (Prod.ext (Fin.ext (h.1.symm.trans h'.1)) (Fin.ext (h.2.symm.trans h'.2)))

theorem part_cover : (Finset.univ : Finset (Fin 8 × Fin 2)).biUnion (fun p => partSet p.1 p.2) = Finset.univ := by
  ext (i : S8x2x66x512.Idx)
  simp only [Finset.mem_biUnion, Finset.mem_univ, true_and, iff_true]
  exact ⟨(i 0, i 1), mem_part.mpr ⟨rfl, rfl⟩⟩
theorem rr_cover : (Finset.univ : Finset (Fin 7 × Fin 2)).biUnion (fun p => rrSet p.1 p.2) = Finset.univ := by
  ext (i : S7x2x66x512.Idx)
  simp only [Finset.mem_biUnion, Finset.mem_univ, true_and, iff_true]
  exact ⟨(i 0, i 1), mem_rr.mpr ⟨rfl, rfl⟩⟩
theorem ag_cover : (Finset.univ : Finset (Fin 8 × Fin 2)).biUnion (fun p => agSet p.1 p.2) = Finset.univ := by
  ext (i : S8x2x64x512.Idx)
  simp only [Finset.mem_biUnion, Finset.mem_univ, true_and, iff_true]
  exact ⟨(i 0, i 1), mem_ag.mpr ⟨rfl, rfl⟩⟩

theorem partV_set (q : Fin 8) (b : Fin 2) : (partV q b).view.set = partSet q b := by
  show (((View.whole cc0_scratch0).slice (partW q b)).reshape _ _).set = _
  rw [View.set_reshape, View.set_slice_whole]
theorem rrV_set (q : Fin 7) (b : Fin 2) : (rrV q b).view.set = rrSet q b := by
  show (((View.whole cc0_scratch1).slice (rrW q b)).reshape _ _).set = _
  rw [View.set_reshape, View.set_slice_whole]
theorem agV_set (q : Fin 8) (b : Fin 2) : (agV q b).view.set = agSet q b := by
  show (((View.whole cc0_scratch2).slice (agW q b)).reshape _ _).set = _
  rw [View.set_reshape, View.set_slice_whole]

/-! A rectangle inside a window. -/

/-- One unit-stride rectangle inside another. -/
theorem unit_sub {s : Shape} {o o' z z' : Fin s.rank → Nat} {h h'} (hz : ∀ a, o' a ≤ o a ∧ o a + z a ≤ o' a + z' a) :
    (Rect.unit o z h : Rect s).set ⊆ (Rect.unit o' z' h' : Rect s).set := by
  intro i hi
  rw [Rect.mem_set_unit] at hi ⊢
  intro a
  have := hi a
  have := hz a
  omega

theorem partH_sub : ∀ q b h, (partH q b h).set ⊆ partSet q b := fun q b h => unit_sub
  (by revert q b h; decide +kernel)
theorem partS_sub : ∀ q b h, (partS q b h).set ⊆ partSet q b := fun q b h => unit_sub
  (by revert q b h; decide +kernel)
theorem partA_sub : ∀ q b, (partA q b).set ⊆ partSet q b := fun q b => unit_sub
  (by revert q b; decide +kernel)
theorem partR_sub : ∀ q b j, (partR q b j).set ⊆ partSet q b := fun q b j => unit_sub
  (by revert q b j; decide +kernel)
theorem rrH_sub : ∀ q b h, (rrH q b h).set ⊆ rrSet q b := fun q b h => unit_sub
  (by revert q b h; decide +kernel)
theorem rrR_sub : ∀ q b j, (rrR q b j).set ⊆ rrSet q b := fun q b j => unit_sub
  (by revert q b j; decide +kernel)
theorem agH_sub : ∀ q b h, (agH q b h).set ⊆ agSet q b := fun q b h => unit_sub
  (by revert q b h; decide +kernel)

/-! ### What a copy lands -/

theorem gAt_congr {s : Stg F} {q q' : Fin 8} {b b' : Fin 2} {row row' : Fin 66} {col col' : Fin 512}
    (h0 : q.val = q'.val) (h1 : b.val = b'.val) (h2 : row.val = row'.val) (h3 : col.val = col'.val) : gAt s q b row col = gAt s q' b' row' col' := by
  obtain rfl := Fin.ext h0; obtain rfl := Fin.ext h1; obtain rfl := Fin.ext h2; obtain rfl := Fin.ext h3
  rfl

/-- An index of a window of the partial results, and of the slot it is copied to. -/
theorem part_at (E : Dev nD → Stg F) (c d : Fin 8) (b : Fin 2) (h : c ≠ d) (j : S1x1x66x512.Idx) :
    GF (E c) ((partW d b).emb j) = RRF E d ((rrW (slotOf c d) b).emb j) := by
  have l0 : (j 0).val < 1 := (j 0).isLt
  have l1 : (j 1).val < 1 := (j 1).isLt
  have e0 : ((partW d b).emb j 0 : Nat) = d.val + (j 0).val := emb_of (partW d b) j 0 _ rfl rfl
  have e1 : ((partW d b).emb j 1 : Nat) = b.val + (j 1).val := emb_of (partW d b) j 1 _ rfl rfl
  have e2 : ((partW d b).emb j 2 : Nat) = 0 + (j 2).val := emb_of (partW d b) j 2 _ rfl rfl
  have e3 : ((partW d b).emb j 3 : Nat) = 0 + (j 3).val := emb_of (partW d b) j 3 _ rfl rfl
  have f0 : ((rrW (slotOf c d) b).emb j 0 : Nat) = (slotOf c d).val + (j 0).val := emb_of (rrW (slotOf c d) b) j 0 _ rfl rfl
  have f1 : ((rrW (slotOf c d) b).emb j 1 : Nat) = b.val + (j 1).val := emb_of (rrW (slotOf c d) b) j 1 _ rfl rfl
  have f2 : ((rrW (slotOf c d) b).emb j 2 : Nat) = 0 + (j 2).val := emb_of (rrW (slotOf c d) b) j 2 _ rfl rfl
  have f3 : ((rrW (slotOf c d) b).emb j 3 : Nat) = 0 + (j 3).val := emb_of (rrW (slotOf c d) b) j 3 _ rfl rfl
  have hs : ((rrW (slotOf c d) b).emb j 0 : Fin 7) = slotOf c d := Fin.ext (by omega)
  show gAt (E c) _ _ _ _ = gAt (E (up d ((rrW (slotOf c d) b).emb j 0))) d _ _ _
  rw [hs, up_slotOf c d h]
  exact gAt_congr (by omega) (by omega) (by omega) (by omega)

/-- A copied window of partial results. -/
theorem part_lands (E : Dev nD → Stg F) (c d : Fin 8) (b : Fin 2) (h : c ≠ d) (fd : (cc0_scratch1 : Ref sig .tc).ty.Contents (Elt F))
    (i : S7x2x66x512.Idx) (hi : i ∈ rrSet (slotOf c d) b) :
    ((rrV (slotOf c d) b).view.write (Elt F) fd ((partV d b).view.read (Elt F) (GF (E c))) Finset.univ : (cc0_scratch1 : Ref sig .tc).ty.Contents (Elt F)) i
      = RRF E d i := by
  rw [← rrV_set, ← View.setOn_univ] at hi
  obtain ⟨j, -, rfl⟩ := Finset.mem_map.mp hi
  exact (View.write_emb_of_mem (v := (rrV (slotOf c d) b).view) fd _ (Finset.mem_univ j)).trans
    (part_at E c d b h (Shape.reshapeEquiv (s := S1x1x66x512) (s' := S66x512) (by decide) j))

/-- A copied finished block lands as itself. -/
theorem ag_lands (q : Fin 8) (b : Fin 2) (f fd : (cc0_scratch2 : Ref sig .tc).ty.Contents (Elt F)) (i : S8x2x64x512.Idx) (hi : i ∈ agSet q b) :
    ((agV q b).view.write (Elt F) fd ((agV q b).view.read (Elt F) f) Finset.univ : (cc0_scratch2 : Ref sig .tc).ty.Contents (Elt F)) i = f i := by
  rw [← agV_set, ← View.setOn_univ] at hi
  obtain ⟨j, -, rfl⟩ := Finset.mem_map.mp hi
  exact View.write_emb_of_mem (v := (agV q b).view) fd _ (Finset.mem_univ j)

end

end Cert.Attn
-- ==== Proof.Proto.lean ====
/- The protocol: the semaphores' cells, who pays them, what they hand over. -/
module

public import proofs.«01_k».proof.Proof.Base

@[expose] public section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

noncomputable section

variable {F : FTy → Type} [FloatOps F]

/-! ### A device's cells -/

/-- A device's semaphores: the barrier; sent partial results; arrived ones; sent blocks; arrived ones. -/
abbrev Key : Type := Unit ⊕ ((Fin 2 × Fin 8) ⊕ ((Fin 2 × Fin 7) ⊕ ((Fin 2 × Fin 7) ⊕ (Fin 2 × Fin 7))))
instance : DecidableEq Key := instDecidableEqSum
instance : DecidableEq (Dev nD × Key) := instDecidableEqProd
@[match_pattern] abbrev kBar : Key := .inl ()
@[match_pattern] abbrev kRss (b : Fin 2) (d : Fin 8) : Key := .inr (.inl (b, d))
@[match_pattern] abbrev kRsr (b : Fin 2) (k : Fin 7) : Key := .inr (.inr (.inl (b, k)))
@[match_pattern] abbrev kAgs (b : Fin 2) (t : Fin 7) : Key := .inr (.inr (.inr (.inl (b, t))))
@[match_pattern] abbrev kAgr (b : Fin 2) (k : Fin 7) : Key := .inr (.inr (.inr (.inr (b, k))))

/-- The semaphore of a key. -/
def csem : Key → SemLoc sig
  | .inl _ => .reg barS
  | .inr (.inl (b, d)) => .dma (rssS b d)
  | .inr (.inr (.inl (b, k))) => .dma (rsrS b k)
  | .inr (.inr (.inr (.inl (b, t)))) => .dma (agsS b t)
  | .inr (.inr (.inr (.inr (b, k)))) => .dma (agrS b k)

theorem csem_inj : Function.Injective csem := by
  have h : ∀ k k' : Key, csem k = csem k' → k = k' := by decide +kernel
  exact fun k k' => h k k'

abbrev kcell (ck : Dev nD × Key) : GSem nD τ sig := ((ck.1 : Thread nD τ), csem ck.2)

theorem kcell_inj : Function.Injective kcell := by
  rintro ⟨c, k⟩ ⟨c', k'⟩ h
  have h1 : c = c' := congrArg (fun g : GSem nD τ sig => g.1.1) h
  have h2 : csem k = csem k' := congrArg Prod.snd h
  rw [h1, csem_inj h2]

open Classical in
/-- The key of a semaphore, if it has one. -/
def keyOf (sm : SemLoc sig) : Option Key := if h : ∃ k, csem k = sm then some h.choose else none

theorem keyOf_csem (k : Key) : keyOf (csem k) = some k := by
  have h : ∃ k', csem k' = csem k := ⟨k, rfl⟩
  unfold keyOf
  rw [dif_pos h]
  exact congrArg some (csem_inj h.choose_spec)

theorem csem_keyOf {sm : SemLoc sig} {k : Key} (h : keyOf sm = some k) : csem k = sm := by
  unfold keyOf at h
  split at h
  · next h' => rw [← Option.some.inj h]; exact h'.choose_spec
  · cases h

/-! ### The schedule: one round, each cell's duties named by the devices that pay them -/

/-- The units of a copied window of partial results, and of a copied block. -/
def N1 : ℕ := (rrV 0 0).view.dmaCredit
def N2 : ℕ := (agV 0 0).view.dmaCredit
theorem rr_credit (k : Fin 7) (b : Fin 2) : (rrV k b).view.dmaCredit = N1 := rfl
theorem part_credit (q : Fin 8) (b : Fin 2) : (partV q b).view.dmaCredit = N1 := by
  have h : (partV 0 0).view.dmaCredit = (rrV 0 0).view.dmaCredit := by decide +kernel
  exact h
theorem ag_credit (q : Fin 8) (b : Fin 2) : (agV q b).view.dmaCredit = N2 := rfl
theorem N1_pos : 0 < N1 := View.dmaCredit_pos _ (by decide)
theorem N2_pos : 0 < N2 := View.dmaCredit_pos _ (by decide)

/-- Who pays a cell. -/
def dut (c : Fin 8) : Key → Finset (Fin 8)
  | .inl _ => Finset.univ.erase c
  | .inr (.inl (_, d)) => if d = c then ∅ else {c}
  | .inr (.inr (.inl (_, k))) => {up c k}
  | .inr (.inr (.inr (.inl _))) => {c}
  | .inr (.inr (.inr (.inr (_, k)))) => {up c k}

/-- How much. -/
def amt : Key → ℕ
  | .inl _ => 1
  | .inr (.inl _) => N1
  | .inr (.inr (.inl _)) => N1
  | .inr (.inr (.inr (.inl _))) => N2
  | .inr (.inr (.inr (.inr _))) => N2

theorem amt_pos (k : Key) : 0 < amt k := by
  rcases k with _ | _ | _ | _ | _
  · exact Nat.one_pos
  · exact N1_pos
  · exact N1_pos
  · exact N2_pos
  · exact N2_pos

variable (E : Dev nD → Stg F)

/-- The places at device `d` in which `c` may write, for batch `b`. -/
def room (c d : Fin 8) (b : Fin 2) : SP F :=
  iprop((∃ f, pt d cc0_scratch1 (rrSet (slotOf c d) b) fullShare f) ∗ (∃ f, pt d cc0_scratch2 (agSet c b) fullShare f))

/-- The share of a finished block that the send `t + 1` along reads through. -/
abbrev lf (t : Fin 8) : PosShare TreeShare := ShareLeaves.leaf 3 fullShare t
/-- A send's number among the shares. -/
abbrev t8 (t : Fin 7) : Fin 8 := t.castSucc

/-- What a payment hands over. -/
def pay (c : Fin 8) : Key → Fin 8 → SP F
  | .inl _, d => iprop(room c d 0 ∗ room c d 1)
  | .inr (.inl (b, d)), _ => pt c cc0_scratch0 (partSet d b) fullShare (GF (E c))
  | .inr (.inr (.inl (b, k))), _ => pt c cc0_scratch1 (rrSet k b) fullShare (RRF E c)
  | .inr (.inr (.inr (.inl (b, t)))), _ => pt c cc0_scratch2 (agSet c b) (lf (t8 t)) (AGF E)
  | .inr (.inr (.inr (.inr (b, k)))), _ => pt c cc0_scratch2 (agSet (up c k) b) fullShare (AGF E)

theorem pay_bar (c d : Fin 8) : pay E c kBar d = iprop(room (F := F) c d 0 ∗ room c d 1) := rfl
theorem pay_rss (c : Fin 8) (b : Fin 2) (d x : Fin 8) : pay E c (kRss b d) x = pt c cc0_scratch0 (partSet d b) fullShare (GF (E c)) := rfl
theorem pay_rsr (c : Fin 8) (b : Fin 2) (k : Fin 7) (x : Fin 8) : pay E c (kRsr b k) x = pt c cc0_scratch1 (rrSet k b) fullShare (RRF E c) := rfl
theorem pay_ags (c : Fin 8) (b : Fin 2) (t : Fin 7) (x : Fin 8) : pay E c (kAgs b t) x = pt c cc0_scratch2 (agSet c b) (lf (t8 t)) (AGF E) := rfl
theorem pay_agr (c : Fin 8) (b : Fin 2) (k : Fin 7) (x : Fin 8) : pay E c (kAgr b k) x = pt c cc0_scratch2 (agSet (up c k) b) fullShare (AGF E) := rfl

instance pay_storable (c : Fin 8) (k : Key) (d : Fin 8) : BI.Storable (upEmb : UEmb _ (MM F)) (pay E c k d) := by
  rcases k with _ | _ | _ | _ | _ <;> (unfold pay; try unfold room) <;> infer_instance

def optDut (c : Fin 8) : Option Key → Finset (Fin 8)
  | some k => dut c k
  | none => ∅
def optAmt : Option Key → ℕ
  | some k => amt k
  | none => 1
def optPay (c : Fin 8) (d : Fin 8) : Option Key → SP F
  | some k => pay E c k d
  | none => iprop(emp)

def Rd : Rounds.Schedule (GSem nD τ sig) (Fin 8) (MM F) where
  duties g r := if r = 0 ∧ g.1.2 = .tc then optDut g.1.1 (keyOf g.2) else ∅
  unitless _ := False
  amount g _ _ := optAmt (keyOf g.2)
  payload g _ d := optPay E g.1.1 d (keyOf g.2)
  amount_pos g _ _ _ := by
    cases keyOf g.2 with
    | none => exact Nat.one_pos
    | some k => exact amt_pos k

instance Rd_storable (g : GSem nD τ sig) (r : ℕ) (d : Fin 8) : BI.Storable (upEmb : UEmb _ (MM F)) ((Rd E).payload g r d) := by
  show BI.Storable upEmb (optPay E g.1.1 d (keyOf g.2))
  cases keyOf g.2 with
  | none => unfold optPay; infer_instance
  | some k => exact pay_storable E _ k d

theorem Rd_duties (c : Fin 8) (k : Key) : (Rd E).duties (kcell (c, k)) 0 = dut c k := by
  show (if 0 = 0 ∧ ((c : Thread nD τ)).2 = .tc then optDut c (keyOf (csem k)) else ∅) = _
  rw [if_pos ⟨rfl, rfl⟩, keyOf_csem]
  rfl
theorem Rd_later (g : GSem nD τ sig) : ∀ r, 1 ≤ r → (Rd E).duties g r = ∅ := fun r hr => if_neg fun h => by omega
theorem Rd_amount (c : Fin 8) (k : Key) (r : ℕ) (d : Fin 8) : (Rd E).amount (kcell (c, k)) r d = amt k := by
  show optAmt (keyOf (csem k)) = _
  rw [keyOf_csem]; rfl
theorem Rd_payload (c : Fin 8) (k : Key) (r : ℕ) (d : Fin 8) : (Rd E).payload (kcell (c, k)) r d = pay E c k d := by
  show optPay E c d (keyOf (csem k)) = _
  rw [keyOf_csem]; rfl
theorem Rd_expect (c : Fin 8) (k : Key) : (Rd E).expect (kcell (c, k)) 0 = (dut c k).card * amt k := by
  unfold Rounds.Schedule.expect Rounds.Schedule.amountOf
  rw [Rd_duties, Finset.sum_congr rfl fun d _ => Rd_amount E c k 0 d, Finset.sum_const, smul_eq_mul]
theorem Rd_rest (c : Fin 8) (k : Key) :
    bigSep ((Rd E).duties (kcell (c, k)) 0 \ ∅) (fun d => (Rd E).payload (kcell (c, k)) 0 d) = bigSep (dut c k) (pay E c k) := by
  rw [Finset.sdiff_empty, Rd_duties]
  exact bigSep_congr fun d _ => Rd_payload E c k 0 d

/-! ### What is owed -/

/-- The credit of a list of payments still to make; the first in the list is made next. -/
def tl : List (Fin 8 × Key) → CellTallies nD τ sig Unit
  | [] => 0
  | x :: xs => tl xs + tallyAt (kcell x) () (amt x.2)

theorem tl_pos {l : List (Fin 8 × Key)} {g : GSem nD τ sig} {u : Unit} (h : 0 < tl l g u) : ∃ x ∈ l, g = kcell x := by
  induction l with
  | nil => exact absurd h (Nat.lt_irrefl 0)
  | cons x xs ih =>
    unfold tl at h
    rw [Pi.add_apply, Finsupp.add_apply, tallyAt_apply] at h
    by_cases hx : g = kcell x ∧ u = ()
    · exact ⟨x, List.mem_cons_self, hx.1⟩
    · rw [if_neg hx, Nat.add_zero] at h
      obtain ⟨y, hy, e⟩ := ih h
      exact ⟨y, List.mem_cons_of_mem _ hy, e⟩

def barDue (c : Fin 8) : List (Fin 8) → List (Fin 8 × Key)
  | [] => []
  | d :: ds => if d = c then barDue c ds else (d, kBar) :: barDue c ds
def rsDue (c : Fin 8) (b : Fin 2) : List (Fin 8) → List (Fin 8 × Key)
  | [] => []
  | d :: ds => if d = c then rsDue c b ds else (d, kRsr b (slotOf c d)) :: rsDue c b ds
def agDue (c : Fin 8) (b : Fin 2) : List (Fin 7) → List (Fin 8 × Key)
  | [] => []
  | t :: ts => (up c t, kAgr b (rev7 t)) :: agDue c b ts

/-- The stages of what a device owes. -/
abbrev due4 (c : Fin 8) : List (Fin 8 × Key) := agDue c 1 slots
abbrev due3 (c : Fin 8) : List (Fin 8 × Key) := agDue c 0 slots ++ due4 c
abbrev due2 (c : Fin 8) : List (Fin 8 × Key) := rsDue c 1 devs ++ due3 c
abbrev due1 (c : Fin 8) : List (Fin 8 × Key) := rsDue c 0 devs ++ due2 c
abbrev due0 (c : Fin 8) : List (Fin 8 × Key) := barDue c devs ++ due1 c

/-- Device `c` owes the payments of `l`. -/
def ow (c : Dev nD) (l : List (Fin 8 × Key)) : SP F := iprop(∃ W, owes (c : Thread nD τ) (tl l) W)

/-! Levels. -/

def lvK : Key → ℕ
  | .inl _ => 1
  | .inr (.inl _) => 0
  | .inr (.inr (.inl _)) => 2
  | .inr (.inr (.inr (.inl _))) => 0
  | .inr (.inr (.inr (.inr _))) => 3
def lvO : Option Key → ℕ
  | some k => lvK k
  | none => 0
def L (g : GSem nD τ sig) : Finset Unit := if g.1.2 = .tc then {()} else ∅
def lv (g : GSem nD τ sig) (_ : Unit) : ℕ := lvO (keyOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : Key) (u : Unit) : lv (kcell (c, k)) u = lvK k := by
  show lvO (keyOf (csem k)) = _
  rw [keyOf_csem]; rfl

/-- A device may wait at a cell below all it owes. -/
theorem may (c : Dev nD) (sm : SemLoc sig) (l : List (Fin 8 × Key)) (n : ℕ) (hn : lvO (keyOf sm) ≤ n) (hl : ∀ x ∈ l, n < lvK x.2) :
    (levAts L lv : SP F) ⊢ MayWait (c : Thread nD τ) sm () (tl l) := by
  refine MayOwe.of_cut (L := L) (lev := lv) n (fun p hp => ?_) (fun g u hg => ?_) (fun p hp => ?_) (fun g u hg => ?_)
  · rw [Finset.mem_singleton.mp hp, L_tc]; exact Finset.mem_singleton_self _
  · obtain ⟨x, -, rfl⟩ := tl_pos hg
    rw [L_tc]; exact Finset.mem_singleton_self _
  · rw [Finset.mem_singleton.mp hp]; exact hn
  · obtain ⟨x, hx, rfl⟩ := tl_pos hg
    rw [lv_k]; exact hl x hx

/-! ### The records all devices share, and the steps that use them -/

/-- Every cell's invariant, that every cell has begun, and the levels. -/
def recs (K : Dev nD × Key → ℕ) : SP F :=
  iprop((bigSep Finset.univ fun ck : Dev nD × Key => cellInv ER (Rd E) (K ck) (kcell ck))
    ∗ (bigSep Finset.univ fun ck : Dev nD × Key => reached ER (kcell ck) 0) ∗ levAts L lv)

instance recs_persistent (K : Dev nD × Key → ℕ) : BI.Persistent (recs E K) := by unfold recs; infer_instance

variable (K : Dev nD × Key → ℕ)

theorem inv_of (ck : Dev nD × Key) :
    (bigSep Finset.univ fun ck : Dev nD × Key => (cellInv ER (Rd E) (K ck) (kcell ck) : SP F)) ⊢ cellInv ER (Rd E) (K ck) (kcell ck) :=
  bigSep_elim (Finset.mem_univ ck)
theorem reached_of (ck : Dev nD × Key) :
    (bigSep Finset.univ fun ck : Dev nD × Key => (reached ER (kcell ck) 0 : SP F)) ⊢ reached ER (kcell ck) 0 :=
  bigSep_elim (Finset.mem_univ ck)

theorem recs_inv (ck : Dev nD × Key) : recs E K ⊢ cellInv ER (Rd E) (K ck) (kcell ck) := by
  unfold recs
  iintro ⟨H, -⟩
  iapply (inv_of E K ck)
  iexact H
theorem recs_reached (ck : Dev nD × Key) : recs E K ⊢ reached ER (kcell ck) 0 := by
  unfold recs
  iintro ⟨-, H, -⟩
  iapply (reached_of (F := F) ck)
  iexact H
theorem recs_lev : recs E K ⊢ levAts L lv := by
  unfold recs
  iintro ⟨-, -, H⟩
  iexact H

/-- The right to pay cell `ck` as device `d`. -/
abbrev tok (ck : Dev nD × Key) (d : Fin 8) : SP F := dutyTok ER (kcell ck) 0 d
/-- The owner's place at a cell, and the credit to wait for it. -/
abbrev pos0 (ck : Dev nD × Key) : SP F := atPos ER (kcell ck) 0 ∅ 0
abbrev pos1 (ck : Dev nD × Key) : SP F := atPos ER (kcell ck) 1 ∅ 0
abbrev crd (ck : Dev nD × Key) (n : ℕ) : SP F := cred (tallyAt (kcell ck) () n)

/-- A wait for all that a cell is paid. -/
theorem wait_all (c : Dev nD) (k : Key) (l : List (Fin 8 × Key)) (n : ℕ) (hn : lvK k ≤ n) (hl : ∀ x ∈ l, n < lvK x.2)
    {w : TpuEff nD τ sig (Elt F) Λ₀ .tc PUnit} {a : ℕ} (ha : a = (dut c k).card * amt k)
    (hw : ∀ Q : PUnit → SP F, wpE (defs₀ (F := F)) 𝒱₀ (c : Thread nD τ) none Set.univ w Q = waitSpec (c : Thread nD τ) Set.univ (csem k) a Q) :
    iprop(recs E K ∗ ow c l ∗ pos0 (c, k) ∗ crd (c, k) a) ⊢ WP c (Prog.lift w) fun _ => iprop(ow c l ∗ pos1 (c, k) ∗ bigSep (dut c k) (pay E c k)) := by
  unfold ow
  iintro ⟨#HR, ⟨%W, HO⟩, Hat, Hc⟩
  unfold Prog.lift
  iapply (Rounds.wp_wait_rest_token 𝒱₀ ER (Rd E) (c : Thread nD τ) none (κ := K (c, k)) hw (Set.mem_univ _) () (O := tl l) (W := W) (R := 0) (m := 0) (T := ∅)
    (by rw [Nat.zero_add, ha]; exact (Rd_expect E c k).symm)) $$ [HO Hat Hc]
  · isplitr; · iapply (recs_inv E K (c, k)); iexact HR
    isplitl [Hc]; · iexact Hc
    isplitl [HO]; · iexact HO
    isplitr
    · iapply (may c (csem k) l n (by rw [keyOf_csem]; exact hn) hl); iapply (recs_lev E K); iexact HR
    iexact Hat
  iintro ⟨HO, Hat, -, Hpay⟩
  ihave Hp := (Entails.of_eq (Rd_rest E c k)) $$ Hpay
  rw [wp_ret]; imodintro
  isplitl [HO]; · iexists _; iexact HO
  isplitl [Hat]; · iexact Hat
  iexact Hp

/-- A cell that has been waited for, or is paid by nobody, closes at zero. -/
theorem close1 (ck : Dev nD × Key) : iprop(recs E K ∗ pos1 ck) ⊢ |={Set.univ}=> semVal (kcell ck) 0 := by
  iintro ⟨#HR, H⟩
  iapply (Rounds.cell_close ER (Rd E) (Set.mem_univ (K ck)) (fun h => h) (R := 1) (Rd_later E (kcell ck)))
  isplitr; · iapply (recs_inv E K ck); iexact HR
  iexact H
theorem close0 (ck : Dev nD × Key) (h : dut ck.1 ck.2 = ∅) : iprop(recs E K ∗ pos0 ck) ⊢ |={Set.univ}=> semVal (kcell ck) 0 := by
  iintro ⟨#HR, H⟩
  iapply (Rounds.cell_close ER (Rd E) (Set.mem_univ (K ck)) (fun h => h) (R := 0) (fun r _ => by
    cases r with
    | zero => exact (Rd_duties E ck.1 ck.2).trans h
    | succ r => exact Rd_later E _ _ (by omega)))
  isplitr; · iapply (recs_inv E K ck); iexact HR
  iexact H

end

end Cert.Attn
-- ==== Proof.Comm.lean ====
/- The steps that signal, send and wait. -/
module

public import proofs.«01_k».proof.Proof.Proto

@[expose] public section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

noncomputable section

variable {F : FTy → Type} [FloatOps F]
variable (E : Dev nD → Stg F) (K : Dev nD × Key → ℕ) (c : Dev nD)

/-- Something for every device but `c`. -/
def oth (X : Fin 8 → SP F) (d : Fin 8) : SP F := if d = c then iprop(emp) else X d

theorem oth_self (X : Fin 8 → SP F) {d : Fin 8} (h : d = c) : oth c X d = iprop(emp) := if_pos h
theorem oth_ne (X : Fin 8 → SP F) {d : Fin 8} (h : d ≠ c) : oth c X d = X d := if_neg h

/-- A step taken for the other devices only. -/
theorem oth_step {p : Pr F PUnit} {q : Fin 8 → (Fin 8 × Key)} {l : List (Fin 8 × Key)} {J J' : SP F} {Pre Post : Fin 8 → SP F} {d : Fin 8}
    (h0 : d = c → p = pure ⟨⟩) (hJ : d = c → J ⊢ J')
    (h1 : d ≠ c → iprop(J ∗ Pre d) ⊢ WP c p fun _ => iprop(J' ∗ Post d)) :
    iprop(J ∗ oth c Pre d) ⊢ WP c p fun _ => iprop(J' ∗ oth c Post d) := by
  by_cases h : d = c
  · rw [h0 h, oth_self c Pre h, oth_self c Post h]
    exact (sep_mono_left (hJ h)).trans (WP_ret c (⟨⟩ : PUnit) (fun _ => iprop(J' ∗ emp)))
  · rw [oth_ne c Pre h, oth_ne c Post h]
    exact h1 h

/-! ### Entering -/

abbrev barJ (l : List (Fin 8)) : SP F := iprop(recs E K ∗ ow c (barDue c l ++ due1 c))
def barPre (d : Fin 8) : SP F := iprop(tok (d, kBar) c ∗ room d c 0 ∗ room d c 1)

theorem barSig_step (d : Fin 8) (ds : List (Fin 8)) :
    iprop(barJ E K c (d :: ds) ∗ oth c (barPre c) d) ⊢ WP c (barSig c d) fun _ => iprop(barJ E K c ds ∗ oth c (fun _ => iprop(emp)) d) := by
  refine oth_step c (q := fun d => (d, kBar)) (l := []) (fun h => ?_) (fun h => ?_) fun h => ?_
  · unfold barSig; exact dif_neg fun h' => (neW_iff c d).mp h' h
  · show iprop(recs E K ∗ ow c ((if d = c then barDue c ds else (d, kBar) :: barDue c ds) ++ due1 c)) ⊢ _; rw [if_pos h]
  · unfold barSig
    rw [dif_pos ((neW_iff c d).mpr h)]
    unfold barJ
    rw [show barDue c (d :: ds) = (d, kBar) :: barDue c ds from if_neg h, cstDev_eq]
    unfold ow barPre
    simp only [semSignalWord, Prog.lift, Prog.bind_op, Prog.bind_ret, Prog.pure_eq_ret]
    iintro ⟨⟨#HR, ⟨%W, HO⟩⟩, Ht, Hroom⟩
    iapply (Rounds.wp_signal 𝒱₀ ER (Rd E) (c : Thread nD τ) none (dst := (d : Thread nD τ)) (κ := K (d, kBar)) (d := c)
      (by show c ∈ (Rd E).duties (kcell (d, kBar)) 0; rw [Rd_duties]; exact Finset.mem_erase.mpr ⟨fun e => h e.symm, Finset.mem_univ _⟩)
      (show (Rd E).amount (kcell (d, kBar)) 0 c = _ from Rd_amount E d kBar 0 c) () (tl (barDue c ds ++ due1 c)) rfl) $$ [HO Ht Hroom]
    · isplitr; · iapply (recs_inv E K (d, kBar)); iexact HR
      isplitl [HO]; · iexact HO
      isplitl [Ht]; · iexact Ht
      isplitl [Hroom]
      · iapply (Entails.of_eq (show iprop(room (F := F) d c 0 ∗ room d c 1) = (Rd E).payload ((d : Thread nD τ), .reg barS) 0 c from (Rd_payload E d kBar 0 c).symm))
        iexact Hroom
      iapply (recs_reached E K (d, kBar)); iexact HR
    iintro HO
    rw [wp_ret]; imodintro
    isplitl [HO]
    · isplitr; · iexact HR
      iexists W; iexact HO
    iempintro

/-! ### Sending partial results -/

abbrev rsJ (b : Fin 2) (r : List (Fin 8 × Key)) (l : List (Fin 8)) : SP F := iprop(recs E K ∗ ow c (rsDue c b l ++ r))
def rsPre (b : Fin 2) (d : Fin 8) : SP F :=
  iprop(tok (c, kRss b d) c ∗ tok (d, kRsr b (slotOf c d)) c ∗ pt c cc0_scratch0 (partSet d b) fullShare (GF (E c))
    ∗ ∃ f, pt d cc0_scratch1 (rrSet (slotOf c d) b) fullShare f)
def rsPost (b : Fin 2) (d : Fin 8) : SP F := crd (c, kRss b d) N1

theorem rsSend_op (b : Fin 2) (d : Fin 8) (hd : d ≠ c) (n : Dev nD) (hn : n = d) (s : Fin 7) (hs : s = slotOf c d) (l : List (Fin 8 × Key))
    {hsc : (rrV s b : Memref sig (Dev.tc n : Thread nD τ).2.kind .vmem S66x512 .bf16).view.ref.isScScratch = false}
    {hsrc : (partV d b).view.WordExact} {hdst : (rrV s b : Memref sig (Dev.tc n : Thread nD τ).2.kind .vmem S66x512 .bf16).view.WordExact}
    {hsem : DmaTarget.Typed .vmem (.dma (rsrS b s)) (.remote (Dev.tc n : Thread nD τ) (rrV s b) (.dma (rssS b d)) hsc)}
    {Q : PUnit → SP F} {k : PUnit → Pr F PUnit} :
    iprop(recs E K ∗ ow c ((d, kRsr b (slotOf c d)) :: l) ∗ rsPre E c b d)
      ⊢ iprop((iprop(ow c l ∗ rsPost c b d) -∗ WP c (k ⟨⟩) Q)
        -∗ WP c (.op (.enqueueDma (partV d b) (.remote (Dev.tc n : Thread nD τ) (rrV s b) (.dma (rssS b d)) hsc) (.dma (rsrS b s)) hsrc hdst hsem) k) Q) := by
  subst hn hs
  unfold ow rsPre rsPost
  iintro ⟨#HR, ⟨%W, HO⟩, Ht1, Ht2, Hs, ⟨%fd, Hd⟩⟩ Hk
  iapply (Rounds.wp_send_pointsTo 𝒱₀ ER (Rd E) (c : Thread nD τ) none (κ₁ := K (c, kRss b n)) (κ₂ := K (n, kRsr b (slotOf c n)))
    (c' := (n : Thread nD τ)) (src := partV n b) (dst := rrV (slotOf c n) b) (sS := .dma (rssS b n)) (sem := .dma (rsrS b (slotOf c n)))
    (hsc := hsc) (hsrc := hsrc) (hdst := hdst) (hsem := hsem) (r₁ := 0) (r₂ := 0) (d₁ := c) (d₂ := c) (fs := GF (E c)) (fd := fd) (q := fullShare)
    (by show c ∈ (Rd E).duties (kcell (c, kRss b n)) 0; rw [Rd_duties]; show c ∈ (if n = c then ∅ else {c}); rw [if_neg hd]; exact Finset.mem_singleton_self _)
    (by show c ∈ (Rd E).duties (kcell (n, kRsr b (slotOf c n))) 0; rw [Rd_duties]; show c ∈ {up n (slotOf c n)}; rw [up_slotOf c n (fun h => hd h.symm)]; exact Finset.mem_singleton_self _)
    () () N1 (rr_credit _ b) (Rd_amount E c (kRss b n) 0 c) (Rd_amount E n (kRsr b (slotOf c n)) 0 c) (tl l) rfl (W := W)
    (by
      show _ ⊢ (Rd E).payload (kcell (c, kRss b n)) 0 c
      rw [Rd_payload]
      show _ ⊢ pt c cc0_scratch0 (partSet n b) fullShare (GF (E c))
      rw [partV_set])
    (by
      show _ ⊢ (Rd E).payload (kcell (n, kRsr b (slotOf c n))) 0 c
      rw [Rd_payload]
      show _ ⊢ pt n cc0_scratch1 (rrSet (slotOf c n) b) fullShare (RRF E n)
      rw [rrV_set]
      exact Entails.of_eq (pointsTo_congr fun i hi => part_lands E c n b (fun h => hd h.symm) fd i hi))) $$ [HO Ht1 Ht2 Hs Hd]
  · isplitr; · iapply (recs_inv E K (c, kRss b n)); iexact HR
    isplitr; · iapply (recs_inv E K (n, kRsr b (slotOf c n))); iexact HR
    isplitl [Hs]; · rw [partV_set]; iexact Hs
    isplitl [Hd]; · rw [rrV_set]; iexact Hd
    isplitl [HO]; · iexact HO
    isplitl [Ht1]; · iexact Ht1
    isplitr; · iapply (recs_reached E K (c, kRss b n)); iexact HR
    isplitl [Ht2]; · iexact Ht2
    iapply (recs_reached E K (n, kRsr b (slotOf c n))); iexact HR
  iintro ⟨Hc, HO⟩
  iapply Hk
  isplitl [HO]; · iexists W; iexact HO
  iexact Hc

theorem rsSend_step (b : Fin 2) (r : List (Fin 8 × Key)) (d : Fin 8) (ds : List (Fin 8)) :
    iprop(rsJ E K c b r (d :: ds) ∗ oth c (rsPre E c b) d) ⊢ WP c (rsSend c b d) fun _ => iprop(rsJ E K c b r ds ∗ oth c (rsPost c b) d) := by
  refine oth_step c (q := fun d => (d, kBar)) (l := []) (fun h => ?_) (fun h => ?_) fun h => ?_
  · unfold rsSend; exact dif_neg fun h' => (neW_iff c d).mp h' h
  · show iprop(recs E K ∗ ow c ((if d = c then rsDue c b ds else (d, kRsr b (slotOf c d)) :: rsDue c b ds) ++ r)) ⊢ _; rw [if_pos h]
  · unfold rsSend
    rw [dif_pos ((neW_iff c d).mpr h)]
    unfold rsJ
    rw [show rsDue c b (d :: ds) = (d, kRsr b (slotOf c d)) :: rsDue c b ds from if_neg h]
    simp only [Prog.lift, Prog.bind_op, Prog.bind_ret, Prog.pure_eq_ret]
    iintro ⟨⟨#HR, HO⟩, Hp⟩
    iapply (rsSend_op E K c b d h _ (cstDev_eq d) _ (slotI_eq c d ((neW_iff c d).mpr h)) (rsDue c b ds ++ r)) $$ [HO Hp]
    · isplitr; · iexact HR
      isplitl [HO]; · iexact HO
      iexact Hp
    iintro ⟨HO, Hp⟩
    iapply (WP_ret c (⟨⟩ : PUnit) _)
    isplitl [HO]
    · isplitr; · iexact HR
      iexact HO
    iexact Hp

/-! ### Sending finished blocks -/

abbrev agJ (b : Fin 2) (r : List (Fin 8 × Key)) (l : List (Fin 7)) : SP F := iprop(recs E K ∗ ow c (agDue c b l ++ r))
def agPre (b : Fin 2) (t : Fin 7) : SP F :=
  iprop(tok (c, kAgs b t) c ∗ tok (up c t, kAgr b (rev7 t)) c ∗ pt c cc0_scratch2 (agSet c b) (lf (t8 t)) (AGF E)
    ∗ ∃ f, pt (up c t) cc0_scratch2 (agSet c b) fullShare f)
def agPost (b : Fin 2) (t : Fin 7) : SP F := crd (c, kAgs b t) N2

theorem agSend_op (b : Fin 2) (t : Fin 7) (n : Dev nD) (hn : n = up c t) (q : Fin 8) (hq : q = c) (l : List (Fin 8 × Key))
    {hsc : (agV q b : Memref sig (Dev.tc n : Thread nD τ).2.kind .vmem S64x512 .bf16).view.ref.isScScratch = false}
    {hsrc : (agV q b).view.WordExact} {hdst : (agV q b : Memref sig (Dev.tc n : Thread nD τ).2.kind .vmem S64x512 .bf16).view.WordExact}
    {hsem : DmaTarget.Typed .vmem (.dma (agrS b (rev7 t))) (.remote (Dev.tc n : Thread nD τ) (agV q b) (.dma (agsS b t)) hsc)}
    {Q : PUnit → SP F} {k : PUnit → Pr F PUnit} :
    iprop(recs E K ∗ ow c ((up c t, kAgr b (rev7 t)) :: l) ∗ agPre E c b t)
      ⊢ iprop((iprop(ow c l ∗ agPost c b t) -∗ WP c (k ⟨⟩) Q)
        -∗ WP c (.op (.enqueueDma (agV q b) (.remote (Dev.tc n : Thread nD τ) (agV q b) (.dma (agsS b t)) hsc) (.dma (agrS b (rev7 t))) hsrc hdst hsem) k) Q) := by
  subst hn hq
  unfold ow agPre agPost
  iintro ⟨#HR, ⟨%W, HO⟩, Ht1, Ht2, Hs, ⟨%fd, Hd⟩⟩ Hk
  iapply (Rounds.wp_send_pointsTo 𝒱₀ ER (Rd E) (q : Thread nD τ) none (κ₁ := K (q, kAgs b t)) (κ₂ := K (up q t, kAgr b (rev7 t)))
    (c' := (up q t : Thread nD τ)) (src := agV q b) (dst := agV q b) (sS := .dma (agsS b t)) (sem := .dma (agrS b (rev7 t)))
    (hsc := hsc) (hsrc := hsrc) (hdst := hdst) (hsem := hsem) (r₁ := 0) (r₂ := 0) (d₁ := q) (d₂ := q) (fs := AGF E) (fd := fd) (q := lf (t8 t))
    (by show q ∈ (Rd E).duties (kcell (q, kAgs b t)) 0; rw [Rd_duties]; exact Finset.mem_singleton_self _)
    (by show q ∈ (Rd E).duties (kcell (up q t, kAgr b (rev7 t))) 0; rw [Rd_duties]; show q ∈ {up (up q t) (rev7 t)}; rw [up_rev]; exact Finset.mem_singleton_self _)
    () () N2 (ag_credit _ b) (Rd_amount E q (kAgs b t) 0 q) (Rd_amount E (up q t) (kAgr b (rev7 t)) 0 q) (tl l) rfl (W := W)
    (by
      show _ ⊢ (Rd E).payload (kcell (q, kAgs b t)) 0 q
      rw [Rd_payload]
      show _ ⊢ pt q cc0_scratch2 (agSet q b) (lf (t8 t)) (AGF E)
      rw [agV_set])
    (by
      show _ ⊢ (Rd E).payload (kcell (up q t, kAgr b (rev7 t))) 0 q
      rw [Rd_payload]
      show _ ⊢ pt (up q t) cc0_scratch2 (agSet (up (up q t) (rev7 t)) b) fullShare (AGF E)
      rw [agV_set, up_rev]
      exact Entails.of_eq (pointsTo_congr fun i hi => ag_lands q b (AGF E) fd i hi))) $$ [HO Ht1 Ht2 Hs Hd]
  · isplitr; · iapply (recs_inv E K (q, kAgs b t)); iexact HR
    isplitr; · iapply (recs_inv E K (up q t, kAgr b (rev7 t))); iexact HR
    isplitl [Hs]; · rw [agV_set]; iexact Hs
    isplitl [Hd]; · rw [agV_set]; iexact Hd
    isplitl [HO]; · iexact HO
    isplitl [Ht1]; · iexact Ht1
    isplitr; · iapply (recs_reached E K (q, kAgs b t)); iexact HR
    isplitl [Ht2]; · iexact Ht2
    iapply (recs_reached E K (up q t, kAgr b (rev7 t))); iexact HR
  iintro ⟨Hc, HO⟩
  iapply Hk
  isplitl [HO]; · iexists W; iexact HO
  iexact Hc

theorem agSend_step (b : Fin 2) (r : List (Fin 8 × Key)) (t : Fin 7) (ts : List (Fin 7)) :
    iprop(agJ E K c b r (t :: ts) ∗ agPre E c b t) ⊢ WP c (agSend c b t) fun _ => iprop(agJ E K c b r ts ∗ agPost c b t) := by
  unfold agSend agJ
  rw [show agDue c b (t :: ts) = (up c t, kAgr b (rev7 t)) :: agDue c b ts from rfl]
  simp only [Prog.lift]
  iintro ⟨⟨#HR, HO⟩, Hp⟩
  iapply (agSend_op E K c b t _ (upDev_eq c t) _ (meI_eq c) (agDue c b ts ++ r)) $$ [HO Hp]
  · isplitr; · iexact HR
    isplitl [HO]; · iexact HO
    iexact Hp
  iintro ⟨HO, Hp⟩
  iapply (WP_ret c (⟨⟩ : PUnit) _)
  isplitl [HO]
  · isplitr; · iexact HR
    iexact HO
  iexact Hp

/-! ### Waits -/

/-- A cell paid once hands over one payment. -/
theorem one_pay (k : Key) (d : Fin 8) (h : dut c k = {d}) : bigSep (dut c k) (pay E c k) = pay E c k d := by
  rw [h, bigSep_singleton]

def rswPre (b : Fin 2) (d : Fin 8) : SP F := iprop(pos0 (c, kRss b d) ∗ crd (c, kRss b d) N1)
def rswPost (b : Fin 2) (d : Fin 8) : SP F := iprop(pos1 (c, kRss b d) ∗ pt c cc0_scratch0 (partSet d b) fullShare (GF (E c)))

theorem rsWait_step (b : Fin 2) (d : Fin 8) (ds : List (Fin 8)) :
    iprop(iprop(recs E K ∗ ow c []) ∗ oth c (rswPre c b) d) ⊢ WP c (rsWait c b d) fun _ => iprop(iprop(recs E K ∗ ow c []) ∗ oth c (rswPost E c b) d) := by
  refine oth_step c (q := fun d => (d, kBar)) (l := []) (fun h => ?_) (fun h => Entails.refl _) fun h => ?_
  · unfold rsWait; exact dif_neg fun h' => (neW_iff c d).mp h' h
  · unfold rsWait
    rw [dif_pos ((neW_iff c d).mpr h), WP_bind]
    have hd : dut c (kRss b d) = {c} := if_neg h
    have key := wait_all E K c (kRss b d) [] 0 (Nat.le_refl 0) (fun x hx => by cases hx) (a := N1) (by rw [hd, Finset.card_singleton, Nat.one_mul]; rfl)
      (w := (.waitDma2 (rssS b d) (rrV (slotI c d ((neW_iff c d).mpr h)) b) (partV d b) (rrV_exact (slotI c d ((neW_iff c d).mpr h)) b) (partV_exact d b)))
      (fun Q => (wpE_waitDma2_eq 𝒱₀ (c : Thread nD τ) none Set.univ Q).trans (by rw [part_credit]; rfl))
    rw [one_pay E c _ c hd, pay_rss] at key
    unfold rswPre rswPost
    iintro ⟨⟨#HR, HO⟩, H1, H2⟩
    iapply (wp_wand_r _ _ _)
    isplitl [HO H1 H2]
    · iapply key
      isplitr; · iexact HR
      isplitl [HO]; · iexact HO
      isplitl [H1] <;> iassumption
    iintro %_ ⟨HO, H1, H2⟩
    iapply (WP_ret c (⟨⟩ : PUnit) _)
    isplitl [HO]
    · isplitr; · iexact HR
      iexact HO
    isplitl [H1]; · iexact H1
    iexact H2

end

end Cert.Attn
-- ==== Proof.Comp.lean ====
/- The steps that compute: tiles, merges, finished blocks, rows of the result. -/
module

public import proofs.«01_k».proof.Proof.Comm

@[expose] public section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

noncomputable section

variable {F : FTy → Type} [FloatOps F]
variable (E : Dev nD → Stg F) (K : Dev nD × Key → ℕ) (c : Dev nD)

/-- A rectangle of a whole buffer touches its own indices. -/
theorem acc_sub (b : Ref sig .tc) (r : Rect b.ty.shape) {S : Finset b.ty.shape.Idx} (h : r.set ⊆ S) : ((Memref.whole b).access r).set ⊆ S := by
  show ((View.whole b).slice r).set ⊆ S
  rwa [View.set_slice_whole]
theorem acc_on (b : Ref sig .tc) (r : Rect b.ty.shape) {S : Finset b.ty.shape.Idx} (h : r.set ⊆ S) : ((Memref.whole b).access r).setOn Finset.univ ⊆ S := by
  rw [View.setOn_univ]; exact acc_sub b r h

/-- Contents equal on the part held. -/
theorem pt_congr {b : Ref sig .tc} {S : Finset b.ty.shape.Idx} {q : PosShare TreeShare} {f g : b.ty.Contents (Elt F)} (h : ∀ i ∈ S, f i = g i) :
    pt c b S q f ⊢ pt c b S q g := Entails.of_eq (pointsTo_congr h)

/-! ### Tiles -/

/-- All windows of a batch. -/
def partB (b : Fin 2) : Finset S8x2x66x512.Idx := (Finset.univ : Finset (Fin 8)).biUnion fun q => partSet q b

theorem partSet_sub (q : Fin 8) (b : Fin 2) : partSet q b ⊆ partB b := Finset.subset_biUnion_of_mem (fun q => partSet q b) (Finset.mem_univ q)

theorem mem_HS (q : Fin 8) (b : Fin 2) (h : Fin 8) (i : S8x2x66x512.Idx) :
    (i ∈ (partS q b h).set ∨ i ∈ (partH q b h).set) ↔ (i 0).val = q.val ∧ (i 1).val = b.val ∧ (i 3).val / 64 = h.val := by
  have h2 : (i 2).val < 66 := (i 2).isLt
  have h3 : (i 3).val < 512 := (i 3).isLt
  rw [Rect.mem_set_unit, Rect.mem_set_unit]
  constructor
  · rintro (hi | hi)
    · have a0 : q.val ≤ (i 0).val ∧ (i 0).val < q.val + 1 := hi 0
      have a1 : b.val ≤ (i 1).val ∧ (i 1).val < b.val + 1 := hi 1
      have a3 : 64 * h.val ≤ (i 3).val ∧ (i 3).val < 64 * h.val + 64 := hi 3
      omega
    · have a0 : q.val ≤ (i 0).val ∧ (i 0).val < q.val + 1 := hi 0
      have a1 : b.val ≤ (i 1).val ∧ (i 1).val < b.val + 1 := hi 1
      have a3 : 64 * h.val ≤ (i 3).val ∧ (i 3).val < 64 * h.val + 64 := hi 3
      omega
  · rintro ⟨e0, e1, e3⟩
    by_cases hr : (i 2).val < 64
    · right
      refine forall4 ?_ ?_ ?_ ?_
      · show q.val ≤ (i 0).val ∧ (i 0).val < q.val + 1; omega
      · show b.val ≤ (i 1).val ∧ (i 1).val < b.val + 1; omega
      · show 0 ≤ (i 2).val ∧ (i 2).val < 0 + 64; omega
      · show 64 * h.val ≤ (i 3).val ∧ (i 3).val < 64 * h.val + 64; omega
    · left
      refine forall4 ?_ ?_ ?_ ?_
      · show q.val ≤ (i 0).val ∧ (i 0).val < q.val + 1; omega
      · show b.val ≤ (i 1).val ∧ (i 1).val < b.val + 1; omega
      · show 64 ≤ (i 2).val ∧ (i 2).val < 64 + 2; omega
      · show 64 * h.val ≤ (i 3).val ∧ (i 3).val < 64 * h.val + 64; omega

/-- The block of the partial results at `q`, `b`, `h` becomes what `g` holds there. -/
def blkUpd (q : Fin 8) (b : Fin 2) (h : Fin 8) (f g : (cc0_scratch0 : Ref sig .tc).ty.Contents (Elt F)) : (cc0_scratch0 : Ref sig .tc).ty.Contents (Elt F) :=
  fun (i : S8x2x66x512.Idx) => if (i 0).val = q.val ∧ (i 1).val = b.val ∧ (i 3).val / 64 = h.val then g i else f i

theorem tileStore_wp (b : Fin 2) (h q : Fin 8) (a : FVec F S1x1x64x64 .bf16) (s : FVec F S1x1x2x64 .bf16)
    (f g : (cc0_scratch0 : Ref sig .tc).ty.Contents (Elt F)) (ha : a = rd cc0_scratch0 (partH q b h) g) (hs : s = rd cc0_scratch0 (partS q b h) g) :
    pt c cc0_scratch0 (partB b) fullShare f ⊢ WP c (tileStore b h q a s) fun _ => pt c cc0_scratch0 (partB b) fullShare (blkUpd q b h f g) := by
  have hH : (partH q b h).set ⊆ partB b := (partH_sub q b h).trans (partSet_sub q b)
  have hS : (partS q b h).set ⊆ partB b := (partS_sub q b h).trans (partSet_sub q b)
  have key : ∀ i ∈ partB b, (((Memref.whole cc0_scratch0).access (partS q b h)).write (Elt F)
      (((Memref.whole cc0_scratch0).access (partH q b h)).write (Elt F) f a Finset.univ) s Finset.univ : (cc0_scratch0 : Ref sig .tc).ty.Contents (Elt F)) i
        = blkUpd q b h f g i := by
    intro i _
    refine (write_rd cc0_scratch0 (partS q b h) _ g s hs i).trans ?_
    unfold blkUpd
    by_cases h1 : i ∈ (partS q b h).set
    · rw [if_pos h1, if_pos ((mem_HS q b h i).mp (.inl h1))]
    · rw [if_neg h1]
      refine (write_rd cc0_scratch0 (partH q b h) _ g a ha i).trans ?_
      by_cases h2 : i ∈ (partH q b h).set
      · rw [if_pos h2, if_pos ((mem_HS q b h i).mp (.inr h2))]
      · rw [if_neg h2, if_neg fun h3 => ((mem_HS q b h i).mpr h3).elim h1 h2]
  unfold tileStore
  simp only [Prog.lift, Prog.bind_op, Prog.bind_ret]
  iintro H
  iapply (wp_load_rect 𝒱₀ (c : Thread nD τ) none Set.univ (m := partM) (r := partH q b h) (acc_sub cc0_scratch0 _ hH)) $$ H; iintro H
  iapply (wp_store 𝒱₀ (c : Thread nD τ) none Set.univ (m := partM) (r := partH q b h) (Mk := Finset.univ) (acc_on cc0_scratch0 _ hH)) $$ H; iintro H
  iapply (wp_load_rect 𝒱₀ (c : Thread nD τ) none Set.univ (m := partM) (r := partS q b h) (acc_sub cc0_scratch0 _ hS)) $$ H; iintro H
  iapply (wp_store 𝒱₀ (c : Thread nD τ) none Set.univ (m := partM) (r := partS q b h) (Mk := Finset.univ) (acc_on cc0_scratch0 _ hS)) $$ H; iintro H
  iapply (WP_ret c (⟨⟩ : PUnit) _)
  iapply (pt_congr c (b := cc0_scratch0) key)
  iexact H

/-- The tiles of `l` are still to do; the others of batch `b` are done. -/
def tileJ (b : Fin 2) (l : List (Fin 8 × Fin 4)) : SP F :=
  iprop(∃ f : (cc0_scratch0 : Ref sig .tc).ty.Contents (Elt F),
    ⌜∀ i : S8x2x66x512.Idx, (i 1).val = b.val → (hd (i 3), q4 (i 0)) ∉ l → f i = GF (E c) i⌝ ∗ pt c cc0_scratch0 (partB b) fullShare f)

theorem tile_step (b : Fin 2) (x : Fin 8 × Fin 4) (xs : List (Fin 8 × Fin 4)) :
    tileJ E c b (x :: xs) ⊢ WP c (tile b (qV (ldX (E c) b) (wqV (ldWq (E c)))) (kvV (ldK (E c) b)) (kvV (ldV (E c) b)) x) fun _ => tileJ E c b xs := by
  unfold tile tileJ
  iintro ⟨%f, %hf, H⟩
  iapply (Entails.of_eq (WP_bind c _ _ _).symm)
  iapply ((tileStore_wp c b x.1 (blk x.2 0) _ _ f (GF (E c)) (gA_rd (E c) b x.1 x.2 0) (gS_rd (E c) b x.1 x.2 0)).trans (WP_mono c fun _ =>
    (tileStore_wp c b x.1 (blk x.2 1) _ _ _ (GF (E c)) (gA_rd (E c) b x.1 x.2 1) (gS_rd (E c) b x.1 x.2 1)).trans (WP_mono c fun _ => ?_))) $$ H
  iintro H
  iexists _
  isplitr
  rotate_left
  · iexact H
  · ipureintro
    intro i hb hn
    unfold blkUpd
    by_cases h1 : (i 0).val = (blk x.2 1).val ∧ (i 1).val = b.val ∧ (i 3).val / 64 = x.1.val
    · rw [if_pos h1]
    · rw [if_neg h1]
      by_cases h0 : (i 0).val = (blk x.2 0).val ∧ (i 1).val = b.val ∧ (i 3).val / 64 = x.1.val
      · rw [if_pos h0]
      · rw [if_neg h0]
        refine hf i hb fun hmem => ?_
        rcases List.mem_cons.mp hmem with e | e
        · have e1 : (i 3).val / 64 = x.1.val := congrArg (fun y : Fin 8 × Fin 4 => y.1.val) e
          have e2 : (i 0).val % 4 = x.2.val := congrArg (fun y : Fin 8 × Fin 4 => y.2.val) e
          have l0 : (i 0).val < 8 := (i 0).isLt
          have b0 : (blk x.2 0).val = x.2.val + 4 * 0 := rfl
          have b1 : (blk x.2 1).val = x.2.val + 4 * 1 := rfl
          rw [b1] at h1; rw [b0] at h0
          omega
        · exact hn e

theorem mem_tilesL (p : Fin 8 × Fin 4) : p ∈ tilesL := by revert p; decide

/-- A batch's tiles, from any contents. -/
theorem tiles_wp (b : Fin 2) (q : PosShare TreeShare) :
    iprop((∃ f, pt c cc0_scratch0 (partB b) fullShare f) ∗ pt c cc0_stg0_0 Finset.univ q (E c).x ∗ pt c cc0_stg2_0 Finset.univ q (E c).k ∗ pt c cc0_stg3_0 Finset.univ q (E c).v)
      ⊢ WP c (tiles (wqV (ldWq (E c))) b) fun _ =>
        iprop(pt c cc0_scratch0 (partB b) fullShare (GF (E c)) ∗ pt c cc0_stg0_0 Finset.univ q (E c).x ∗ pt c cc0_stg2_0 Finset.univ q (E c).k ∗ pt c cc0_stg3_0 Finset.univ q (E c).v) := by
  unfold tiles
  simp only [Prog.lift, Prog.bind_op, Prog.bind_ret]
  iintro ⟨⟨%f, H⟩, Hx, Hk, Hv⟩
  iapply (wp_load_rect 𝒱₀ (c : Thread nD τ) none Set.univ (m := xM) (r := xR b) (S := Finset.univ) (Finset.subset_univ _)) $$ Hx; iintro Hx
  iapply (wp_load_rect 𝒱₀ (c : Thread nD τ) none Set.univ (m := kM) (r := kvR b) (S := Finset.univ) (Finset.subset_univ _)) $$ Hk; iintro Hk
  iapply (wp_load_rect 𝒱₀ (c : Thread nD τ) none Set.univ (m := vM) (r := kvR b) (S := Finset.univ) (Finset.subset_univ _)) $$ Hv; iintro Hv
  iapply (WP_last c (P := tileJ E c b tilesL) (R := iprop(pt c cc0_stg0_0 Finset.univ q (E c).x ∗ pt c cc0_stg2_0 Finset.univ q (E c).k ∗ pt c cc0_stg3_0 Finset.univ q (E c).v))
    (WP_loop1 c (tile_step E c b) tilesL) (fun _ => ?_))
  rotate_left
  · isplitl [H]
    · unfold tileJ
      iexists f
      isplitr
      · ipureintro; exact fun i _ hn => absurd (mem_tilesL _) hn
      iexact H
    isplitl [Hx]; · iexact Hx
    isplitl [Hk]; · iexact Hk
    iexact Hv
  · unfold tileJ
    iintro ⟨⟨%g, %hg, H⟩, HR⟩
    have hg' : ∀ i ∈ partB b, g i = GF (E c) i := fun i hi => by
      obtain ⟨q', -, hq⟩ := Finset.mem_biUnion.mp hi
      exact hg i (mem_part.mp hq).2 List.not_mem_nil
    isplitl [H]
    · iapply (pt_congr c (b := cc0_scratch0) hg')
      iexact H
    iexact HR

end

end Cert.Attn
-- ==== Proof.Reduce.lean ====
/- Merging what arrives, finishing and sending a block, and the rows of the result. -/
module

public import proofs.«01_k».proof.Proof.Comp

@[expose] public section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

noncomputable section

variable {F : FTy → Type} [FloatOps F]
variable (E : Dev nD → Stg F) (K : Dev nD × Key → ℕ) (c : Dev nD)

/-! ### Which indices the rectangles take -/

theorem mem_accA (b : Fin 2) (i : S2x64x512.Idx) : i ∈ (accA b).set ↔ (i 0).val = b.val := by
  have h1 : (i 1).val < 64 := (i 1).isLt
  have h2 : (i 2).val < 512 := (i 2).isLt
  rw [Rect.mem_set_unit]
  constructor
  · intro hi
    have a0 : b.val ≤ (i 0).val ∧ (i 0).val < b.val + 1 := hi 0
    omega
  · intro e0
    refine forall3 ?_ ?_ ?_
    · show b.val ≤ (i 0).val ∧ (i 0).val < b.val + 1; omega
    · show 0 ≤ (i 1).val ∧ (i 1).val < 0 + 64; omega
    · show 0 ≤ (i 2).val ∧ (i 2).val < 0 + 512; omega

theorem mem_accH (b : Fin 2) (h : Fin 8) (i : S2x64x512.Idx) : i ∈ (accH b h).set ↔ (i 0).val = b.val ∧ (i 2).val / 64 = h.val := by
  have h1 : (i 1).val < 64 := (i 1).isLt
  have h2 : (i 2).val < 512 := (i 2).isLt
  rw [Rect.mem_set_unit]
  constructor
  · intro hi
    have a0 : b.val ≤ (i 0).val ∧ (i 0).val < b.val + 1 := hi 0
    have a2 : 64 * h.val ≤ (i 2).val ∧ (i 2).val < 64 * h.val + 64 := hi 2
    omega
  · rintro ⟨e0, e2⟩
    refine forall3 ?_ ?_ ?_
    · show b.val ≤ (i 0).val ∧ (i 0).val < b.val + 1; omega
    · show 0 ≤ (i 1).val ∧ (i 1).val < 0 + 64; omega
    · show 64 * h.val ≤ (i 2).val ∧ (i 2).val < 64 * h.val + 64; omega

theorem mem_agH (q : Fin 8) (b : Fin 2) (h : Fin 8) (i : S8x2x64x512.Idx) :
    i ∈ (agH q b h).set ↔ (i 0).val = q.val ∧ (i 1).val = b.val ∧ (i 3).val / 64 = h.val := by
  have h2 : (i 2).val < 64 := (i 2).isLt
  have h3 : (i 3).val < 512 := (i 3).isLt
  rw [Rect.mem_set_unit]
  constructor
  · intro hi
    have a0 : q.val ≤ (i 0).val ∧ (i 0).val < q.val + 1 := hi 0
    have a1 : b.val ≤ (i 1).val ∧ (i 1).val < b.val + 1 := hi 1
    have a3 : 64 * h.val ≤ (i 3).val ∧ (i 3).val < 64 * h.val + 64 := hi 3
    omega
  · rintro ⟨e0, e1, e3⟩
    refine forall4 ?_ ?_ ?_ ?_
    · show q.val ≤ (i 0).val ∧ (i 0).val < q.val + 1; omega
    · show b.val ≤ (i 1).val ∧ (i 1).val < b.val + 1; omega
    · show 0 ≤ (i 2).val ∧ (i 2).val < 0 + 64; omega
    · show 64 * h.val ≤ (i 3).val ∧ (i 3).val < 64 * h.val + 64; omega

theorem mem_outO (w : BitVec 32) (hw : w.toNat < 8) (b : Fin 2) (i : S2x512x768.Idx) :
    i ∈ (outO w hw b).set ↔ (i 0).val = b.val ∧ (i 1).val / 64 = w.toNat := by
  have h1 : (i 1).val < 512 := (i 1).isLt
  have h2 : (i 2).val < 768 := (i 2).isLt
  have ew := outRow' w hw
  rw [Rect.mem_set_unit]
  constructor
  · intro hi
    have a0 : b.val ≤ (i 0).val ∧ (i 0).val < b.val + 1 := hi 0
    have a1 : (Scalar.indexCast (Scalar.muli w 64#32)).toNat ≤ (i 1).val ∧ (i 1).val < (Scalar.indexCast (Scalar.muli w 64#32)).toNat + 64 := hi 1
    omega
  · rintro ⟨e0, e1⟩
    refine forall3 ?_ ?_ ?_
    · show b.val ≤ (i 0).val ∧ (i 0).val < b.val + 1; omega
    · show (Scalar.indexCast (Scalar.muli w 64#32)).toNat ≤ (i 1).val ∧ (i 1).val < (Scalar.indexCast (Scalar.muli w 64#32)).toNat + 64; omega
    · show 0 ≤ (i 2).val ∧ (i 2).val < 0 + 768; omega

/-- Contents that agree on a rectangle read alike through it. -/
theorem rd_congr (b : Ref sig .tc) (r : Rect b.ty.shape) {f g : b.ty.Contents (Elt F)} (h : ∀ i ∈ r.set, f i = g i) : rd b r f = rd b r g := by
  funext j
  rw [rd_apply, rd_apply]
  exact h _ (by rw [← Rect.map_emb_univ]; exact Finset.mem_map_of_mem _ (Finset.mem_univ j))

/-! ### Merging -/

/-- The weighted sums kept for batch `b` are `g`'s. -/
def accIs (b : Fin 2) (g : (cc0_scratch3 : Ref sig .tc).ty.Contents (Elt F)) : SP F :=
  iprop(∃ f : (cc0_scratch3 : Ref sig .tc).ty.Contents (Elt F), ⌜∀ i : S2x64x512.Idx, (i 0).val = b.val → f i = g i⌝ ∗ pt c cc0_scratch3 Finset.univ fullShare f)

/-- The heads `xs` are still to merge. -/
def mhJ (b : Fin 2) (s : MS F) (k : Fin 7) (xs : List (Fin 8)) : SP F :=
  iprop(∃ f : (cc0_scratch3 : Ref sig .tc).ty.Contents (Elt F),
    ⌜xs.Nodup ∧ ∀ i : S2x64x512.Idx, (i 0).val = b.val → (hd (i 2) ∈ xs → f i = s.a i) ∧ (hd (i 2) ∉ xs → f i = (msStep E c b s k).a i)⌝
      ∗ pt c cc0_scratch3 Finset.univ fullShare f ∗ pt c cc0_scratch1 (rrSet k b) fullShare (RRF E c))

theorem mergeHead_step (b : Fin 2) (s : MS F) (k : Fin 7) (h : Fin 8) (xs : List (Fin 8)) :
    mhJ E c b s k (h :: xs) ⊢ WP c (mergeHead b k (mFac s.m (msM E c b s k)) (mFac (rowK E c b k 0) (msM E c b s k)) h) fun _ => mhJ E c b s k xs := by
  unfold mergeHead mhJ
  simp only [Prog.lift, Prog.bind_op, Prog.bind_ret]
  iintro ⟨%f, %hf, H, HR⟩
  obtain ⟨hn, hf⟩ := hf
  have hrd : rd cc0_scratch3 (accH b h) f = rd cc0_scratch3 (accH b h) s.a := rd_congr cc0_scratch3 _ fun (i : S2x64x512.Idx) hi => by
    obtain ⟨h0, h2⟩ := (mem_accH b h i).mp hi
    exact (hf i h0).1 (List.mem_cons.mpr (.inl (Fin.ext h2)))
  have hv : mAcc (mFac s.m (msM E c b s k)) (mFac (rowK E c b k 0) (msM E c b s k)) h (rd cc0_scratch3 (accH b h) f) (rd cc0_scratch1 (rrH k b h) (RRF E c))
      = rd cc0_scratch3 (accH b h) (msStep E c b s k).a := by rw [hrd]; exact accH_rd E c b s k h
  iapply (wp_load_rect 𝒱₀ (c : Thread nD τ) none Set.univ (m := accM) (r := accH b h) (S := Finset.univ) (Finset.subset_univ _)) $$ H; iintro H
  iapply (wp_load_rect 𝒱₀ (c : Thread nD τ) none Set.univ (m := rrM) (r := rrH k b h) (acc_sub cc0_scratch1 _ (rrH_sub k b h))) $$ HR; iintro HR
  iapply (wp_load_rect 𝒱₀ (c : Thread nD τ) none Set.univ (m := accM) (r := accH b h) (S := Finset.univ) (Finset.subset_univ _)) $$ H; iintro H
  iapply (wp_store 𝒱₀ (c : Thread nD τ) none Set.univ (m := accM) (r := accH b h) (Mk := Finset.univ) (S := Finset.univ) (Finset.subset_univ _)) $$ H; iintro H
  iapply (WP_ret c (⟨⟩ : PUnit) _)
  iexists _
  isplitr
  rotate_left
  · isplitl [H]; · iexact H
    iexact HR
  ipureintro
  refine ⟨(List.nodup_cons.mp hn).2, fun i h0 => ?_⟩
  have e := write_rd cc0_scratch3 (accH b h) f (msStep E c b s k).a _ hv i
  constructor
  · intro hx
    refine e.trans ?_
    rw [if_neg fun hi => (List.nodup_cons.mp hn).1 (by
      have : hd (i 2) = h := Fin.ext ((mem_accH b h i).mp hi).2
      rwa [this] at hx)]
    exact (hf i h0).1 (List.mem_cons_of_mem _ hx)
  · intro hx
    refine e.trans ?_
    by_cases hi : i ∈ (accH b h).set
    · rw [if_pos hi]
    · rw [if_neg hi]
      refine (hf i h0).2 fun hm => ?_
      rcases List.mem_cons.mp hm with e' | e'
      · exact hi ((mem_accH b h i).mpr ⟨h0, congrArg Fin.val e'⟩)
      · exact hx e'

theorem mem_devs : ∀ d : Fin 8, d ∈ devs := by decide
theorem devs_nodup : devs.Nodup := by decide
theorem slots_nodup : slots.Nodup := by decide
theorem mem_slots : ∀ k : Fin 7, k ∈ slots := by decide

/-- All heads of a slot. -/
theorem mergeHeads (b : Fin 2) (s : MS F) (k : Fin 7) :
    iprop(accIs c b s.a ∗ pt c cc0_scratch1 (rrSet k b) fullShare (RRF E c))
      ⊢ WP c (seqL (mergeHead b k (mFac s.m (msM E c b s k)) (mFac (rowK E c b k 0) (msM E c b s k))) devs) fun _ =>
        iprop(accIs c b (msStep E c b s k).a ∗ pt c cc0_scratch1 (rrSet k b) fullShare (RRF E c)) := by
  have h1 : iprop(accIs c b s.a ∗ pt c cc0_scratch1 (rrSet k b) fullShare (RRF E c)) ⊢ mhJ E c b s k devs := by
    unfold accIs mhJ
    iintro ⟨⟨%f, %hf, H⟩, HR⟩
    iexists f
    isplitr
    · ipureintro; exact ⟨devs_nodup, fun i h0 => ⟨fun _ => hf i h0, fun hn => absurd (mem_devs _) hn⟩⟩
    isplitl [H] <;> iassumption
  have h2 : mhJ E c b s k [] ⊢ iprop(accIs c b (msStep E c b s k).a ∗ pt c cc0_scratch1 (rrSet k b) fullShare (RRF E c)) := by
    unfold accIs mhJ
    iintro ⟨%f, %hf, H, HR⟩
    isplitl [H]
    · iexists f
      isplitr
      · ipureintro; exact fun i h0 => (hf.2 i h0).2 List.not_mem_nil
      iexact H
    iexact HR
  exact h1.trans ((WP_loop1 c (mergeHead_step E c b s k) devs).trans (WP_mono c fun _ => h2))

/-- The slots `l` are still to merge. -/
def mgJ (b : Fin 2) (r : List (Fin 8 × Key)) (l : List (Fin 7)) (ml : FVec F S512 .f32 × FVec F S512 .f32) : SP F :=
  iprop(∃ dn : List (Fin 7), ⌜dn ++ l = slots ∧ ml = ((ms E c b dn).m, (ms E c b dn).l)⌝ ∗ recs E K ∗ ow c r ∗ accIs c b (ms E c b dn).a)
def mgPre (b : Fin 2) (k : Fin 7) : SP F := iprop(pos0 (c, kRsr b k) ∗ crd (c, kRsr b k) N1)
def mgPost (b : Fin 2) (k : Fin 7) : SP F := iprop(pos1 (c, kRsr b k) ∗ pt c cc0_scratch1 (rrSet k b) fullShare (RRF E c))

theorem ms_snoc (b : Fin 2) (l : List (Fin 7)) (k : Fin 7) : ms E c b (l ++ [k]) = msStep E c b (ms E c b l) k := by
  unfold ms; rw [List.foldl_append]; rfl

theorem merge_step (b : Fin 2) (r : List (Fin 8 × Key)) (hr : ∀ x ∈ r, 2 < lvK x.2) (k : Fin 7) (l : List (Fin 7)) (ml : FVec F S512 .f32 × FVec F S512 .f32) :
    iprop(mgJ E K c b r (k :: l) ml ∗ mgPre c b k) ⊢ WP c (merge b ml k) fun ml' => iprop(mgJ E K c b r l ml' ∗ mgPost E c b k) := by
  unfold mgJ mgPre mgPost
  have key := wait_all E K c (kRsr b k) r 2 (Nat.le_refl 2) hr (a := N1) (by
      show N1 = ({up c k} : Finset (Fin 8)).card * N1; rw [Finset.card_singleton, Nat.one_mul])
    (w := (.waitDma2 (rsrS b k) (partV 0 b) (rrV k b) (partV_exact 0 b) (rrV_exact k b)))
    (fun Q => (wpE_waitDma2_eq 𝒱₀ (c : Thread nD τ) none Set.univ Q).trans (by rw [rr_credit]; rfl))
  rw [one_pay E c (kRsr b k) (up c k) rfl, pay_rsr] at key
  iintro ⟨⟨%dn, %hd, #HR, HO, HA⟩, H1, H2⟩
  obtain ⟨hl, rfl⟩ := hd
  unfold merge
  rw [WP_bind]
  iapply (wp_wand_r _ _ _)
  isplitl [HO H1 H2]
  · iapply key
    isplitr; · iexact HR
    isplitl [HO]; · iexact HO
    isplitl [H1] <;> iassumption
  iintro %_ ⟨HO, H1, H2⟩
  simp only [Prog.lift, Prog.bind_op, Prog.bind_ret]
  iapply (wp_load_rect 𝒱₀ (c : Thread nD τ) none Set.univ (m := rrM) (r := rrR k b 0) (acc_sub cc0_scratch1 _ (rrR_sub k b 0))) $$ H2; iintro H2
  iapply (wp_load_rect 𝒱₀ (c : Thread nD τ) none Set.univ (m := rrM) (r := rrR k b 1) (acc_sub cc0_scratch1 _ (rrR_sub k b 1))) $$ H2; iintro H2
  iapply (Entails.of_eq (WP_bind c _ _ _).symm)
  iapply (wp_wand_r _ _ _)
  isplitl [HA H2]
  · iapply (mergeHeads E c b (ms E c b dn) k)
    isplitl [HA] <;> iassumption
  iintro %_ ⟨HA, H2⟩
  iapply (WP_ret c _ _)
  isplitl [HO HA]
  · iexists (dn ++ [k])
    isplitr
    · ipureintro
      refine ⟨by rw [List.append_assoc]; exact hl, ?_⟩
      rw [ms_snoc]; rfl
    isplitr; · iexact HR
    isplitl [HO]; · iexact HO
    rw [ms_snoc]; iexact HA
  isplitl [H1] <;> iassumption

/-! ### Finishing -/

/-- The heads `xs` are still to finish. -/
def fhJ (b : Fin 2) (xs : List (Fin 8)) : SP F :=
  iprop(∃ f : (cc0_scratch2 : Ref sig .tc).ty.Contents (Elt F),
    ⌜∀ i : S8x2x64x512.Idx, (i 0).val = c.val → (i 1).val = b.val → hd (i 3) ∉ xs → f i = AGF E i⌝
      ∗ pt c cc0_scratch2 (agSet c b) fullShare f ∗ accIs c b (ms E c b slots).a)

/-- Finishing a head, at a block named outright. -/
def finHeadAt (q : Fin 8) (b : Fin 2) (i : FVec F S512 .f32) (h : Fin 8) : Pr F PUnit := do
  let r : Vec F S1x64x64 .f32 ← Prog.lift (.load accM (accH b h).toLoadRect (View.loadsAt_vmem h_S1x64x64))
  let _ : Vec F S1x1x64x64 .bf16 ← Prog.lift (.load agM (agH q b h).toLoadRect (View.loadsAt_vmem h_S1x1x64x64))
  Prog.lift (.store agM (agH q b h) (Cert.Attn.fin i h r) Finset.univ (View.stores_vmem h_S1x1x64x64 ((Memref.isWhole_whole cc0_scratch2).storeExact_slice rfl _ (agH_packed q b h)) (fun _ => rfl)) (.inl rfl))

theorem finHead_eq (b : Fin 2) (i : FVec F S512 .f32) (h : Fin 8) : finHead c b i h = finHeadAt c b i h := by
  show finHeadAt (meI c) b i h = _
  rw [meI_eq]

theorem finHead_step (b : Fin 2) (h : Fin 8) (xs : List (Fin 8)) :
    fhJ E c b (h :: xs) ⊢ WP c (finHead c b (inv (ms E c b slots).l) h) fun _ => fhJ E c b xs := by
  rw [finHead_eq]
  unfold finHeadAt fhJ accIs
  simp only [Prog.lift, Prog.bind_op, Prog.bind_ret]
  iintro ⟨%f, %hf, H, ⟨%g, %hg, HA⟩⟩
  have hrd : rd cc0_scratch3 (accH b h) g = rd cc0_scratch3 (accH b h) (ms E c b slots).a := rd_congr cc0_scratch3 _ fun (i : S2x64x512.Idx) hi =>
    hg i ((mem_accH b h i).mp hi).1
  have hv : Cert.Attn.fin (inv (ms E c b slots).l) h (rd cc0_scratch3 (accH b h) g) = rd cc0_scratch2 (agH c b h) (AGF E) := by rw [hrd]; exact agH_rd E c b h
  iapply (wp_load_rect 𝒱₀ (c : Thread nD τ) none Set.univ (m := accM) (r := accH b h) (S := Finset.univ) (Finset.subset_univ _)) $$ HA; iintro HA
  iapply (wp_load_rect 𝒱₀ (c : Thread nD τ) none Set.univ (m := agM) (r := agH c b h) (acc_sub cc0_scratch2 _ (agH_sub c b h))) $$ H; iintro H
  iapply (wp_store 𝒱₀ (c : Thread nD τ) none Set.univ (m := agM) (r := agH c b h) (Mk := Finset.univ) (acc_on cc0_scratch2 _ (agH_sub c b h))) $$ H; iintro H
  iapply (WP_ret c (⟨⟩ : PUnit) _)
  iexists _
  isplitr
  rotate_left
  · isplitl [H]; · iexact H
    iexists g
    isplitr; · ipureintro; exact hg
    iexact HA
  ipureintro
  intro i h0 h1 hx
  refine (write_rd cc0_scratch2 (agH c b h) f (AGF E) _ hv i).trans ?_
  by_cases hi : i ∈ (agH c b h).set
  · rw [if_pos hi]
  · rw [if_neg hi]
    refine hf i h0 h1 fun hm => ?_
    rcases List.mem_cons.mp hm with e' | e'
    · exact hi ((mem_agH c b h i).mpr ⟨h0, h1, congrArg Fin.val e'⟩)
    · exact hx e'

theorem finHeads (b : Fin 2) :
    iprop((∃ f, pt c cc0_scratch2 (agSet c b) fullShare f) ∗ accIs c b (ms E c b slots).a)
      ⊢ WP c (seqL (finHead c b (inv (ms E c b slots).l)) devs) fun _ =>
        iprop(pt c cc0_scratch2 (agSet c b) fullShare (AGF E) ∗ accIs c b (ms E c b slots).a) := by
  have h1 : iprop((∃ f, pt c cc0_scratch2 (agSet c b) fullShare f) ∗ accIs c b (ms E c b slots).a) ⊢ fhJ E c b devs := by
    unfold fhJ
    iintro ⟨⟨%f, H⟩, HA⟩
    iexists f
    isplitr
    · ipureintro; exact fun i _ _ hn => absurd (mem_devs _) hn
    isplitl [H] <;> iassumption
  have h2 : fhJ E c b [] ⊢ iprop(pt c cc0_scratch2 (agSet c b) fullShare (AGF E) ∗ accIs c b (ms E c b slots).a) := by
    unfold fhJ
    iintro ⟨%f, %hf, H, HA⟩
    have hf' : ∀ i ∈ agSet c b, f i = AGF E i := fun i hi => hf i (mem_ag.mp hi).1 (mem_ag.mp hi).2 List.not_mem_nil
    isplitl [H]
    · iapply (pt_congr c (b := cc0_scratch2) hf'); iexact H
    iexact HA
  exact h1.trans ((WP_loop1 c (finHead_step E c b) devs).trans (WP_mono c fun _ => h2))

/-! ### Rows of the result -/

/-- The blocks of the result picked out by `P` are done. -/
def outIs (P : Fin 2 → Fin 8 → Prop) : SP F :=
  iprop(∃ f : (cc0_stg5_0 : Ref sig .tc).ty.Contents (Elt F), ⌜∀ i : S2x512x768.Idx, P (i 0) (hd (i 1)) → f i = OUTF E c i⌝ ∗ pt c cc0_stg5_0 Finset.univ fullShare f)

theorem outRows_wp (b : Fin 2) (w : BitVec 32) (hw : w.toNat < 8) (d : Fin 8) (hd' : (⟨w.toNat, hw⟩ : Fin 8) = d) (q : PosShare TreeShare)
    (P P' : Fin 2 → Fin 8 → Prop) (hP : ∀ b' d', P' b' d' → P b' d' ∨ (b' = b ∧ d' = d)) :
    iprop(pt c cc0_scratch2 (agSet d b) q (AGF E) ∗ outIs E c P) ⊢ WP c (outRows (woV (ldWo (E c))) b w hw) fun _ =>
      iprop(pt c cc0_scratch2 (agSet d b) q (AGF E) ∗ outIs E c P') := by
  unfold outRows outIs
  simp only [Prog.lift, Prog.bind_op, Prog.bind_ret]
  subst hd'
  iintro ⟨H, ⟨%f, %hf, HO⟩⟩
  have hv : outV (woV (ldWo (E c))) (rd cc0_scratch2 (agW ⟨w.toNat, hw⟩ b) (AGF E)) = rd cc0_stg5_0 (outO w hw b) (OUTF E c) := outO_rd E c b w hw
  iapply (wp_load_rect 𝒱₀ (c : Thread nD τ) none Set.univ (m := agM) (r := agW ⟨w.toNat, hw⟩ b) (acc_sub cc0_scratch2 _ (fun _ h => h))) $$ H; iintro H
  iapply (wp_load_rect 𝒱₀ (c : Thread nD τ) none Set.univ (m := outM) (r := outO w hw b) (S := Finset.univ) (Finset.subset_univ _)) $$ HO; iintro HO
  iapply (wp_store 𝒱₀ (c : Thread nD τ) none Set.univ (m := outM) (r := outO w hw b) (Mk := Finset.univ) (S := Finset.univ) (Finset.subset_univ _)) $$ HO; iintro HO
  iapply (WP_ret c (⟨⟩ : PUnit) _)
  isplitl [H]; · iexact H
  iexists _
  isplitr
  rotate_left
  · iexact HO
  ipureintro
  intro i hi
  refine (write_rd cc0_stg5_0 (outO w hw b) f (OUTF E c) _ hv i).trans ?_
  by_cases hm : i ∈ (outO w hw b).set
  · rw [if_pos hm]
  · rw [if_neg hm]
    rcases hP _ _ hi with h | ⟨h0, h1⟩
    · exact hf i h
    · exact absurd ((mem_outO w hw b i).mpr ⟨congrArg Fin.val h0, congrArg Fin.val h1⟩) hm

/-! ### Waiting for sent blocks -/

def agwPre (b : Fin 2) (t : Fin 7) : SP F := iprop(pos0 (c, kAgs b t) ∗ crd (c, kAgs b t) N2)
def agwPost (b : Fin 2) (t : Fin 7) : SP F := iprop(pos1 (c, kAgs b t) ∗ pt c cc0_scratch2 (agSet c b) (lf (t8 t)) (AGF E))

theorem agWait_step (b : Fin 2) (t : Fin 7) (ts : List (Fin 7)) :
    iprop(iprop(recs E K ∗ ow c []) ∗ agwPre c b t) ⊢ WP c (agWait c b t) fun _ => iprop(iprop(recs E K ∗ ow c []) ∗ agwPost E c b t) := by
  have key := wait_all E K c (kAgs b t) [] 0 (Nat.le_refl 0) (fun x hx => by cases hx) (a := N2) (by
      show N2 = ({c} : Finset (Fin 8)).card * N2; rw [Finset.card_singleton, Nat.one_mul])
    (w := (.waitDma2 (agsS b t) (agV (meI c) b) (agV (meI c) b) (agV_exact (meI c) b) (agV_exact (meI c) b)))
    (fun Q => (wpE_waitDma2_eq 𝒱₀ (c : Thread nD τ) none Set.univ Q).trans (by rw [ag_credit]; rfl))
  rw [one_pay E c (kAgs b t) c rfl, pay_ags] at key
  unfold agWait agwPre agwPost
  iintro ⟨⟨#HR, HO⟩, H1, H2⟩
  iapply (wp_wand_r _ _ _)
  isplitl [HO H1 H2]
  · iapply key
    isplitr; · iexact HR
    isplitl [HO]; · iexact HO
    isplitl [H1] <;> iassumption
  iintro %_ ⟨HO, H1, H2⟩
  isplitl [HO]
  · isplitr; · iexact HR
    iexact HO
  isplitl [H1] <;> iassumption

/-! ### Gathering -/

/-- The slots `ks` of batch `b` are still to come; `Q` says what was there before. -/
def gaJ (b : Fin 2) (Q : Fin 2 → Fin 8 → Prop) (ks : List (Fin 7)) : SP F :=
  iprop(recs E K ∗ ow c [] ∗ outIs E c fun b' d' => Q b' d' ∨ (b' = b ∧ d' ≠ c ∧ ∀ k ∈ ks, d' ≠ up c k))
def gaPre (b : Fin 2) (k : Fin 7) : SP F := iprop(pos0 (c, kAgr b k) ∗ crd (c, kAgr b k) N2)
def gaPost (b : Fin 2) (k : Fin 7) : SP F := iprop(pos1 (c, kAgr b k) ∗ pt c cc0_scratch2 (agSet (up c k) b) fullShare (AGF E))

theorem gather_step (b : Fin 2) (Q : Fin 2 → Fin 8 → Prop) (k : Fin 7) (ks : List (Fin 7)) :
    iprop(gaJ E K c b Q (k :: ks) ∗ gaPre c b k) ⊢ WP c (gather c (woV (ldWo (E c))) b k) fun _ => iprop(gaJ E K c b Q ks ∗ gaPost E c b k) := by
  have key := wait_all E K c (kAgr b k) [] 3 (Nat.le_refl 3) (fun x hx => by cases hx) (a := N2) (by
      show N2 = ({up c k} : Finset (Fin 8)).card * N2; rw [Finset.card_singleton, Nat.one_mul])
    (w := (.waitDma2 (agrS b k) (agV 0 b) (agV (meI c) b) (agV_exact 0 b) (agV_exact (meI c) b)))
    (fun Q => (wpE_waitDma2_eq 𝒱₀ (c : Thread nD τ) none Set.univ Q).trans (by rw [ag_credit]; rfl))
  rw [one_pay E c (kAgr b k) (up c k) rfl, pay_agr] at key
  unfold gather gaJ gaPre gaPost
  iintro ⟨⟨#HR, HO, HI⟩, H1, H2⟩
  rw [WP_bind]
  iapply (wp_wand_r _ _ _)
  isplitl [HO H1 H2]
  · iapply key
    isplitr; · iexact HR
    isplitl [HO]; · iexact HO
    isplitl [H1] <;> iassumption
  iintro %_ ⟨HO, H1, H2⟩
  have hout := outRows_wp E c b (srcW c k) (srcW_lt c k) (up c k) (srcI_eq c k) fullShare
    (fun b' d' => Q b' d' ∨ (b' = b ∧ d' ≠ c ∧ ∀ k' ∈ k :: ks, d' ≠ up c k')) (fun b' d' => Q b' d' ∨ (b' = b ∧ d' ≠ c ∧ ∀ k ∈ ks, d' ≠ up c k))
    (fun b' d' h => by
      rcases h with h | ⟨h0, hc, h⟩
      · exact .inl (.inl h)
      · by_cases e : d' = up c k
        · exact .inr ⟨h0, e⟩
        · refine .inl (.inr ⟨h0, hc, fun k' hk' => ?_⟩)
          rcases List.mem_cons.mp hk' with rfl | hk'
          · exact e
          · exact h k' hk')
  iapply (wp_wand_r _ _ _)
  isplitl [H2 HI]
  · iapply hout
    isplitl [H2] <;> iassumption
  iintro %_ ⟨H2, HI⟩
  isplitl [HO HI]
  · isplitr; · iexact HR
    isplitl [HO] <;> iassumption
  isplitl [H1] <;> iassumption

/-! ### A batch reduced -/

/-- Start a batch's merge from block `q` of the partial results. -/
def startAt (q : Fin 8) (b : Fin 2) : Pr F (FVec F S512 .f32 × FVec F S512 .f32) := do
  let p : Vec F S1x1x64x512 .bf16 ← Prog.lift (.load partM (partA q b).toLoadRect (View.loadsAt_vmem h_S1x1x64x512))
  let _ : Vec F S1x64x512 .f32 ← Prog.lift (.load accM (accA b).toLoadRect (View.loadsAt_vmem h_S1x64x512))
  Prog.lift (.store accM (accA b) (accV p) Finset.univ (View.stores_vmem_bits_univ h_S1x64x512 rfl) (.inl rfl))
  let m : Vec F S1x1x1x512 .bf16 ← Prog.lift (.load partM (partR q b 0).toLoadRect (View.loadsAt_vmem h_S1x1x1x512))
  let l : Vec F S1x1x1x512 .bf16 ← Prog.lift (.load partM (partR q b 1).toLoadRect (View.loadsAt_vmem h_S1x1x1x512))
  pure (rowV m, rowV l)

/-- The rest of a batch's reduction. -/
def restOf (wo : FVec F S512x768 .bf16) (b : Fin 2) (ml : FVec F S512 .f32 × FVec F S512 .f32) : Pr F PUnit := do
  let ml ← foldL (merge b) slots ml
  seqL (finHead c b (inv ml.2)) devs
  seqL (agSend c b) slots
  outRows wo b (meW c) (meW_lt c)

theorem reduce_eq (wo : FVec F S512x768 .bf16) (b : Fin 2) : reduce c wo b = startAt c b >>= restOf c wo b := by
  have h : reduce c wo b = startAt (meI c) b >>= restOf c wo b := rfl
  rw [h, meI_eq]

theorem start_wp (b : Fin 2) :
    iprop(pt c cc0_scratch0 (partSet c b) fullShare (GF (E c)) ∗ ∃ f, pt c cc0_scratch3 Finset.univ fullShare f)
      ⊢ WP c (startAt c b) fun ml => iprop(⌜ml = ((ms0 E c b).m, (ms0 E c b).l)⌝ ∗ pt c cc0_scratch0 (partSet c b) fullShare (GF (E c)) ∗ accIs c b (ms0 E c b).a) := by
  unfold startAt accIs
  simp only [Prog.lift, Prog.bind_op, Prog.bind_ret]
  iintro ⟨H, ⟨%f, HA⟩⟩
  iapply (wp_load_rect 𝒱₀ (c : Thread nD τ) none Set.univ (m := partM) (r := partA c b) (acc_sub cc0_scratch0 _ (partA_sub c b))) $$ H; iintro H
  iapply (wp_load_rect 𝒱₀ (c : Thread nD τ) none Set.univ (m := accM) (r := accA b) (S := Finset.univ) (Finset.subset_univ _)) $$ HA; iintro HA
  iapply (wp_store 𝒱₀ (c : Thread nD τ) none Set.univ (m := accM) (r := accA b) (Mk := Finset.univ) (S := Finset.univ) (Finset.subset_univ _)) $$ HA; iintro HA
  iapply (wp_load_rect 𝒱₀ (c : Thread nD τ) none Set.univ (m := partM) (r := partR c b 0) (acc_sub cc0_scratch0 _ (partR_sub c b 0))) $$ H; iintro H
  iapply (wp_load_rect 𝒱₀ (c : Thread nD τ) none Set.univ (m := partM) (r := partR c b 1) (acc_sub cc0_scratch0 _ (partR_sub c b 1))) $$ H; iintro H
  iapply (WP_ret c _ _)
  isplitr; · ipureintro; rfl
  isplitl [H]; · iexact H
  iexists _
  isplitr
  rotate_left
  · iexact HA
  ipureintro
  intro i hi
  refine (write_rd cc0_scratch3 (accA b) f (ms0 E c b).a _ (acc0_rd E c b) i).trans ?_
  rw [if_pos ((mem_accA b i).mpr hi)]

theorem slotsL (Φ : Fin 7 → SP F) : bigSepL slots Φ = bigSep Finset.univ Φ := (bigSep_univ_eq_bigSepL slots (by decide) slots_nodup Φ).symm
theorem devsL (Φ : Fin 8 → SP F) : bigSepL devs Φ = bigSep Finset.univ Φ := (bigSep_univ_eq_bigSepL devs (by decide) devs_nodup Φ).symm

/-- A finished block cut into the shares of its seven sends, and one for the device itself. -/
theorem ag_leaves (b : Fin 2) (f : (cc0_scratch2 : Ref sig .tc).ty.Contents (Elt F)) :
    pt c cc0_scratch2 (agSet c b) fullShare f = iprop(bigSep Finset.univ (fun t : Fin 7 => pt c cc0_scratch2 (agSet c b) (lf (t8 t)) f) ∗ pt c cc0_scratch2 (agSet c b) (lf 7) f) := by
  have e : pt c cc0_scratch2 (agSet c b) fullShare f = bigSep Finset.univ (fun i : Fin 8 => pt c cc0_scratch2 (agSet c b) (lf i) f) :=
    ShareLeaves.pointsTo_leaves (nD := nD) (τ := τ) (sig := sig) (Ix := Unit) (Val := Elt F) (Name := ℕ) (U := UU) (Lvl := ℕ)
      (ℓ := (c : Thread nD τ).loc cc0_scratch2) (agSet c b) (show Buf (Elt F) ((c : Thread nD τ).loc cc0_scratch2) from f) 3 fullShare
  have h7 : bigSep Finset.univ (fun t : Fin 7 => pt c cc0_scratch2 (agSet c b) (lf (t8 t)) f)
      = bigSep (Finset.univ.erase (7 : Fin 8)) (fun i : Fin 8 => pt c cc0_scratch2 (agSet c b) (lf i) f) := by
    rw [show (Finset.univ.erase (7 : Fin 8)) = Finset.univ.map ⟨t8, Fin.castSucc_injective 7⟩ from by decide, bigSep_map]
    rfl
  rw [h7, e, bigSep_erase (Finset.mem_univ (7 : Fin 8))]
  exact BI.equiv_iff.mp ⟨BI.sep_comm, BI.sep_comm⟩

/-- What a send of a finished block needs, less its share of the block. -/
def agPre0 (b : Fin 2) (t : Fin 7) : SP F :=
  iprop(tok (c, kAgs b t) c ∗ tok (up c t, kAgr b (rev7 t)) c ∗ ∃ f, pt (up c t) cc0_scratch2 (agSet c b) fullShare f)

theorem agPre_one (b : Fin 2) (t : Fin 7) :
    iprop(agPre0 (F := F) c b t ∗ pt c cc0_scratch2 (agSet c b) (lf (t8 t)) (AGF E)) ⊢ agPre E c b t := by
  unfold agPre0 agPre
  iintro ⟨⟨H1, H2, H3⟩, H4⟩
  isplitl [H1]; · iexact H1
  isplitl [H2]; · iexact H2
  isplitl [H4]; · iexact H4
  iexact H3

theorem agPre_join (b : Fin 2) :
    iprop(bigSep Finset.univ (agPre0 (F := F) c b) ∗ bigSep Finset.univ (fun t : Fin 7 => pt c cc0_scratch2 (agSet c b) (lf (t8 t)) (AGF E)))
      ⊢ bigSepL slots (agPre E c b) := by
  rw [slotsL, ← bigSep_sep']
  exact bigSep_mono fun t _ => agPre_one E c b t

/-- A batch reduced, sent round, and multiplied in. -/
theorem reduce_wp (b : Fin 2) (r : List (Fin 8 × Key)) (hr : ∀ x ∈ agDue c b slots ++ r, 2 < lvK x.2) (P P' : Fin 2 → Fin 8 → Prop)
    (hP : ∀ b' d', P' b' d' → P b' d' ∨ (b' = b ∧ d' = c)) :
    iprop(recs E K ∗ ow c (agDue c b slots ++ r) ∗ pt c cc0_scratch0 (partSet c b) fullShare (GF (E c)) ∗ (∃ f, pt c cc0_scratch3 Finset.univ fullShare f)
        ∗ bigSep Finset.univ (mgPre (F := F) c b) ∗ (∃ f, pt c cc0_scratch2 (agSet c b) fullShare f) ∗ bigSep Finset.univ (agPre0 (F := F) c b) ∗ outIs E c P)
      ⊢ WP c (reduce c (woV (ldWo (E c))) b) fun _ =>
        iprop(ow c r ∗ pt c cc0_scratch0 (partSet c b) fullShare (GF (E c)) ∗ (∃ f, pt c cc0_scratch3 Finset.univ fullShare f)
          ∗ bigSep Finset.univ (mgPost E c b) ∗ pt c cc0_scratch2 (agSet c b) (lf 7) (AGF E) ∗ bigSep Finset.univ (agPost (F := F) c b) ∗ outIs E c P') := by
  rw [reduce_eq, WP_bind]
  iintro ⟨#HR, HO, Hp, HA, Hm, Hg, Hs, HI⟩
  iapply (wp_wand_r _ _ _)
  isplitl [Hp HA]
  · iapply (start_wp E c b)
    isplitl [Hp] <;> iassumption
  iintro %ml ⟨%hml, Hp, HA⟩
  unfold restOf
  rw [WP_bind]
  iapply (wp_wand_r _ _ _)
  isplitl [HO HA Hm]
  · iapply (WP_loopS c (merge_step E K c b (agDue c b slots ++ r) hr) slots ml)
    isplitl [HO HA]
    · unfold mgJ
      iexists []
      isplitr; · ipureintro; exact ⟨rfl, hml⟩
      isplitr; · iexact HR
      isplitl [HO]; · iexact HO
      iexact HA
    iapply (Entails.of_eq (slotsL (mgPre c b)).symm); iexact Hm
  iintro %ml' ⟨HJ, Hm⟩
  unfold mgJ
  icases HJ with ⟨%dn, %hdn, -, HO, HA⟩
  obtain ⟨hdn, rfl⟩ := hdn
  rw [List.append_nil] at hdn
  subst hdn
  rw [WP_bind]
  iapply (wp_wand_r _ _ _)
  isplitl [Hg HA]
  · iapply (finHeads E c b)
    isplitl [Hg] <;> iassumption
  iintro %_ ⟨Hg, HA⟩
  ihave Hg := (Entails.of_eq (ag_leaves c b (AGF E))) $$ Hg
  icases Hg with ⟨Hl, Hg⟩
  rw [WP_bind]
  iapply (wp_wand_r _ _ _)
  isplitl [HO Hs Hl]
  · iapply (WP_loop c (agSend_step E K c b r) slots)
    isplitl [HO]
    · isplitr; · iexact HR
      iexact HO
    iapply (agPre_join E c b)
    isplitl [Hs] <;> iassumption
  iintro %_ ⟨⟨-, HO⟩, Hs⟩
  iapply (wp_wand_r _ _ _)
  isplitl [Hg HI]
  · iapply (outRows_wp E c b (meW c) (meW_lt c) c (meI_eq c) (lf 7) P P' hP)
    isplitl [Hg] <;> iassumption
  iintro %_ ⟨Hg, HI⟩
  isplitl [HO]; · iexact HO
  isplitl [Hp]; · iexact Hp
  isplitl [HA]
  · unfold accIs
    icases HA with ⟨%f, -, HA⟩
    iexists f; iexact HA
  isplitl [Hm]; · iapply (Entails.of_eq (slotsL (mgPost E c b))); iexact Hm
  isplitl [Hg]; · iexact Hg
  isplitl [Hs]; · iapply (Entails.of_eq (slotsL (agPost c b))); iexact Hs
  iexact HI

end

end Cert.Attn
-- ==== Proof.Body.lean ====
/- The whole body on one device: from what it starts with to what it leaves. -/
module

public import proofs.«01_k».proof.Proof.Reduce

@[expose] public section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

noncomputable section

variable {F : FTy → Type} [FloatOps F]
variable (E : Dev nD → Stg F) (K : Dev nD × Key → ℕ) (c : Dev nD)

/-! ### The other devices, and the slots -/

theorem othL (X : Fin 8 → SP F) : bigSepL devs (oth c X) = bigSep (Finset.univ.erase c) X := by
  rw [devsL, bigSep_univ_at (oth c X) c, oth_self c X rfl, emp_sep_eq'']
  exact bigSep_congr fun d hd => oth_ne c X (Finset.ne_of_mem_erase hd)

theorem erase_up (X : Fin 8 → SP F) : bigSep (Finset.univ.erase c) X = bigSep Finset.univ (fun k : Fin 7 => X (up c k)) := by
  have h : Finset.univ.erase c = Finset.univ.map ⟨up c, fun k k' => up_inj c k k'⟩ := by revert c; decide +kernel
  rw [h, bigSep_map]; rfl

/-! ### Buffers cut up -/

/-- A region is held in the pieces that make it up. -/
theorem pt_pieces {T : Type} (b : Ref sig .tc) (S : Finset T) (A : Finset b.ty.shape.Idx) (P : T → Finset b.ty.shape.Idx) (hA : ∀ i, i ∈ A ↔ ∃ t ∈ S, i ∈ P t)
    (h : ∀ t ∈ S, ∀ t' ∈ S, t ≠ t' → Disjoint (P t) (P t')) (q : PosShare TreeShare) (f : b.ty.Contents (Elt F)) :
    pt c b A q f = bigSep S fun t => pt c b (P t) q f := by
  have e := pointsTo_biUnion (nD := nD) (τ := τ) (sig := sig) (Ix := Unit) (Val := Elt F) (Name := ℕ) (U := UU) (Lvl := ℕ) (ℓ := (c : Thread nD τ).loc b) (q := q) (f := f) S P h
  rw [show A = _ from ?_]
  · exact e
  · ext i; rw [hA]; exact (Finset.mem_biUnion).symm

theorem partB_disj : ∀ b ∈ (Finset.univ : Finset (Fin 2)), ∀ b' ∈ (Finset.univ : Finset (Fin 2)), b ≠ b' → Disjoint (partB b) (partB b') := by
  intro b _ b' _ hne
  rw [Finset.disjoint_left]
  intro i h h'
  obtain ⟨q, -, hq⟩ := Finset.mem_biUnion.mp h
  obtain ⟨q', -, hq'⟩ := Finset.mem_biUnion.mp h'
  exact hne (Fin.ext ((mem_part.mp hq).2.symm.trans (mem_part.mp hq').2))
theorem partB_cover : (Finset.univ : Finset (Fin 2)).biUnion partB = Finset.univ := by
  ext (i : S8x2x66x512.Idx)
  simp only [Finset.mem_biUnion, Finset.mem_univ, true_and, iff_true]
  exact ⟨i 1, Finset.mem_biUnion.mpr ⟨i 0, Finset.mem_univ _, mem_part.mpr ⟨rfl, rfl⟩⟩⟩

/-- The partial results, by batches. -/
theorem scr0_two (q : PosShare TreeShare) (f : (cc0_scratch0 : Ref sig .tc).ty.Contents (Elt F)) :
    pt c cc0_scratch0 Finset.univ q f = iprop(pt c cc0_scratch0 (partB 0) q f ∗ pt c cc0_scratch0 (partB 1) q f) := by
  rw [← bigSep_univ_two (fun b : Fin 2 => pt c cc0_scratch0 (partB b) q f)]
  exact pt_pieces c cc0_scratch0 Finset.univ Finset.univ partB (fun i => ⟨fun h => Finset.mem_biUnion.mp (partB_cover ▸ h), fun _ => Finset.mem_univ i⟩) partB_disj q f

/-- A batch's partial results: the device's own, and those for the others. -/
theorem partB_split (b : Fin 2) (q : PosShare TreeShare) (f : (cc0_scratch0 : Ref sig .tc).ty.Contents (Elt F)) :
    pt c cc0_scratch0 (partB b) q f = iprop(pt c cc0_scratch0 (partSet c b) q f ∗ bigSep (Finset.univ.erase c) (fun d => pt c cc0_scratch0 (partSet d b) q f)) := by
  rw [← bigSep_univ_at (fun d : Fin 8 => pt c cc0_scratch0 (partSet d b) q f) c]
  exact pt_pieces c cc0_scratch0 Finset.univ (partB b) (fun d : Fin 8 => partSet d b) (fun i => Finset.mem_biUnion) (q := q) (f := f) fun d _ d' _ hne =>
    part_disj (d, b) (Finset.mem_univ _) (d', b) (Finset.mem_univ _) fun e => hne (congrArg Prod.fst e)

/-- The arrived partial results, by slots and batches. -/
theorem scr1_split (q : PosShare TreeShare) (f : (cc0_scratch1 : Ref sig .tc).ty.Contents (Elt F)) :
    pt c cc0_scratch1 Finset.univ q f
      = iprop(bigSep Finset.univ (fun k : Fin 7 => pt c cc0_scratch1 (rrSet k 0) q f) ∗ bigSep Finset.univ (fun k : Fin 7 => pt c cc0_scratch1 (rrSet k 1) q f)) := by
  have h1 : pt c cc0_scratch1 Finset.univ q f = bigSep Finset.univ (fun p : Fin 7 × Fin 2 => pt c cc0_scratch1 (rrSet p.1 p.2) q f) :=
    pt_pieces c cc0_scratch1 Finset.univ Finset.univ (fun p : Fin 7 × Fin 2 => rrSet p.1 p.2) (fun i => ⟨fun h => Finset.mem_biUnion.mp (rr_cover ▸ h), fun _ => Finset.mem_univ i⟩) rr_disj q f
  rw [h1, bigSep_univ_prod, ← bigSep_sep']
  exact bigSep_congr fun k _ => bigSep_univ_two (fun b : Fin 2 => pt c cc0_scratch1 (rrSet k b) q f)

/-- The finished blocks, by batches: the device's own and the others'. -/
theorem scr2_split (q : PosShare TreeShare) (f : (cc0_scratch2 : Ref sig .tc).ty.Contents (Elt F)) :
    pt c cc0_scratch2 Finset.univ q f
      = iprop((pt c cc0_scratch2 (agSet c 0) q f ∗ bigSep (Finset.univ.erase c) (fun d => pt c cc0_scratch2 (agSet d 0) q f))
        ∗ (pt c cc0_scratch2 (agSet c 1) q f ∗ bigSep (Finset.univ.erase c) (fun d => pt c cc0_scratch2 (agSet d 1) q f))) := by
  have h1 : pt c cc0_scratch2 Finset.univ q f = bigSep Finset.univ (fun p : Fin 8 × Fin 2 => pt c cc0_scratch2 (agSet p.1 p.2) q f) :=
    pt_pieces c cc0_scratch2 Finset.univ Finset.univ (fun p : Fin 8 × Fin 2 => agSet p.1 p.2) (fun i => ⟨fun h => Finset.mem_biUnion.mp (ag_cover ▸ h), fun _ => Finset.mem_univ i⟩) ag_disj q f
  rw [h1, bigSep_univ_prod, ← bigSep_univ_at (fun d : Fin 8 => pt c cc0_scratch2 (agSet d 0) q f) c,
    ← bigSep_univ_at (fun d : Fin 8 => pt c cc0_scratch2 (agSet d 1) q f) c, ← bigSep_sep']
  exact bigSep_congr fun k _ => bigSep_univ_two (fun b : Fin 2 => pt c cc0_scratch2 (agSet k b) q f)

theorem ex_pt (b : Ref sig .tc) (S : Finset b.ty.shape.Idx) (q : PosShare TreeShare) (f : b.ty.Contents (Elt F)) :
    pt c b S q f ⊢ iprop(∃ f, pt c b S q f) := by
  iintro H; iexists f; iexact H

/-- What a device hands out as it enters: room for what the others send it. -/
theorem rooms :
    iprop((∃ f, pt c cc0_scratch1 Finset.univ fullShare f) ∗ (∃ f, pt c cc0_scratch2 Finset.univ fullShare f))
      ⊢ iprop(bigSep (Finset.univ.erase c) (fun d => iprop(room (F := F) d c 0 ∗ room d c 1))
        ∗ (∃ f, pt c cc0_scratch2 (agSet c 0) fullShare f) ∗ (∃ f, pt c cc0_scratch2 (agSet c 1) fullShare f)) := by
  have hr : ∀ b : Fin 2, ∀ f : (cc0_scratch1 : Ref sig .tc).ty.Contents (Elt F), bigSep Finset.univ (fun k : Fin 7 => pt c cc0_scratch1 (rrSet k b) fullShare f)
      ⊢ bigSep (Finset.univ.erase c) (fun d => iprop(∃ f, pt c cc0_scratch1 (rrSet (slotOf d c) b) fullShare f)) := fun b f => by
    rw [erase_up]
    refine bigSep_mono fun k _ => ?_
    rw [slotOf_up]
    exact ex_pt c cc0_scratch1 (rrSet k b) fullShare f
  have ha : ∀ b : Fin 2, ∀ f : (cc0_scratch2 : Ref sig .tc).ty.Contents (Elt F), bigSep (Finset.univ.erase c) (fun d => pt c cc0_scratch2 (agSet d b) fullShare f)
      ⊢ bigSep (Finset.univ.erase c) (fun d => iprop(∃ f, pt c cc0_scratch2 (agSet d b) fullShare f)) := fun b f =>
    bigSep_mono fun d _ => ex_pt c cc0_scratch2 (agSet d b) fullShare f
  unfold room
  rw [bigSep_sep', bigSep_sep', bigSep_sep']
  iintro ⟨⟨%f, H⟩, ⟨%g, H'⟩⟩
  ihave H := (Entails.of_eq (scr1_split c fullShare f)) $$ H
  ihave H' := (Entails.of_eq (scr2_split c fullShare g)) $$ H'
  icases H with ⟨H0, H1⟩
  icases H' with ⟨⟨Hc0, Ho0⟩, ⟨Hc1, Ho1⟩⟩
  isplitl [H0 H1 Ho0 Ho1]
  · isplitl [H0 Ho0]
    · isplitl [H0]; · iapply (hr 0 f); iexact H0
      iapply (ha 0 g); iexact Ho0
    isplitl [H1]; · iapply (hr 1 f); iexact H1
    iapply (ha 1 g); iexact Ho1
  isplitl [Hc0]
  · iexists g; iexact Hc0
  iexists g; iexact Hc1

/-! ### What a batch needs and leaves -/

/-- The places and rights of a batch. -/
def bIn (b : Fin 2) : SP F :=
  iprop(bigSep Finset.univ (fun d : Fin 8 => pos0 (F := F) (c, kRss b d)) ∗ bigSep Finset.univ (mgPre (F := F) c b) ∗ bigSep Finset.univ (fun t : Fin 7 => pos0 (F := F) (c, kAgs b t))
    ∗ bigSep Finset.univ (gaPre (F := F) c b)
    ∗ bigSep (Finset.univ.erase c) (fun d : Fin 8 => iprop(tok (F := F) (c, kRss b d) c ∗ tok (d, kRsr b (slotOf c d)) c))
    ∗ bigSep Finset.univ (fun t : Fin 7 => iprop(tok (F := F) (c, kAgs b t) c ∗ tok (up c t, kAgr b (rev7 t)) c)))

/-- The places after it. -/
def bOut (b : Fin 2) : SP F :=
  iprop(pos0 (F := F) (c, kRss b c) ∗ bigSep (Finset.univ.erase c) (fun d : Fin 8 => pos1 (F := F) (c, kRss b d)) ∗ bigSep Finset.univ (fun k : Fin 7 => pos1 (F := F) (c, kRsr b k))
    ∗ bigSep Finset.univ (fun t : Fin 7 => pos1 (F := F) (c, kAgs b t)) ∗ bigSep Finset.univ (fun k : Fin 7 => pos1 (F := F) (c, kAgr b k)))

/-- What a batch's sends need, put together. -/
theorem rsPre_join (b : Fin 2) :
    iprop(bigSep (Finset.univ.erase c) (fun d : Fin 8 => iprop(tok (F := F) (c, kRss b d) c ∗ tok (d, kRsr b (slotOf c d)) c))
        ∗ bigSep (Finset.univ.erase c) (fun d => pt c cc0_scratch0 (partSet d b) fullShare (GF (E c)))
        ∗ bigSep (Finset.univ.erase c) (fun d => iprop(∃ f, pt (F := F) d cc0_scratch1 (rrSet (slotOf c d) b) fullShare f)))
      ⊢ bigSepL devs (oth c (rsPre E c b)) := by
  rw [othL, ← bigSep_sep', ← bigSep_sep']
  have h : ∀ d, iprop((tok (F := F) (c, kRss b d) c ∗ tok (d, kRsr b (slotOf c d)) c) ∗ pt c cc0_scratch0 (partSet d b) fullShare (GF (E c))
      ∗ ∃ f, pt (F := F) d cc0_scratch1 (rrSet (slotOf c d) b) fullShare f) ⊢ rsPre E c b d := fun d => by
    unfold rsPre
    iintro ⟨⟨H1, H2⟩, H3, H4⟩
    isplitl [H1]; · iexact H1
    isplitl [H2]; · iexact H2
    isplitl [H3] <;> iassumption
  exact bigSep_mono fun d _ => h d

/-- The same for the finished blocks. -/
theorem agPre0_join (b : Fin 2) :
    iprop(bigSep Finset.univ (fun t : Fin 7 => iprop(tok (F := F) (c, kAgs b t) c ∗ tok (up c t, kAgr b (rev7 t)) c))
        ∗ bigSep (Finset.univ.erase c) (fun d => iprop(∃ f, pt (F := F) d cc0_scratch2 (agSet c b) fullShare f)))
      ⊢ bigSep Finset.univ (agPre0 (F := F) c b) := by
  rw [erase_up, ← bigSep_sep']
  have h : ∀ t : Fin 7, iprop((tok (F := F) (c, kAgs b t) c ∗ tok (up c t, kAgr b (rev7 t)) c) ∗ ∃ f, pt (F := F) (up c t) cc0_scratch2 (agSet c b) fullShare f)
      ⊢ agPre0 c b t := fun t => by
    unfold agPre0
    iintro ⟨⟨H1, H2⟩, H3⟩
    isplitl [H1]; · iexact H1
    isplitl [H2] <;> iassumption
  exact bigSep_mono fun t _ => h t

/-- The rooms at the others, sorted. -/
theorem rooms_sort :
    bigSep (Finset.univ.erase c) (fun d => iprop(room (F := F) c d 0 ∗ room c d 1))
      = iprop((bigSep (Finset.univ.erase c) (fun d => iprop(∃ f, pt (F := F) d cc0_scratch1 (rrSet (slotOf c d) 0) fullShare f))
          ∗ bigSep (Finset.univ.erase c) (fun d => iprop(∃ f, pt (F := F) d cc0_scratch2 (agSet c 0) fullShare f)))
        ∗ (bigSep (Finset.univ.erase c) (fun d => iprop(∃ f, pt (F := F) d cc0_scratch1 (rrSet (slotOf c d) 1) fullShare f))
          ∗ bigSep (Finset.univ.erase c) (fun d => iprop(∃ f, pt (F := F) d cc0_scratch2 (agSet c 1) fullShare f)))) := by
  unfold room
  rw [bigSep_sep', bigSep_sep', bigSep_sep']

/-- The barrier's wait: room at every other device. -/
theorem barWait_wp :
    iprop(recs E K ∗ ow c (due1 c) ∗ pos0 (c, kBar) ∗ crd (c, kBar) 7) ⊢ WP c (semWaitWord barS 7#32) fun _ =>
      iprop(ow c (due1 c) ∗ pos1 (c, kBar) ∗ bigSep (Finset.univ.erase c) (fun d => iprop(room (F := F) c d 0 ∗ room c d 1))) := by
  have hl : ∀ c : Fin 8, ∀ x ∈ due1 c, 1 < lvK x.2 := by decide +kernel
  exact wait_all E K c kBar (due1 c) 1 (Nat.le_refl 1) (hl c) (a := 7) (by
      show 7 = (Finset.univ.erase c).card * 1; rw [Finset.card_erase_of_mem (Finset.mem_univ c), Finset.card_univ, Fintype.card_fin]; rfl)
    (w := .semWait barS 7) (fun Q => wpE_semWait_eq 𝒱₀ (c : Thread nD τ) none Set.univ Q)

/-- What was sent, with the places to wait at. -/
theorem rsw_join (b : Fin 2) :
    iprop(bigSep Finset.univ (fun d : Fin 8 => pos0 (F := F) (c, kRss b d)) ∗ bigSepL devs (oth c (rsPost (F := F) c b)))
      ⊢ iprop(pos0 (F := F) (c, kRss b c) ∗ bigSepL devs (oth c (rswPre (F := F) c b))) := by
  rw [othL, othL, bigSep_univ_at (fun d : Fin 8 => pos0 (F := F) (c, kRss b d)) c]
  unfold rswPre rsPost
  rw [bigSep_sep']
  iintro ⟨⟨H1, H2⟩, H3⟩
  isplitl [H1]; · iexact H1
  isplitl [H2] <;> iassumption
theorem agw_join (b : Fin 2) :
    iprop(bigSep Finset.univ (fun t : Fin 7 => pos0 (F := F) (c, kAgs b t)) ∗ bigSep Finset.univ (agPost (F := F) c b)) ⊢ bigSepL slots (agwPre (F := F) c b) := by
  rw [slotsL]
  unfold agwPre agPost
  rw [bigSep_sep']

/-! ### After the waits -/

theorem scr0_back (b : Fin 2) :
    iprop(pt c cc0_scratch0 (partSet c b) fullShare (GF (E c)) ∗ bigSepL devs (oth c (rswPost E c b)))
      ⊢ iprop(pt c cc0_scratch0 (partB b) fullShare (GF (E c)) ∗ bigSep (Finset.univ.erase c) (fun d : Fin 8 => pos1 (F := F) (c, kRss b d))) := by
  rw [othL, partB_split c b fullShare (GF (E c))]
  unfold rswPost
  rw [bigSep_sep']
  iintro ⟨H1, H2, H3⟩
  isplitl [H1 H3]
  · isplitl [H1] <;> iassumption
  iexact H2
theorem scr1_back (b : Fin 2) :
    bigSep Finset.univ (mgPost E c b)
      = iprop(bigSep Finset.univ (fun k : Fin 7 => pos1 (F := F) (c, kRsr b k)) ∗ bigSep Finset.univ (fun k : Fin 7 => pt c cc0_scratch1 (rrSet k b) fullShare (RRF E c))) := by
  unfold mgPost
  rw [bigSep_sep']
theorem scr2_back (b : Fin 2) :
    iprop(pt c cc0_scratch2 (agSet c b) (lf 7) (AGF E) ∗ bigSepL slots (agwPost E c b) ∗ bigSepL slots (gaPost E c b))
      ⊢ iprop((pt c cc0_scratch2 (agSet c b) fullShare (AGF E) ∗ bigSep (Finset.univ.erase c) (fun d => pt c cc0_scratch2 (agSet d b) fullShare (AGF E)))
        ∗ bigSep Finset.univ (fun t : Fin 7 => pos1 (F := F) (c, kAgs b t)) ∗ bigSep Finset.univ (fun k : Fin 7 => pos1 (F := F) (c, kAgr b k))) := by
  rw [slotsL, slotsL, ag_leaves c b (AGF E), erase_up]
  unfold agwPost gaPost
  rw [bigSep_sep', bigSep_sep']
  iintro ⟨H1, ⟨H2, H3⟩, H4, H5⟩
  isplitl [H1 H3 H5]
  · isplitl [H1 H3]
    · isplitl [H3] <;> iassumption
    iexact H5
  isplitl [H2] <;> iassumption

/-! ### The body -/

/-- A device's staged operands. -/
def ops (s : Stg F) : SP F :=
  iprop(pt c cc0_stg0_0 Finset.univ fullShare s.x ∗ pt c cc0_stg1_0 Finset.univ fullShare s.wq ∗ pt c cc0_stg2_0 Finset.univ fullShare s.k
    ∗ pt c cc0_stg3_0 Finset.univ fullShare s.v ∗ pt c cc0_stg4_0 Finset.univ fullShare s.wo)

/-- The scratch buffers, holding anything. -/
def scr : SP F :=
  iprop((∃ f, pt c cc0_scratch0 Finset.univ fullShare f) ∗ (∃ f, pt c cc0_scratch1 Finset.univ fullShare f) ∗ (∃ f, pt c cc0_scratch2 Finset.univ fullShare f)
    ∗ (∃ f, pt c cc0_scratch3 Finset.univ fullShare f))

/-- What a device starts with, beside its buffers. -/
def base : SP F :=
  iprop(pos0 (F := F) (c, kBar) ∗ crd (F := F) (c, kBar) 7 ∗ bigSep (Finset.univ.erase c) (fun d => tok (F := F) (d, kBar) c) ∗ bIn c 0 ∗ bIn c 1)
/-- And what it ends with. -/
def last : SP F := iprop(pos1 (F := F) (c, kBar) ∗ bOut c 0 ∗ bOut c 1)

theorem barPre_join :
    iprop(bigSep (Finset.univ.erase c) (fun d => tok (F := F) (d, kBar) c) ∗ bigSep (Finset.univ.erase c) (fun d => iprop(room (F := F) d c 0 ∗ room d c 1)))
      ⊢ bigSepL devs (oth c (barPre c)) := by
  rw [othL, ← bigSep_sep']
  exact Entails.rfl

/-- Up to the last of the partial results sent. -/
def front (k : Vec F S768x512 .f32 → Pr F PUnit) : Pr F PUnit := do
  seqL (barSig c) devs
  let wq : Vec F S768x512 .f32 ← Prog.lift (.load wqM (Rect.unit (s := S768x512) ![0, 0] S768x512.size inb_S768x512_S768x512_0_0).toLoadRect (View.loadsAt_vmem h_S768x512))
  tiles (wqV wq) 0
  semWaitWord barS 7#32
  seqL (rsSend c 0) devs
  k wq

/-- The second batch's tiles and sends. -/
def middle (k : Pr F PUnit) (wq : Vec F S768x512 .f32) : Pr F PUnit := do
  tiles (wqV wq) 1
  seqL (rsSend c 1) devs
  k

/-- Both batches reduced. -/
def reduces (k : Vec F S512x768 .f32 → Pr F PUnit) : Pr F PUnit := do
  let wo : Vec F S512x768 .f32 ← Prog.lift (.load woM (Rect.unit (s := S512x768) ![0, 0] S512x768.size inb_S512x768_S512x768_0_0).toLoadRect (View.loadsAt_vmem h_S512x768))
  reduce c (woV wo) 0
  reduce c (woV wo) 1
  k wo

/-- The others' blocks, and the last waits. -/
def waits (wo : Vec F S512x768 .f32) : Pr F PUnit := do
  seqL (gather c (woV wo) 0) slots
  seqL (gather c (woV wo) 1) slots
  seqL (rsWait c 0) devs
  seqL (rsWait c 1) devs
  seqL (agWait c 0) slots
  seqL (agWait c 1) slots

theorem body_phases : (bodyOn c : Pr F PUnit) = front c (middle c (reduces c (waits c))) := rfl

theorem front_wp {k : Vec F S768x512 .f32 → Pr F PUnit} {Q : PUnit → SP F} {R : SP F}
    (hk : iprop(ow c (due2 c) ∗ ops c (E c) ∗ pt c cc0_scratch0 (partSet c 0) fullShare (GF (E c)) ∗ pos1 (F := F) (c, kBar) ∗ bigSepL devs (oth c (rsPost (F := F) c 0))
        ∗ bigSep (Finset.univ.erase c) (fun d => iprop(∃ f, pt (F := F) d cc0_scratch2 (agSet c 0) fullShare f))
        ∗ bigSep (Finset.univ.erase c) (fun d => iprop(∃ f, pt (F := F) d cc0_scratch1 (rrSet (slotOf c d) 1) fullShare f))
        ∗ bigSep (Finset.univ.erase c) (fun d => iprop(∃ f, pt (F := F) d cc0_scratch2 (agSet c 1) fullShare f)) ∗ R) ⊢ WP c (k (ldWq (E c))) Q) :
    iprop(recs E K ∗ ow c (due0 c) ∗ bigSepL devs (oth c (barPre c)) ∗ ops c (E c) ∗ (∃ f, pt c cc0_scratch0 (partB 0) fullShare f)
        ∗ pos0 (c, kBar) ∗ crd (c, kBar) 7
        ∗ bigSep (Finset.univ.erase c) (fun d : Fin 8 => iprop(tok (F := F) (c, kRss 0 d) c ∗ tok (d, kRsr 0 (slotOf c d)) c)) ∗ R)
      ⊢ WP c (front c k) Q := by
  unfold front ops
  rw [WP_bind]
  iintro ⟨#HR, HO, Hb, ⟨Hx, Hwq, HK, HV, Hwo⟩, Hs, Hp, Hc, Ht, HF⟩
  iapply (wp_wand_r _ _ _)
  isplitl [HO Hb]
  · iapply (WP_loop c (barSig_step E K c) devs)
    isplitl [HO]
    · isplitr; · iexact HR
      iexact HO
    iexact Hb
  iintro %_ ⟨⟨-, HO⟩, -⟩
  simp only [Prog.lift, Prog.bind_op, Prog.bind_ret]
  iapply (wp_load_rect 𝒱₀ (c : Thread nD τ) none Set.univ (m := wqM) (r := Rect.unit (s := S768x512) ![0, 0] S768x512.size inb_S768x512_S768x512_0_0) (S := Finset.univ) (Finset.subset_univ _)) $$ Hwq; iintro Hwq
  iapply (Entails.of_eq (WP_bind c _ _ _).symm)
  iapply (wp_wand_r _ _ _)
  isplitl [Hx HK HV Hs]
  · iapply (tiles_wp E c 0 fullShare)
    isplitl [Hs]; · iexact Hs
    isplitl [Hx]; · iexact Hx
    isplitl [HK] <;> iassumption
  iintro %_ ⟨Hs, Hx, HK, HV⟩
  iapply (Entails.of_eq (WP_bind c _ _ _).symm)
  iapply (wp_wand_r _ _ _)
  isplitl [HO Hp Hc]
  · iapply (barWait_wp E K c)
    isplitr; · iexact HR
    isplitl [HO]; · iexact HO
    isplitl [Hp] <;> iassumption
  iintro %_ ⟨HO, Hp, Hr⟩
  ihave Hr := (Entails.of_eq (rooms_sort c)) $$ Hr
  icases Hr with ⟨⟨Hr0, Ha0⟩, Hr1, Ha1⟩
  ihave Hs := (Entails.of_eq (partB_split c 0 fullShare (GF (E c)))) $$ Hs
  icases Hs with ⟨Hs, Hso⟩
  iapply (Entails.of_eq (WP_bind c _ _ _).symm)
  iapply (wp_wand_r _ _ _)
  isplitl [HO Ht Hso Hr0]
  · iapply (WP_loop c (rsSend_step E K c 0 (due2 c)) devs)
    isplitl [HO]
    · isplitr; · iexact HR
      iexact HO
    iapply (rsPre_join E c 0)
    isplitl [Ht]; · iexact Ht
    isplitl [Hso] <;> iassumption
  iintro %_ ⟨⟨-, HO⟩, Hpost⟩
  iapply hk
  unfold ops
  isplitl [HO]; · iexact HO
  isplitl [Hx Hwq HK HV Hwo]
  · isplitl [Hx]; · iexact Hx
    isplitl [Hwq]; · iexact Hwq
    isplitl [HK]; · iexact HK
    isplitl [HV] <;> iassumption
  isplitl [Hs]; · iexact Hs
  isplitl [Hp]; · iexact Hp
  isplitl [Hpost]; · iexact Hpost
  isplitl [Ha0]; · iexact Ha0
  isplitl [Hr1]; · iexact Hr1
  isplitl [Ha1] <;> iassumption

theorem middle_wp {k : Pr F PUnit} {Q : PUnit → SP F} {R : SP F}
    (hk : iprop(ow c (due3 c) ∗ ops c (E c) ∗ pt c cc0_scratch0 (partSet c 1) fullShare (GF (E c)) ∗ bigSepL devs (oth c (rsPost (F := F) c 1)) ∗ R) ⊢ WP c k Q) :
    iprop(recs E K ∗ ow c (due2 c) ∗ ops c (E c) ∗ (∃ f, pt c cc0_scratch0 (partB 1) fullShare f)
        ∗ bigSep (Finset.univ.erase c) (fun d : Fin 8 => iprop(tok (F := F) (c, kRss 1 d) c ∗ tok (d, kRsr 1 (slotOf c d)) c))
        ∗ bigSep (Finset.univ.erase c) (fun d => iprop(∃ f, pt (F := F) d cc0_scratch1 (rrSet (slotOf c d) 1) fullShare f)) ∗ R)
      ⊢ WP c (middle c k (ldWq (E c))) Q := by
  unfold middle ops
  rw [WP_bind]
  iintro ⟨#HR, HO, ⟨Hx, Hwq, HK, HV, Hwo⟩, Hs, Ht, Hr1, HF⟩
  iapply (wp_wand_r _ _ _)
  isplitl [Hx HK HV Hs]
  · iapply (tiles_wp E c 1 fullShare)
    isplitl [Hs]; · iexact Hs
    isplitl [Hx]; · iexact Hx
    isplitl [HK] <;> iassumption
  iintro %_ ⟨Hs, Hx, HK, HV⟩
  ihave Hs := (Entails.of_eq (partB_split c 1 fullShare (GF (E c)))) $$ Hs
  icases Hs with ⟨Hs, Hso⟩
  rw [WP_bind]
  iapply (wp_wand_r _ _ _)
  isplitl [HO Ht Hso Hr1]
  · iapply (WP_loop c (rsSend_step E K c 1 (due3 c)) devs)
    isplitl [HO]
    · isplitr; · iexact HR
      iexact HO
    iapply (rsPre_join E c 1)
    isplitl [Ht]; · iexact Ht
    isplitl [Hso] <;> iassumption
  iintro %_ ⟨⟨-, HO⟩, Hpost⟩
  iapply hk
  unfold ops
  isplitl [HO]; · iexact HO
  isplitl [Hx Hwq HK HV Hwo]
  · isplitl [Hx]; · iexact Hx
    isplitl [Hwq]; · iexact Hwq
    isplitl [HK]; · iexact HK
    isplitl [HV] <;> iassumption
  isplitl [Hs]; · iexact Hs
  isplitl [Hpost] <;> iassumption

/-- What a batch's reduction takes, beside the accumulator, the result and the debts. -/
def rdIn (b : Fin 2) : SP F :=
  iprop(pt c cc0_scratch0 (partSet c b) fullShare (GF (E c)) ∗ bigSep Finset.univ (mgPre (F := F) c b) ∗ (∃ f, pt c cc0_scratch2 (agSet c b) fullShare f)
    ∗ bigSep Finset.univ (agPre0 (F := F) c b))
/-- And leaves. -/
def rdOut (b : Fin 2) : SP F :=
  iprop(pt c cc0_scratch0 (partSet c b) fullShare (GF (E c)) ∗ bigSep Finset.univ (mgPost E c b) ∗ pt c cc0_scratch2 (agSet c b) (lf 7) (AGF E)
    ∗ bigSep Finset.univ (agPost (F := F) c b))

theorem due3_lt : ∀ c : Fin 8, ∀ x ∈ due3 c, 2 < lvK x.2 := by decide +kernel
theorem due4_lt : ∀ c : Fin 8, ∀ x ∈ agDue c 1 slots ++ [], 2 < lvK x.2 := by decide +kernel

theorem reduces_wp {k : Vec F S512x768 .f32 → Pr F PUnit} {Q : PUnit → SP F} {R : SP F}
    (hk : iprop(ow c [] ∗ ops c (E c) ∗ (∃ f, pt c cc0_scratch3 Finset.univ fullShare f) ∗ outIs E c (fun _ d' => d' = c) ∗ rdOut E c 0 ∗ rdOut E c 1 ∗ R)
      ⊢ WP c (k (ldWo (E c))) Q) :
    iprop(recs E K ∗ ow c (due3 c) ∗ ops c (E c) ∗ (∃ f, pt c cc0_scratch3 Finset.univ fullShare f) ∗ outIs E c (fun _ _ => False) ∗ rdIn E c 0 ∗ rdIn E c 1 ∗ R)
      ⊢ WP c (reduces c k) Q := by
  unfold reduces ops rdIn
  iintro ⟨#HR, HO, ⟨Hx, Hwq, HK, HV, Hwo⟩, HA, HI, ⟨Hp0, Hm0, Hg0, Hs0⟩, ⟨Hp1, Hm1, Hg1, Hs1⟩, HF⟩
  simp only [Prog.lift, Prog.bind_op, Prog.bind_ret]
  iapply (wp_load_rect 𝒱₀ (c : Thread nD τ) none Set.univ (m := woM) (r := Rect.unit (s := S512x768) ![0, 0] S512x768.size inb_S512x768_S512x768_0_0) (S := Finset.univ) (Finset.subset_univ _)) $$ Hwo; iintro Hwo
  iapply (Entails.of_eq (WP_bind c _ _ _).symm)
  iapply (wp_wand_r _ _ _)
  isplitl [HO HA HI Hp0 Hm0 Hg0 Hs0]
  · iapply (reduce_wp E K c 0 (due4 c) (due3_lt c) (fun _ _ => False) (fun b' d' => b' = 0 ∧ d' = c) (fun b' d' h => .inr h))
    isplitr; · iexact HR
    isplitl [HO]; · iexact HO
    isplitl [Hp0]; · iexact Hp0
    isplitl [HA]; · iexact HA
    isplitl [Hm0]; · iexact Hm0
    isplitl [Hg0]; · iexact Hg0
    isplitl [Hs0] <;> iassumption
  iintro %_ ⟨HO, Hp0, HA, Hm0, Hg0, Hs0, HI⟩
  iapply (Entails.of_eq (WP_bind c _ _ _).symm)
  iapply (wp_wand_r _ _ _)
  isplitl [HO HA HI Hp1 Hm1 Hg1 Hs1]
  · iapply (reduce_wp E K c 1 [] (due4_lt c) (fun b' d' => b' = 0 ∧ d' = c) (fun b' d' => d' = c) (fun b' d' h => by
      by_cases hb : b' = 0
      · exact .inl ⟨hb, h⟩
      · exact .inr ⟨by omega, h⟩))
    isplitr; · iexact HR
    isplitl [HO]; · iapply (Entails.of_eq (congrArg (ow (F := F) c) (List.append_nil (due4 c)).symm)); iexact HO
    isplitl [Hp1]; · iexact Hp1
    isplitl [HA]; · iexact HA
    isplitl [Hm1]; · iexact Hm1
    isplitl [Hg1]; · iexact Hg1
    isplitl [Hs1] <;> iassumption
  iintro %_ ⟨HO, Hp1, HA, Hm1, Hg1, Hs1, HI⟩
  iapply hk
  unfold ops rdOut
  isplitl [HO]; · iexact HO
  isplitl [Hx Hwq HK HV Hwo]
  · isplitl [Hx]; · iexact Hx
    isplitl [Hwq]; · iexact Hwq
    isplitl [HK]; · iexact HK
    isplitl [HV] <;> iassumption
  isplitl [HA]; · iexact HA
  isplitl [HI]; · iexact HI
  isplitl [Hp0 Hm0 Hg0 Hs0]
  · isplitl [Hp0]; · iexact Hp0
    isplitl [Hm0]; · iexact Hm0
    isplitl [Hg0] <;> iassumption
  isplitl [Hp1 Hm1 Hg1 Hs1]
  · isplitl [Hp1]; · iexact Hp1
    isplitl [Hm1]; · iexact Hm1
    isplitl [Hg1] <;> iassumption
  iexact HF

/-- Every other device is the sender of some slot. -/
theorem not_all_up : ∀ c d : Fin 8, d ≠ c → ¬ ∀ k ∈ slots, d ≠ up c k := by decide +kernel

theorem out_mono {P P' : Fin 2 → Fin 8 → Prop} (h : ∀ b d, P' b d → P b d) : outIs E c P ⊢ outIs E c P' := by
  unfold outIs
  iintro ⟨%f, %hf, H⟩
  iexists f
  isplitr
  · ipureintro; exact fun i hi => hf i (h _ _ hi)
  iexact H

/-- The places a batch ends at, from what its waits left. -/
def wIn (b : Fin 2) : SP F :=
  iprop(bigSepL slots (gaPre (F := F) c b) ∗ bigSepL devs (oth c (rswPre (F := F) c b)) ∗ bigSepL slots (agwPre (F := F) c b))
def wOut (b : Fin 2) : SP F :=
  iprop(bigSepL slots (gaPost E c b) ∗ bigSepL devs (oth c (rswPost E c b)) ∗ bigSepL slots (agwPost E c b))

theorem waits_wp :
    iprop(recs E K ∗ ow c [] ∗ outIs E c (fun _ d' => d' = c) ∗ wIn c 0 ∗ wIn c 1) ⊢ WP c (waits c (ldWo (E c))) fun _ =>
      iprop(ow c [] ∗ outIs E c (fun _ _ => True) ∗ wOut E c 0 ∗ wOut E c 1) := by
  unfold waits wIn wOut
  iintro ⟨#HR, HO, HI, ⟨Hg0, Hr0, Ha0⟩, Hg1, Hr1, Ha1⟩
  rw [WP_bind]
  iapply (wp_wand_r _ _ _)
  isplitl [HO HI Hg0]
  · iapply (WP_loop c (gather_step E K c 0 (fun _ d' => d' = c)) slots)
    isplitl [HO HI]
    · unfold gaJ
      isplitr; · iexact HR
      isplitl [HO]; · iexact HO
      iapply (out_mono E c (P := fun _ d' => d' = c) fun b' d' h => h.elim id fun h => absurd h.2.2 (not_all_up c d' h.2.1))
      iexact HI
    iexact Hg0
  unfold gaJ
  iintro %_ ⟨⟨-, HO, HI⟩, Hg0⟩
  rw [WP_bind]
  iapply (wp_wand_r _ _ _)
  isplitl [HO HI Hg1]
  · iapply (WP_loop c (gather_step E K c 1 (fun b' d' => b' = 0 ∨ d' = c)) slots)
    isplitl [HO HI]
    · unfold gaJ
      isplitr; · iexact HR
      isplitl [HO]; · iexact HO
      iapply (out_mono E c (P := fun b' d' => d' = c ∨ (b' = 0 ∧ d' ≠ c ∧ ∀ k ∈ ([] : List (Fin 7)), d' ≠ up c k)) fun b' d' h => h.elim (fun h => h.elim (fun h0 => by
          by_cases hd : d' = c
          · exact .inl hd
          · exact .inr ⟨h0, hd, fun k hk => absurd hk List.not_mem_nil⟩) .inl) fun h => absurd h.2.2 (not_all_up c d' h.2.1))
      iexact HI
    iexact Hg1
  unfold gaJ
  iintro %_ ⟨⟨-, HO, HI⟩, Hg1⟩
  rw [WP_bind]
  iapply (wp_wand_r _ _ _)
  isplitl [HO Hr0]
  · iapply (WP_loop c (J := fun _ => iprop(recs E K ∗ ow c [])) (rsWait_step E K c 0) devs)
    isplitl [HO]
    · isplitr; · iexact HR
      iexact HO
    iexact Hr0
  iintro %_ ⟨⟨-, HO⟩, Hr0⟩
  rw [WP_bind]
  iapply (wp_wand_r _ _ _)
  isplitl [HO Hr1]
  · iapply (WP_loop c (J := fun _ => iprop(recs E K ∗ ow c [])) (rsWait_step E K c 1) devs)
    isplitl [HO]
    · isplitr; · iexact HR
      iexact HO
    iexact Hr1
  iintro %_ ⟨⟨-, HO⟩, Hr1⟩
  rw [WP_bind]
  iapply (wp_wand_r _ _ _)
  isplitl [HO Ha0]
  · iapply (WP_loop c (J := fun _ => iprop(recs E K ∗ ow c [])) (agWait_step E K c 0) slots)
    isplitl [HO]
    · isplitr; · iexact HR
      iexact HO
    iexact Ha0
  iintro %_ ⟨⟨-, HO⟩, Ha0⟩
  iapply (wp_wand_r _ _ _)
  isplitl [HO Ha1]
  · iapply (WP_loop c (J := fun _ => iprop(recs E K ∗ ow c [])) (agWait_step E K c 1) slots)
    isplitl [HO]
    · isplitr; · iexact HR
      iexact HO
    iexact Ha1
  iintro %_ ⟨⟨-, HO⟩, Ha1⟩
  isplitl [HO]; · iexact HO
  isplitl [HI]
  · iapply (out_mono E c (P := fun b' d' => (b' = 0 ∨ d' = c) ∨ (b' = 1 ∧ d' ≠ c ∧ ∀ k ∈ ([] : List (Fin 7)), d' ≠ up c k)) fun b' d' _ => by
      by_cases hb : b' = 0
      · exact .inl (.inl hb)
      by_cases hd : d' = c
      · exact .inl (.inr hd)
      · exact .inr ⟨by omega, hd, fun k hk => absurd hk List.not_mem_nil⟩)
    iexact HI
  isplitl [Hg0 Hr0 Ha0]
  · isplitl [Hg0]; · iexact Hg0
    isplitl [Hr0] <;> iassumption
  isplitl [Hg1]; · iexact Hg1
  isplitl [Hr1] <;> iassumption

/-- The places to wait at, sorted for the last waits. -/
theorem wIn_join (b : Fin 2) :
    iprop(bigSep Finset.univ (fun d : Fin 8 => pos0 (F := F) (c, kRss b d)) ∗ bigSepL devs (oth c (rsPost (F := F) c b))
        ∗ bigSep Finset.univ (fun t : Fin 7 => pos0 (F := F) (c, kAgs b t)) ∗ bigSep Finset.univ (agPost (F := F) c b) ∗ bigSep Finset.univ (gaPre (F := F) c b))
      ⊢ iprop(pos0 (F := F) (c, kRss b c) ∗ wIn c b) := by
  unfold wIn
  iintro ⟨H1, H2, H3, H4, H5⟩
  ihave H := (rsw_join c b) $$ [H1 H2]
  · isplitl [H1] <;> iassumption
  icases H with ⟨H1, H2⟩
  isplitl [H1]; · iexact H1
  isplitl [H5]
  · iapply (Entails.of_eq (slotsL (gaPre c b)).symm); iexact H5
  isplitl [H2]; · iexact H2
  iapply (agw_join c b)
  isplitl [H3] <;> iassumption

/-- What a batch leaves: its places, and its buffers whole. -/
def bufs (b : Fin 2) : SP F :=
  iprop(pt c cc0_scratch0 (partB b) fullShare (GF (E c)) ∗ bigSep Finset.univ (fun k : Fin 7 => pt c cc0_scratch1 (rrSet k b) fullShare (RRF E c))
    ∗ pt c cc0_scratch2 (agSet c b) fullShare (AGF E) ∗ bigSep (Finset.univ.erase c) (fun d => pt c cc0_scratch2 (agSet d b) fullShare (AGF E)))
theorem bOut_join (b : Fin 2) :
    iprop(pos0 (F := F) (c, kRss b c) ∗ pt c cc0_scratch0 (partSet c b) fullShare (GF (E c)) ∗ bigSep Finset.univ (mgPost E c b)
        ∗ pt c cc0_scratch2 (agSet c b) (lf 7) (AGF E) ∗ wOut E c b) ⊢ iprop(bOut c b ∗ bufs E c b) := by
  unfold wOut bOut bufs
  iintro ⟨Hp, Hs, Hm, Hl, Hg, Hr, Ha⟩
  ihave Hm := (Entails.of_eq (scr1_back E c b)) $$ Hm
  icases Hm with ⟨Hm, Hm'⟩
  ihave Hs := (scr0_back E c b) $$ [Hs Hr]
  · isplitl [Hs] <;> iassumption
  icases Hs with ⟨Hs, Hr⟩
  ihave Hl := (scr2_back E c b) $$ [Hl Hg Ha]
  · isplitl [Hl]; · iexact Hl
    isplitl [Ha] <;> iassumption
  icases Hl with ⟨⟨Hl, Hl'⟩, Ha, Hg⟩
  isplitl [Hp Hr Hm Ha Hg]
  · isplitl [Hp]; · iexact Hp
    isplitl [Hr]; · iexact Hr
    isplitl [Hm]; · iexact Hm
    isplitl [Ha] <;> iassumption
  isplitl [Hs]; · iexact Hs
  isplitl [Hm']; · iexact Hm'
  isplitl [Hl] <;> iassumption

theorem scr_join :
    iprop(bufs E c 0 ∗ bufs E c 1 ∗ (∃ f, pt c cc0_scratch3 Finset.univ fullShare f)) ⊢ scr (F := F) c := by
  unfold bufs scr
  iintro ⟨⟨H0, R0, A0, B0⟩, ⟨H1, R1, A1, B1⟩, H3⟩
  isplitl [H0 H1]
  · iexists (GF (E c)); iapply (Entails.of_eq (scr0_two c fullShare (GF (E c))).symm)
    isplitl [H0] <;> iassumption
  isplitl [R0 R1]
  · iexists (RRF E c); iapply (Entails.of_eq (scr1_split c fullShare (RRF E c)).symm)
    isplitl [R0] <;> iassumption
  isplitl [A0 B0 A1 B1]
  · iexists (AGF E); iapply (Entails.of_eq (scr2_split c fullShare (AGF E)).symm)
    isplitl [A0 B0]
    · isplitl [A0] <;> iassumption
    isplitl [A1] <;> iassumption
  iexact H3

theorem out_all : outIs E c (fun _ _ => True) ⊢ pt c cc0_stg5_0 Finset.univ fullShare (OUTF E c) := by
  unfold outIs
  iintro ⟨%f, %hf, H⟩
  have h : f = OUTF E c := funext fun i => hf i trivial
  rw [← h]
  iexact H

theorem body_wp :
    iprop(recs E K ∗ ow c (due0 c) ∗ base c ∗ ops c (E c) ∗ scr c ∗ (∃ f, pt c cc0_stg5_0 Finset.univ fullShare f)) ⊢ WP c (bodyOn c) fun _ =>
      iprop(ow c [] ∗ last c ∗ ops c (E c) ∗ scr c ∗ pt c cc0_stg5_0 Finset.univ fullShare (OUTF E c)) := by
  unfold base bIn
  rw [body_phases]
  iintro ⟨#HR, HO, ⟨Hp, Hc, Ht, ⟨S0, M0, A0, G0, T0, U0⟩, S1, M1, A1, G1, T1, U1⟩, Hops, Hscr, %f5, H5⟩
  ihave Hscr := (show scr (F := F) c ⊢ iprop((∃ f, pt c cc0_scratch0 Finset.univ fullShare f) ∗ (∃ f, pt c cc0_scratch1 Finset.univ fullShare f) ∗ (∃ f, pt c cc0_scratch2 Finset.univ fullShare f)
    ∗ (∃ f, pt c cc0_scratch3 Finset.univ fullShare f)) from Entails.rfl) $$ Hscr
  icases Hscr with ⟨⟨%f0, B0⟩, B1, B2, B3⟩
  ihave B0 := (Entails.of_eq (scr0_two c fullShare f0)) $$ B0
  icases B0 with ⟨P0, P1⟩
  ihave B1 := (rooms c) $$ [B1 B2]
  · isplitl [B1] <;> iassumption
  icases B1 with ⟨Hr, W0, W1⟩
  ihave Hb := (barPre_join c) $$ [Ht Hr]
  · isplitl [Ht] <;> iassumption
  iapply (front_wp E K c (R := iprop(recs E K ∗ (∃ f, pt c cc0_scratch0 (partB 1) fullShare f)
      ∗ bigSep (Finset.univ.erase c) (fun d : Fin 8 => iprop(tok (F := F) (c, kRss 1 d) c ∗ tok (d, kRsr 1 (slotOf c d)) c))
      ∗ (∃ f, pt c cc0_scratch3 Finset.univ fullShare f) ∗ outIs E c (fun _ _ => False)
      ∗ (bigSep Finset.univ (fun d : Fin 8 => pos0 (F := F) (c, kRss 0 d)) ∗ bigSep Finset.univ (mgPre (F := F) c 0) ∗ bigSep Finset.univ (fun t : Fin 7 => pos0 (F := F) (c, kAgs 0 t))
        ∗ bigSep Finset.univ (gaPre (F := F) c 0) ∗ bigSep Finset.univ (fun t : Fin 7 => iprop(tok (F := F) (c, kAgs 0 t) c ∗ tok (up c t, kAgr 0 (rev7 t)) c))
        ∗ ∃ f, pt c cc0_scratch2 (agSet c 0) fullShare f)
      ∗ (bigSep Finset.univ (fun d : Fin 8 => pos0 (F := F) (c, kRss 1 d)) ∗ bigSep Finset.univ (mgPre (F := F) c 1) ∗ bigSep Finset.univ (fun t : Fin 7 => pos0 (F := F) (c, kAgs 1 t))
        ∗ bigSep Finset.univ (gaPre (F := F) c 1) ∗ bigSep Finset.univ (fun t : Fin 7 => iprop(tok (F := F) (c, kAgs 1 t) c ∗ tok (up c t, kAgr 1 (rev7 t)) c))
        ∗ ∃ f, pt c cc0_scratch2 (agSet c 1) fullShare f))) ?_)
  rotate_left
  · isplitr; · iexact HR
    isplitl [HO]; · iexact HO
    isplitl [Hb]; · iexact Hb
    isplitl [Hops]; · iexact Hops
    isplitl [P0]; · iexists f0; iexact P0
    isplitl [Hp]; · iexact Hp
    isplitl [Hc]; · iexact Hc
    isplitl [T0]; · iexact T0
    isplitr; · iexact HR
    isplitl [P1]; · iexists f0; iexact P1
    isplitl [T1]; · iexact T1
    isplitl [B3]; · iexact B3
    isplitl [H5]
    · unfold outIs; iexists f5; isplitr
      · ipureintro; exact fun i h => h.elim
      iexact H5
    isplitl [S0 M0 A0 G0 U0 W0]
    · isplitl [S0]; · iexact S0
      isplitl [M0]; · iexact M0
      isplitl [A0]; · iexact A0
      isplitl [G0]; · iexact G0
      isplitl [U0] <;> iassumption
    isplitl [S1]; · iexact S1
    isplitl [M1]; · iexact M1
    isplitl [A1]; · iexact A1
    isplitl [G1]; · iexact G1
    isplitl [U1] <;> iassumption
  iintro ⟨HO, Hops, Hs0, Hp, Q0, V0, X1, V1, #HR, P1, T1, B3, HI, ⟨S0, M0, A0, G0, U0, W0⟩, S1, M1, A1, G1, U1, W1⟩
  ihave U0 := (agPre0_join c 0) $$ [U0 V0]
  · isplitl [U0] <;> iassumption
  ihave U1 := (agPre0_join c 1) $$ [U1 V1]
  · isplitl [U1] <;> iassumption
  iapply (middle_wp E K c (R := iprop(recs E K ∗ (∃ f, pt c cc0_scratch3 Finset.univ fullShare f) ∗ outIs E c (fun _ _ => False) ∗ rdIn E c 0
      ∗ (bigSep Finset.univ (mgPre (F := F) c 1) ∗ (∃ f, pt c cc0_scratch2 (agSet c 1) fullShare f) ∗ bigSep Finset.univ (agPre0 (F := F) c 1))
      ∗ pos1 (F := F) (c, kBar)
      ∗ (bigSep Finset.univ (fun d : Fin 8 => pos0 (F := F) (c, kRss 0 d)) ∗ bigSepL devs (oth c (rsPost (F := F) c 0)) ∗ bigSep Finset.univ (fun t : Fin 7 => pos0 (F := F) (c, kAgs 0 t))
        ∗ bigSep Finset.univ (gaPre (F := F) c 0))
      ∗ (bigSep Finset.univ (fun d : Fin 8 => pos0 (F := F) (c, kRss 1 d)) ∗ bigSep Finset.univ (fun t : Fin 7 => pos0 (F := F) (c, kAgs 1 t))
        ∗ bigSep Finset.univ (gaPre (F := F) c 1)))) ?_)
  rotate_left
  · unfold rdIn
    isplitr; · iexact HR
    isplitl [HO]; · iexact HO
    isplitl [Hops]; · iexact Hops
    isplitl [P1]; · iexact P1
    isplitl [T1]; · iexact T1
    isplitl [X1]; · iexact X1
    isplitr; · iexact HR
    isplitl [B3]; · iexact B3
    isplitl [HI]; · iexact HI
    isplitl [Hs0 M0 W0 U0]
    · isplitl [Hs0]; · iexact Hs0
      isplitl [M0]; · iexact M0
      isplitl [W0] <;> iassumption
    isplitl [M1 W1 U1]
    · isplitl [M1]; · iexact M1
      isplitl [W1] <;> iassumption
    isplitl [Hp]; · iexact Hp
    isplitl [S0 Q0 A0 G0]
    · isplitl [S0]; · iexact S0
      isplitl [Q0]; · iexact Q0
      isplitl [A0] <;> iassumption
    isplitl [S1]; · iexact S1
    isplitl [A1] <;> iassumption
  iintro ⟨HO, Hops, Hs1, Q1, #HR, B3, HI, R0, ⟨M1, W1, U1⟩, Hp, ⟨S0, Q0, A0, G0⟩, S1, A1, G1⟩
  iapply (reduces_wp E K c (R := iprop(recs E K ∗ pos1 (F := F) (c, kBar)
      ∗ (bigSep Finset.univ (fun d : Fin 8 => pos0 (F := F) (c, kRss 0 d)) ∗ bigSepL devs (oth c (rsPost (F := F) c 0)) ∗ bigSep Finset.univ (fun t : Fin 7 => pos0 (F := F) (c, kAgs 0 t))
        ∗ bigSep Finset.univ (gaPre (F := F) c 0))
      ∗ (bigSep Finset.univ (fun d : Fin 8 => pos0 (F := F) (c, kRss 1 d)) ∗ bigSepL devs (oth c (rsPost (F := F) c 1)) ∗ bigSep Finset.univ (fun t : Fin 7 => pos0 (F := F) (c, kAgs 1 t))
        ∗ bigSep Finset.univ (gaPre (F := F) c 1)))) ?_)
  rotate_left
  · isplitr; · iexact HR
    isplitl [HO]; · iexact HO
    isplitl [Hops]; · iexact Hops
    isplitl [B3]; · iexact B3
    isplitl [HI]; · iexact HI
    isplitl [R0]; · iexact R0
    isplitl [Hs1 M1 W1 U1]
    · unfold rdIn
      isplitl [Hs1]; · iexact Hs1
      isplitl [M1]; · iexact M1
      isplitl [W1] <;> iassumption
    isplitr; · iexact HR
    isplitl [Hp]; · iexact Hp
    isplitl [S0 Q0 A0 G0]
    · isplitl [S0]; · iexact S0
      isplitl [Q0]; · iexact Q0
      isplitl [A0] <;> iassumption
    isplitl [S1]; · iexact S1
    isplitl [Q1]; · iexact Q1
    isplitl [A1] <;> iassumption
  unfold rdOut last
  iintro ⟨HO, Hops, B3, HI, ⟨Hs0, M0, L0, Y0⟩, ⟨Hs1, M1, L1, Y1⟩, #HR, Hp, ⟨S0, Q0, A0, G0⟩, S1, Q1, A1, G1⟩
  ihave W0 := (wIn_join c 0) $$ [S0 Q0 A0 Y0 G0]
  · isplitl [S0]; · iexact S0
    isplitl [Q0]; · iexact Q0
    isplitl [A0]; · iexact A0
    isplitl [Y0] <;> iassumption
  ihave W1 := (wIn_join c 1) $$ [S1 Q1 A1 Y1 G1]
  · isplitl [S1]; · iexact S1
    isplitl [Q1]; · iexact Q1
    isplitl [A1]; · iexact A1
    isplitl [Y1] <;> iassumption
  icases W0 with ⟨S0, W0⟩
  icases W1 with ⟨S1, W1⟩
  iapply (wp_wand_r _ _ _)
  isplitl [HO HI W0 W1]
  · iapply (waits_wp E K c)
    isplitr; · iexact HR
    isplitl [HO]; · iexact HO
    isplitl [HI]; · iexact HI
    isplitl [W0] <;> iassumption
  iintro %_ ⟨HO, HI, W0, W1⟩
  ihave W0 := (bOut_join E c 0) $$ [S0 Hs0 M0 L0 W0]
  · isplitl [S0]; · iexact S0
    isplitl [Hs0]; · iexact Hs0
    isplitl [M0]; · iexact M0
    isplitl [L0] <;> iassumption
  ihave W1 := (bOut_join E c 1) $$ [S1 Hs1 M1 L1 W1]
  · isplitl [S1]; · iexact S1
    isplitl [Hs1]; · iexact Hs1
    isplitl [M1]; · iexact M1
    isplitl [L1] <;> iassumption
  icases W0 with ⟨W0, F0⟩
  icases W1 with ⟨W1, F1⟩
  isplitl [HO]; · iexact HO
  isplitl [Hp W0 W1]
  · isplitl [Hp]; · iexact Hp
    isplitl [W0] <;> iassumption
  isplitl [Hops]; · iexact Hops
  isplitl [F0 F1 B3]
  · iapply (scr_join E c)
    isplitl [F0]; · iexact F0
    isplitl [F1] <;> iassumption
  iapply (out_all E c)
  iexact HI

end

end Cert.Attn
-- ==== Proof.Ghost.lean ====
/- What the launch deals: the cells, the rights to pay them, the credit to wait for them; and how the cells close. -/
module

public import proofs.«01_k».proof.Proof.Body
public import proofs.«01_k».proof.Proof.Gen.KernelIdeal.Frame

@[expose] public section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

noncomputable section

variable {F : FTy → Type} [FloatOps F]
variable (E : Dev nD → Stg F) (K : Dev nD × Key → ℕ) (c : Dev nD)

/-! ### Over all cells of a device -/

/-- A batch's part of a resource held for each cell. -/
def perBatch (Φ : Key → SP F) (b : Fin 2) : SP F :=
  iprop(bigSep Finset.univ (fun d : Fin 8 => Φ (kRss b d)) ∗ bigSep Finset.univ (fun k : Fin 7 => Φ (kRsr b k))
    ∗ bigSep Finset.univ (fun t : Fin 7 => Φ (kAgs b t)) ∗ bigSep Finset.univ (fun k : Fin 7 => Φ (kAgr b k)))

/-- A resource for each pair of a batch and a place, by batches. -/
theorem by_batch {n : ℕ} (Φ : Fin 2 → Fin n → SP F) :
    bigSep Finset.univ (fun p : Fin 2 × Fin n => Φ p.1 p.2) = iprop(bigSep Finset.univ (Φ 0) ∗ bigSep Finset.univ (Φ 1)) := by
  rw [bigSep_univ_prod (fun p : Fin 2 × Fin n => Φ p.1 p.2)]
  exact bigSep_univ_two fun b : Fin 2 => bigSep Finset.univ (Φ b)

theorem sumL {A B : Type} [Fintype A] [Fintype B] (Φ : A ⊕ B → SP F) :
    bigSep Finset.univ Φ = iprop(bigSep Finset.univ (fun a : A => Φ (.inl a)) ∗ bigSep Finset.univ (fun b : B => Φ (.inr b))) := bigSep_univ_sum Φ

theorem shuffle1 (A A' B B' C C' D D' : SP F) : iprop((A ∗ A') ∗ (B ∗ B') ∗ (C ∗ C') ∗ (D ∗ D')) ⊢ iprop((A ∗ B ∗ C ∗ D) ∗ (A' ∗ B' ∗ C' ∗ D')) := by
  iintro ⟨⟨A, A'⟩, ⟨B, B'⟩, ⟨C, C'⟩, D, D'⟩
  isplitl [A B C D]
  · isplitl [A]; · iexact A
    isplitl [B]; · iexact B
    isplitl [C] <;> iassumption
  isplitl [A']; · iexact A'
  isplitl [B']; · iexact B'
  isplitl [C'] <;> iassumption
theorem shuffle2 (A A' B B' C C' D D' : SP F) : iprop((A ∗ B ∗ C ∗ D) ∗ (A' ∗ B' ∗ C' ∗ D')) ⊢ iprop((A ∗ A') ∗ (B ∗ B') ∗ (C ∗ C') ∗ (D ∗ D')) := by
  iintro ⟨⟨A, B, C, D⟩, A', B', C', D'⟩
  isplitl [A A']; · isplitl [A] <;> iassumption
  isplitl [B B']; · isplitl [B] <;> iassumption
  isplitl [C C']; · isplitl [C] <;> iassumption
  isplitl [D] <;> iassumption

theorem overKeys (Φ : Key → SP F) : bigSep Finset.univ Φ = iprop(Φ kBar ∗ perBatch Φ 0 ∗ perBatch Φ 1) := by
  have h1 : bigSep (Finset.univ : Finset Unit) (fun u => Φ (.inl u)) = Φ kBar := by
    rw [show (Finset.univ : Finset Unit) = {()} from rfl, bigSep_singleton]
  have h2 := by_batch (fun b (d : Fin 8) => Φ (kRss b d))
  have h3 := by_batch (fun b (d : Fin 7) => Φ (kRsr b d))
  have h4 := by_batch (fun b (d : Fin 7) => Φ (kAgs b d))
  have h5 := by_batch (fun b (d : Fin 7) => Φ (kAgr b d))
  have h6 : iprop(perBatch Φ 0 ∗ perBatch Φ 1) = _ := BI.equiv_iff.mp ⟨shuffle2 _ _ _ _ _ _ _ _, shuffle1 _ _ _ _ _ _ _ _⟩
  rw [h6, ← h2, ← h3, ← h4, ← h5, sumL, sumL, sumL, sumL, h1]

/-! ### The rights to pay -/

/-- The payments a device makes. -/
abbrev PayKey : Type := Fin 8 ⊕ ((Fin 2 × Fin 8) ⊕ ((Fin 2 × Fin 8) ⊕ ((Fin 2 × Fin 7) ⊕ (Fin 2 × Fin 7))))

instance : DecidableEq PayKey := instDecidableEqSum

/-- The cell, round and name of a payment by `d` (one that would go to itself stands for nothing). -/
def tokC (d : Fin 8) : PayKey → (Fin 8 × Key) × ℕ × Fin 8
  | .inl e => ((e, kBar), 0, d)
  | .inr (.inl (b, e)) => ((d, kRss b e), 0, d)
  | .inr (.inr (.inl (b, e))) => if e = d then ((d, kRss b d), 1, d) else ((e, kRsr b (slotOf d e)), 0, d)
  | .inr (.inr (.inr (.inl (b, t)))) => ((d, kAgs b t), 0, d)
  | .inr (.inr (.inr (.inr (b, t)))) => ((up d t, kAgr b (rev7 t)), 0, d)

theorem tokC_name (d : Fin 8) (p : PayKey) : (tokC d p).2.2 = d := by
  rcases p with e | ⟨b, e⟩ | ⟨b, e⟩ | ⟨b, t⟩ | ⟨b, t⟩ <;> first | rfl | (show (if e = d then _ else _ : (Fin 8 × Key) × ℕ × Fin 8).2.2 = d; split <;> rfl)

theorem slotOf_inj : ∀ d e e' : Fin 8, slotOf d e = slotOf d e' → e ≠ d → e' ≠ d → e = e' := by decide +kernel

theorem tokC_inj : ∀ d : Fin 8, ∀ p p' : PayKey, tokC d p = tokC d p' → p = p' := by decide +kernel

def tokOf (x : Dev nD × PayKey) : GSem nD τ sig × ℕ × Fin 8 := (kcell (tokC x.1 x.2).1, (tokC x.1 x.2).2)

theorem tokOf_inj : Function.Injective tokOf := by
  rintro ⟨d, p⟩ ⟨d', p'⟩ h
  have h1 : (tokC d p).1 = (tokC d' p').1 := kcell_inj (congrArg Prod.fst h)
  have h2 : (tokC d p).2 = (tokC d' p').2 := congrArg (fun x : GSem nD τ sig × ℕ × Fin 8 => x.2) h
  have h3 : d = d' := (tokC_name d p).symm.trans ((congrArg Prod.snd h2).trans (tokC_name d' p'))
  subst h3
  rw [tokC_inj d p p' (Prod.ext h1 h2)]

def allCells : Finset (GSem nD τ sig) := Finset.univ.map ⟨kcell, kcell_inj⟩
def allToks : Finset (GSem nD τ sig × ℕ × Fin 8) := Finset.univ.map ⟨tokOf, tokOf_inj⟩

def u₀ : UU := (initOf (Pipeline.cells cfgs cellOf_inj) (Pipeline.launchToks cfgs cellOf_inj), initOf allCells allToks)

/-- A device's rights. -/
def toks : SP F := bigSep Finset.univ fun p : PayKey => dutyTok ER (tokOf (c, p)).1 (tokOf (c, p)).2.1 (tokOf (c, p)).2.2

/-- A batch's rights. -/
def payB (b : Fin 2) : SP F :=
  iprop(bigSep (Finset.univ.erase c) (fun d : Fin 8 => iprop(tok (F := F) (c, kRss b d) c ∗ tok (d, kRsr b (slotOf c d)) c))
    ∗ bigSep Finset.univ (fun t : Fin 7 => iprop(tok (F := F) (c, kAgs b t) c ∗ tok (up c t, kAgr b (rev7 t)) c)))

/-- One of them. -/
def rt (p : PayKey) : SP F := dutyTok ER (tokOf (c, p)).1 (tokOf (c, p)).2.1 (tokOf (c, p)).2.2

theorem toks_sort : toks (F := F) c = iprop(bigSep Finset.univ (fun e : Fin 8 => rt (F := F) c (.inl e))
    ∗ (bigSep Finset.univ (fun e : Fin 8 => rt (F := F) c (.inr (.inl (0, e)))) ∗ bigSep Finset.univ (fun e : Fin 8 => rt (F := F) c (.inr (.inl (1, e)))))
    ∗ (bigSep Finset.univ (fun e : Fin 8 => rt (F := F) c (.inr (.inr (.inl (0, e))))) ∗ bigSep Finset.univ (fun e : Fin 8 => rt (F := F) c (.inr (.inr (.inl (1, e))))))
    ∗ (bigSep Finset.univ (fun e : Fin 7 => rt (F := F) c (.inr (.inr (.inr (.inl (0, e)))))) ∗ bigSep Finset.univ (fun e : Fin 7 => rt (F := F) c (.inr (.inr (.inr (.inl (1, e)))))))
    ∗ (bigSep Finset.univ (fun e : Fin 7 => rt (F := F) c (.inr (.inr (.inr (.inr (0, e)))))) ∗ bigSep Finset.univ (fun e : Fin 7 => rt (F := F) c (.inr (.inr (.inr (.inr (1, e)))))))) := by
  have h2 := by_batch (fun b (e : Fin 8) => rt (F := F) c (.inr (.inl (b, e))))
  have h3 := by_batch (fun b (e : Fin 8) => rt (F := F) c (.inr (.inr (.inl (b, e)))))
  have h4 := by_batch (fun b (e : Fin 7) => rt (F := F) c (.inr (.inr (.inr (.inl (b, e))))))
  have h5 := by_batch (fun b (e : Fin 7) => rt (F := F) c (.inr (.inr (.inr (.inr (b, e))))))
  rw [← h2, ← h3, ← h4, ← h5]
  have h : toks (F := F) c = bigSep Finset.univ (rt c) := rfl
  rw [h, sumL, sumL, sumL, sumL]

theorem drop_self (X : Fin 8 → SP F) : bigSep Finset.univ X ⊢ bigSep (Finset.univ.erase c) X := bigSep_subset (Finset.erase_subset c Finset.univ)

theorem toks_open :
    toks (F := F) c ⊢ iprop(bigSep (Finset.univ.erase c) (fun d => tok (F := F) (d, kBar) c) ∗ payB c 0 ∗ payB c 1) := by
  have hb : ∀ b : Fin 2, bigSep Finset.univ (fun e : Fin 8 => rt (F := F) c (.inr (.inr (.inl (b, e)))))
      ⊢ bigSep (Finset.univ.erase c) (fun d : Fin 8 => tok (F := F) (d, kRsr b (slotOf c d)) c) := fun b =>
    (bigSep_subset (Finset.erase_subset c Finset.univ)).trans (Entails.of_eq (bigSep_congr fun e he => by
      have h : tokC c (.inr (.inr (.inl (b, e)))) = ((e, kRsr b (slotOf c e)), 0, c) := if_neg (Finset.ne_of_mem_erase he)
      unfold rt tokOf; rw [h]))
  unfold payB
  rw [bigSep_sep', bigSep_sep', bigSep_sep', bigSep_sep']
  rw [toks_sort]
  iintro ⟨A, ⟨B, B'⟩, ⟨C, C'⟩, ⟨D, D'⟩, G, G'⟩
  isplitl [A]; · iapply (drop_self c fun e => rt (F := F) c (.inl e)); iexact A
  isplitl [B C D G]
  · isplitl [B C]
    · isplitl [B]; · iapply (drop_self c fun e => rt (F := F) c (.inr (.inl (0, e)))); iexact B
      iapply (hb 0); iexact C
    isplitl [D]; · iexact D
    iexact G
  isplitl [B' C']
  · isplitl [B']; · iapply (drop_self c fun e => rt (F := F) c (.inr (.inl (1, e)))); iexact B'
    iapply (hb 1); iexact C'
  isplitl [D']; · iexact D'
  iexact G'

/-! ### The credit -/

/-- How many payments a cell waits for and does not see to itself. -/
def cN : Key → ℕ
  | .inl _ => 7
  | .inr (.inl _) => 0
  | .inr (.inr (.inl _)) => 1
  | .inr (.inr (.inr (.inl _))) => 0
  | .inr (.inr (.inr (.inr _))) => 1

/-- How often a payment is owed. -/
def cnt (x : Fin 8 × Key) : List (Fin 8 × Key) → ℕ
  | [] => 0
  | y :: ys => cnt x ys + if x = y then 1 else 0

theorem tl_count (l : List (Fin 8 × Key)) (x : Fin 8 × Key) : tl l (kcell x) () = cnt x l * amt x.2 := by
  induction l with
  | nil => simp only [tl, cnt, Nat.zero_mul]; rfl
  | cons y ys ih =>
    show (tl ys + tallyAt (kcell y) () (amt y.2)) (kcell x) () = (cnt x ys + if x = y then 1 else 0) * _
    rw [Pi.add_apply, Finsupp.add_apply, ih, tallyAt_apply, Nat.add_mul]
    by_cases h : x = y
    · subst h; rw [if_pos ⟨rfl, rfl⟩, if_pos rfl, Nat.one_mul]
    · rw [if_neg (fun h' => h (kcell_inj h'.1)), if_neg h, Nat.zero_mul]

theorem count_all : ∀ (c : Fin 8) (k : Key), (∑ d : Fin 8, cnt (c, k) (due0 d)) = cN k := by decide +kernel

theorem launch_at (k : Key) :
    tallyOn (kcell (c, k)) (launchCredit (Pipeline.owing fun d : Dev nD => tl (due0 d)) 0 (kcell (c, k))) = (tallyAt (kcell (c, k)) () (cN k * amt k) : CellTallies nD τ sig Unit) := by
  unfold tallyAt; refine congrArg _ (Finsupp.ext fun u => ?_); cases u
  rw [Pipeline.launchCredit_owing, Finsupp.single_eq_same, Finset.sum_congr rfl fun d _ => tl_count (due0 d) (c, k), ← Finset.sum_mul]
  exact congrArg (· * amt k) (count_all c k)

theorem creds : (Pipeline.launchCred (fun d : Dev nD => tl (due0 d)) c : SP F) ⊢ bigSep Finset.univ fun k : Key => crd (c, k) (cN k * amt k) := by
  unfold Pipeline.launchCred
  refine (bigSep_subset (Finset.subset_univ (Finset.univ.map ⟨csem, csem_inj⟩))).trans ?_
  rw [bigSep_map]
  exact Entails.of_eq (bigSep_congr fun k _ => congrArg cred (launch_at c k))

/-! ### A device's start -/

theorem bIn_intro (b : Fin 2) :
    iprop(perBatch (fun k => pos0 (F := F) (c, k)) b ∗ perBatch (fun k => crd (F := F) (c, k) (cN k * amt k)) b ∗ payB c b) ⊢ bIn c b := by
  have h1 : (fun k : Fin 7 => crd (F := F) (c, kRsr b k) (cN (kRsr b k) * amt (kRsr b k))) = fun k => crd (c, kRsr b k) N1 := funext fun k => by
    show crd (c, kRsr b k) (1 * N1) = _; rw [Nat.one_mul]
  have h2 : (fun k : Fin 7 => crd (F := F) (c, kAgr b k) (cN (kAgr b k) * amt (kAgr b k))) = fun k => crd (c, kAgr b k) N2 := funext fun k => by
    show crd (c, kAgr b k) (1 * N2) = _; rw [Nat.one_mul]
  unfold perBatch payB bIn mgPre gaPre
  rw [h1, h2, bigSep_sep', bigSep_sep', bigSep_sep', bigSep_sep']
  iintro ⟨⟨A, B, C, D⟩, ⟨-, B', -, D'⟩, ⟨T, T'⟩, U, U'⟩
  isplitl [A]; · iexact A
  isplitl [B B']; · isplitl [B] <;> iassumption
  isplitl [C]; · iexact C
  isplitl [D D']; · isplitl [D] <;> iassumption
  isplitl [T T']; · isplitl [T] <;> iassumption
  isplitl [U] <;> iassumption

theorem base_intro :
    iprop((bigSep Finset.univ fun k : Key => pos0 (F := F) (c, k)) ∗ toks c ∗ (Pipeline.launchCred (fun d : Dev nD => tl (due0 d)) c)) ⊢ base (F := F) c := by
  unfold base
  iintro ⟨Hp, Ht, Hc⟩
  ihave Hc := (creds (F := F) c) $$ Hc
  ihave Hc := (Entails.of_eq (overKeys fun k => crd (F := F) (c, k) (cN k * amt k))) $$ Hc
  ihave Hp := (Entails.of_eq (overKeys fun k => pos0 (F := F) (c, k))) $$ Hp
  ihave Ht := (toks_open (F := F) c) $$ Ht
  icases Hp with ⟨Hp, P0, P1⟩
  icases Hc with ⟨Hc, C0, C1⟩
  icases Ht with ⟨Ht, T0, T1⟩
  isplitl [Hp]; · iexact Hp
  isplitl [Hc]; · iexact Hc
  isplitl [Ht]; · iexact Ht
  isplitl [P0 C0 T0]
  · iapply (bIn_intro c 0)
    isplitl [P0]; · iexact P0
    isplitl [C0] <;> iassumption
  iapply (bIn_intro c 1)
  isplitl [P1]; · iexact P1
  isplitl [C1] <;> iassumption

/-! ### A device's end -/

/-- Where a device stands at a cell in the end. -/
def endPos (k : Key) : SP F := if dut c k = ∅ then pos0 (c, k) else pos1 (c, k)

theorem dut_none : ∀ (c : Fin 8) (k : Key), dut c k = ∅ ↔ (k = kRss 0 c ∨ k = kRss 1 c) := by decide +kernel

theorem end1 {c : Fin 8} {k : Key} (h : k ≠ kRss 0 c ∧ k ≠ kRss 1 c) : pos1 (F := F) (c, k) = endPos c k :=
  (if_neg fun h' => ((dut_none c k).mp h').elim h.1 h.2).symm

theorem bOut_end (b : Fin 2) : bOut (F := F) c b ⊢ perBatch (endPos c) b := by
  have e0 : endPos (F := F) c (kRss b c) = pos0 (c, kRss b c) := if_pos (if_pos rfl)
  have e1 : (bigSep (Finset.univ.erase c) fun d : Fin 8 => pos1 (F := F) (c, kRss b d)) = bigSep (Finset.univ.erase c) fun d => endPos c (kRss b d) :=
    bigSep_congr fun d hd => end1 ⟨fun h => Finset.ne_of_mem_erase hd (by injection h with h; injection h with h; exact congrArg Prod.snd h),
      fun h => Finset.ne_of_mem_erase hd (by injection h with h; injection h with h; exact congrArg Prod.snd h)⟩
  have e2 : (fun k : Fin 7 => pos1 (F := F) (c, kRsr b k)) = fun k => endPos c (kRsr b k) := funext fun k => end1 ⟨(fun h => nomatch h), (fun h => nomatch h)⟩
  have e3 : (fun k : Fin 7 => pos1 (F := F) (c, kAgs b k)) = fun k => endPos c (kAgs b k) := funext fun k => end1 ⟨(fun h => nomatch h), (fun h => nomatch h)⟩
  have e4 : (fun k : Fin 7 => pos1 (F := F) (c, kAgr b k)) = fun k => endPos c (kAgr b k) := funext fun k => end1 ⟨(fun h => nomatch h), (fun h => nomatch h)⟩
  unfold perBatch bOut
  rw [bigSep_univ_at (fun d : Fin 8 => endPos (F := F) c (kRss b d)) c, e0, e1, e2, e3, e4]
  iintro ⟨H0, H1, H2, H3, H4⟩
  isplitl [H0 H1]
  · isplitl [H0] <;> iassumption
  isplitl [H2]; · iexact H2
  isplitl [H3] <;> iassumption

theorem close_at (k : Key) : iprop(recs E K ∗ endPos c k) ⊢ |={Set.univ}=> semVal (kcell (c, k)) 0 := by
  unfold endPos
  by_cases h : dut c k = ∅
  · rw [if_pos h]; exact close0 E K (c, k) h
  · rw [if_neg h]; exact close1 E K (c, k)

/-- A resource for each, with a fact that stays true. -/
theorem each_with {I : Type} [DecidableEq I] {S : Finset I} {R : SP F} [BI.Persistent R] {Φ Ψ : I → SP F} (h : ∀ i, iprop(R ∗ Φ i) ⊢ Ψ i) :
    iprop(R ∗ bigSep S Φ) ⊢ bigSep S Ψ :=
  (sep_mono_left (BI.bigSep_of_persistent S R)).trans (by rw [← bigSep_sep']; exact bigSep_mono fun i _ => h i)

theorem close_all : iprop(recs E K ∗ last c) ⊢ |={Set.univ}=> bigSep Finset.univ fun k : Key => semVal (kcell (c, k)) 0 := by
  have h : last (F := F) c ⊢ bigSep Finset.univ (endPos c) := by
    unfold last
    rw [overKeys (endPos c)]
    iintro ⟨H, H0, H1⟩
    isplitl [H]
    · iapply (Entails.of_eq (end1 (k := kBar) ⟨(fun h => nomatch h), (fun h => nomatch h)⟩)); iexact H
    isplitl [H0]
    · iapply (bOut_end c 0); iexact H0
    iapply (bOut_end c 1); iexact H1
  exact (sep_mono_right h).trans ((each_with fun k => close_at E K c k).trans (bigSep_fupd _ _))

end

end Cert.Attn
-- ==== Proof.Same.lean ====
/- The folded text is the printed body. -/
module

public import proofs.«01_k».proof.Proof.Steps
public import Idealize.ShloMosaic.Lib.Pipeline.Regions

@[expose] public section

namespace Cert.Attn

open Idealize.ShloMosaic Idealize.SL.Sem
open Cert.KernelIdeal Cert.KernelIdeal.Gen

variable {F : FTy → Type} [FloatOps F]

/-- What a program that first asks for its device does on device `c`. -/
def onDev (c : Dev nD) : Pr F PUnit → Pr F PUnit
  | .ret x => .ret x
  | .op .deviceId k => k c
  | .op e k => .op e k

/-- The printed body, at the buffers the launch hands it. -/
noncomputable abbrev printed : Pr F PUnit :=
  cc0_body xM (Memref.isWhole_whole _) wqM (Memref.isWhole_whole _) kM (Memref.isWhole_whole _) vM (Memref.isWhole_whole _)
    woM (Memref.isWhole_whole _) outM (Memref.isWhole_whole _) partM (Memref.isWhole_whole _) rrM (Memref.isWhole_whole _)
    agM (Memref.isWhole_whole _) accM (Memref.isWhole_whole _) cc0_scratch4 cc0_scratch5 cc0_scratch6 cc0_scratch7

/-- The printed body asks for its device first. -/
theorem printed_dev : (printed : Pr F PUnit) = Prog.op .deviceId (fun c => onDev c printed) := by chain_rfl

/-! Once the device is known every "this device is not `d`" is decided, and the folded text unfolds to
    the printed one. -/
theorem same0 : onDev 0 (printed : Pr F PUnit) = bodyOn 0 := by chain_rfl
theorem same1 : onDev 1 (printed : Pr F PUnit) = bodyOn 1 := by chain_rfl
theorem same2 : onDev 2 (printed : Pr F PUnit) = bodyOn 2 := by chain_rfl
theorem same3 : onDev 3 (printed : Pr F PUnit) = bodyOn 3 := by chain_rfl
theorem same4 : onDev 4 (printed : Pr F PUnit) = bodyOn 4 := by chain_rfl
theorem same5 : onDev 5 (printed : Pr F PUnit) = bodyOn 5 := by chain_rfl
theorem same6 : onDev 6 (printed : Pr F PUnit) = bodyOn 6 := by chain_rfl
theorem same7 : onDev 7 (printed : Pr F PUnit) = bodyOn 7 := by chain_rfl

theorem same : ∀ c : Dev nD, onDev c (printed : Pr F PUnit) = bodyOn c
  | 0 => same0 | 1 => same1 | 2 => same2 | 3 => same3 | 4 => same4 | 5 => same5 | 6 => same6 | 7 => same7

/-- The printed body is the folded one, run on the device it is asked for. -/
theorem body_eq : (printed : Pr F PUnit) = Prog.op .deviceId bodyOn :=
  printed_dev.trans (congrArg _ (funext same))

end Cert.Attn
-- ==== Proof.Launch.lean ====
/- The launch of the eight devices, and the run. -/
module

public import proofs.«01_k».proof.Proof.Ghost
public import proofs.«01_k».proof.Proof.Same
public import Idealize.ShloMosaic.Lib.Pipeline.CollectiveSegs

@[expose] public section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

noncomputable section

variable {F : FTy → Type} [FloatOps F]
variable (m : (ℓ : Loc nD τ sig) → Buf (Elt F) ℓ) (ρ : Dev nD → PrngReg)

/-- What each device has staged. -/
def stg (c : Dev nD) : Stg F where
  x := iblk m c 0 t0_0
  wq := iblk m c 1 t0_0
  k := iblk m c 2 t0_0
  v := iblk m c 3 t0_0
  wo := iblk m c 4 t0_0

/-- A device's ghost state, under the names the cells were given. -/
def G' (c : Dev nD) : SP F :=
  iprop(∃ K : Dev nD × Key → ℕ, ((bigSep Finset.univ fun ck : Dev nD × Key => cellInv ER (Rd (stg m)) (K ck) (kcell ck)) ∗ bigSep Finset.univ fun ck : Dev nD × Key => reached ER (kcell ck) 0)
    ∗ (bigSep Finset.univ fun k : Key => pos0 (F := F) (c, k)) ∗ toks c)

/-- What a device's body starts with, beside its buffers. -/
def start (c : Dev nD) : SP F := iprop(∃ K : Dev nD × Key → ℕ, recs (stg m) K ∗ base c)

def Φ₀ (c : Dev nD) : SP F := iprop(start m c ∗ scr c)
/-- After the body: every cell at zero, the scratch buffers holding anything. -/
def Φ₁ (c : Dev nD) : SP F := iprop((bigSep Finset.univ fun k : Key => semVal (kcell (c, k)) 0) ∗ scr c)

def dats (_ : Fin 1) (c : Dev nD) : Dat τ (Elt F) Unit ℕ UU ℕ cfg0 c where
  A w := V m c (Pipeline.arrRef spec0 w)
  after w _ := match w with
    | ⟨0, _⟩ => (stg m c).x
    | ⟨1, _⟩ => (stg m c).wq
    | ⟨2, _⟩ => (stg m c).k
    | ⟨3, _⟩ => (stg m c).v
    | ⟨4, _⟩ => (stg m c).wo
    | ⟨5, _⟩ => OUTF (stg m) c
  Φ t := match t with
    | ⟨0, _⟩ => Φ₀ m c
    | ⟨_ + 1, _⟩ => Φ₁ c
  q _ := fullShare
  owed t := match t with
    | ⟨0, _⟩ => tl (due0 c)
    | ⟨_ + 1, _⟩ => 0

theorem owns_eq (c : Dev nD) (b : Ref sig .tc) (X : b.ty.Contents (Elt F)) :
    (owns (Ix := Unit) (Name := ℕ) (U := UU) (Lvl := ℕ) (c : Thread nD τ) (Memref.whole b) fullShare X : SP F) = iprop(∃ f : b.ty.Contents (Elt F), ⌜f = X⌝ ∗ pt c b Finset.univ fullShare f) := by
  unfold owns; simp only [Memref.view_whole, View.read_whole, View.set_whole]

abbrev tt : Fin cfg0.N := t0_0

/-- A staging buffer holding `X`. -/
abbrev at' (c : Dev nD) (b : Ref sig .tc) (X : b.ty.Contents (Elt F)) : SP F := iprop(∃ f : b.ty.Contents (Elt F), ⌜f = X⌝ ∗ pt c b Finset.univ fullShare f)

def bodyPre (c : Dev nD) : SP F :=
  iprop(Φ₀ m c ∗ (dats m 0 c).owesAt () tt.castSucc
    ∗ (∃ d, at' c cc0_stg0_0 ((dats m 0 c).before (0 : Fin 6) tt d)) ∗ (∃ d, at' c cc0_stg1_0 ((dats m 0 c).before (1 : Fin 6) tt d))
    ∗ (∃ d, at' c cc0_stg2_0 ((dats m 0 c).before (2 : Fin 6) tt d)) ∗ (∃ d, at' c cc0_stg3_0 ((dats m 0 c).before (3 : Fin 6) tt d))
    ∗ (∃ d, at' c cc0_stg4_0 ((dats m 0 c).before (4 : Fin 6) tt d)) ∗ (∃ d, at' c cc0_stg5_0 ((dats m 0 c).before (5 : Fin 6) tt d)))

def bodyPost (c : Dev nD) : SP F :=
  iprop(Φ₁ c ∗ (dats m 0 c).owesAt () tt.succ ∗ at' c cc0_stg0_0 (stg m c).x ∗ at' c cc0_stg1_0 (stg m c).wq ∗ at' c cc0_stg2_0 (stg m c).k
    ∗ at' c cc0_stg3_0 (stg m c).v ∗ at' c cc0_stg4_0 (stg m c).wo ∗ at' c cc0_stg5_0 (OUTF (stg m) c))

theorem before0 (c : Dev nD) (d) : (dats m 0 c).before (0 : Fin 6) tt d = (stg m c).x := by unfold Dat.before; rw [if_pos (fetch0_0 tt)]; rfl
theorem before1 (c : Dev nD) (d) : (dats m 0 c).before (1 : Fin 6) tt d = (stg m c).wq := by unfold Dat.before; rw [if_pos (fetch0_1 tt)]; rfl
theorem before2 (c : Dev nD) (d) : (dats m 0 c).before (2 : Fin 6) tt d = (stg m c).k := by unfold Dat.before; rw [if_pos (fetch0_2 tt)]; rfl
theorem before3 (c : Dev nD) (d) : (dats m 0 c).before (3 : Fin 6) tt d = (stg m c).v := by unfold Dat.before; rw [if_pos (fetch0_3 tt)]; rfl
theorem before4 (c : Dev nD) (d) : (dats m 0 c).before (4 : Fin 6) tt d = (stg m c).wo := by unfold Dat.before; rw [if_pos (fetch0_4 tt)]; rfl

theorem dev_wp (c : Dev nD) (k : Dev nD → Pr F PUnit) (Q : PUnit → SP F) : WP c (Prog.op .deviceId k) Q = WP c (k c) Q :=
  wp_deviceId _ _ _ _

theorem printed_wp (c : Dev nD) : bodyPre m c ⊢ WP c (printed : Pr F PUnit) fun _ => bodyPost m c := by
  rw [body_eq]
  rw [dev_wp]
  unfold bodyPre Φ₀ start Dat.owesAt Pipeline.owesWithin
  simp only [before0, before1, before2, before3, before4]
  rw [show (dats m 0 c).owed tt.castSucc = tl (due0 c) from rfl]
  iintro ⟨⟨⟨%K, #HR, Hb⟩, Hs⟩, ⟨%W, %hW, HO⟩, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩⟩
  subst h0 h1 h2 h3 h4
  iapply (wp_fupd _ _ _)
  iapply (wp_wand_r _ _ _)
  isplitl [HO Hb Hs H0 H1 H2 H3 H4 H5]
  · iapply (body_wp (stg m) K c)
    isplitr; · iexact HR
    isplitl [HO]; · unfold ow; iexists W; iexact HO
    isplitl [Hb]; · iexact Hb
    isplitl [H0 H1 H2 H3 H4]
    · unfold ops
      isplitl [H0]; · iexact H0
      isplitl [H1]; · iexact H1
      isplitl [H2]; · iexact H2
      isplitl [H3] <;> iassumption
    isplitl [Hs]; · iexact Hs
    iexists f5; iexact H5
  unfold ow ops
  iintro %_ ⟨⟨%W', HO⟩, Hl, ⟨H0, H1, H2, H3, H4⟩, Hs, H5⟩
  imod (close_all (stg m) K c) $$ [Hl] with Hz
  · isplitr; · iexact HR
    iexact Hl
  imodintro
  unfold bodyPost Φ₁ Dat.owesAt Pipeline.owesWithin
  rw [show (dats m 0 c).owed tt.succ = 0 from rfl]
  isplitl [Hz Hs]
  · isplitl [Hz] <;> iassumption
  isplitl [HO]
  · iexists W'
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

theorem body_obligation (c : Dev nD) : BodyObligation (dats m 0 c) (defs₀ (F := F)) 𝒱₀ () Set.univ := fun t => by
  rw [fin_N0 t]
  rw [bigSep_W0, bigSep_W0]
  simp only [owns_eq]
  exact printed_wp m c

/-! ### Around the body -/

/-- The kernel's own semaphores: all cells but the barrier's. -/
abbrev osem (k : (Fin 2 × Fin 8) ⊕ ((Fin 2 × Fin 7) ⊕ ((Fin 2 × Fin 7) ⊕ (Fin 2 × Fin 7)))) : SemLoc sig := csem (.inr k)

theorem ownSemFacts : Pipeline.OwnSemFacts cfg0.spec osem := by decide +kernel

theorem share_eq (c : Dev nD) (w : Fin cfg0.W) : (dats m 0 c).share w = fullShare := by unfold Dat.share; split <;> rfl

theorem unscoped_eq (c : Dev nD) : (unscopedSems0 c : SP F) = semVal (kcell (c, kBar)) 0 := by
  unfold unscopedSems0; rw [bigSep_eq_bigSepL_of_eq [SemLoc.reg barS] (by decide +kernel) (by decide +kernel)]; rfl

theorem sems_eq (c : Dev nD) :
    (bigSep Finset.univ fun k : Key => semVal (kcell (c, k)) 0 : SP F)
      = iprop(unscopedSems0 c ∗ Pipeline.ownSems0 (Ix := Unit) (Name := ℕ) (U := UU) (Lvl := ℕ) (Val := Elt F) (τ := τ) osem c) := by
  rw [sumL, unscoped_eq, show (Finset.univ : Finset Unit) = {()} from rfl, bigSep_singleton]
  rfl

/-- What the launch deals a device. -/
def G (c : Dev nD) : SP F :=
  iprop((bigSep Finset.univ fun k : Key => roundState ER (Rd (stg m)) (kcell (c, k)) 0)
    ∗ (bigSep Finset.univ fun k : Key => iprop(pos0 (F := F) (c, k) ∗ reached ER (kcell (c, k)) 0)) ∗ toks c)

theorem fund_all : BI.own (ER (initOf allCells allToks)) ⊢ (|==> bigSep Finset.univ (G m) : SP F) := by
  have hX (Φ : GSem nD τ sig → SP F) : bigSep allCells Φ = bigSep Finset.univ fun c : Dev nD => bigSep Finset.univ fun k : Key => Φ (kcell (c, k)) := by
    unfold allCells; rw [bigSep_map, bigSep_univ_prod]; rfl
  have hT : bigSep allToks (fun x => (dutyTok ER x.1 x.2.1 x.2.2 : SP F)) = bigSep Finset.univ fun c : Dev nD => toks c := by
    unfold allToks; rw [bigSep_map, bigSep_univ_prod]; rfl
  iintro HX
  imod (Rounds.fund ER (Rd (stg m)) allCells allToks) $$ HX with ⟨Hst, Hr, Hat, Htok⟩
  imodintro
  ihave Hst := (Entails.of_eq (hX fun g => roundState ER (Rd (stg m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Key => iprop(∃ κ : ℕ, cellInv ER (Rd (stg m)) κ (kcell (c, k))))
          ∗ (bigSep Finset.univ fun k : Key => iprop(pos0 (F := F) (c, k) ∗ reached ER (kcell (c, k)) 0)) ∗ toks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : Key => semVal (kcell (c, k)) 0) ∗ bigSep Finset.univ fun k : Key => roundState ER (Rd (stg m)) (kcell (c, k)) 0)
      ⊢ (|={Set.univ}=> bigSep Finset.univ fun k : Key => iprop(∃ κ : ℕ, cellInv ER (Rd (stg m)) κ (kcell (c, k))) : SP F) from by
        rw [← bigSep_sep']
        exact (bigSep_mono fun k _ => (Rounds.body_intro ER (Rd (stg m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The shared facts under given names. -/
def shared (K : Dev nD × Key → ℕ) : SP F :=
  iprop((bigSep Finset.univ fun ck : Dev nD × Key => cellInv ER (Rd (stg m)) (K ck) (kcell ck)) ∗ bigSep Finset.univ fun ck : Dev nD × Key => reached ER (kcell ck) 0)
instance (K : Dev nD × Key → ℕ) : BI.Persistent (shared m K) := by unfold shared; infer_instance

theorem give (K : Dev nD × Key → ℕ) (c : Dev nD) : iprop(shared m K ∗ ((bigSep Finset.univ fun k : Key => pos0 (F := F) (c, k)) ∗ toks c)) ⊢ G' m c := by
  unfold G' shared
  iintro ⟨HS, HL⟩
  iexists K
  isplitl [HS] <;> iassumption

theorem regroup :
    (bigSep Finset.univ fun c : Dev nD => iprop((bigSep Finset.univ fun k : Key => iprop(∃ κ : ℕ, cellInv ER (Rd (stg m)) κ (kcell (c, k))))
          ∗ (bigSep Finset.univ fun k : Key => iprop(pos0 (F := F) (c, k) ∗ reached ER (kcell (c, k)) 0)) ∗ toks c) : SP F)
      ⊢ bigSep Finset.univ (G' m) := by
  rw [bigSep_sep', bigSep_sep', ← bigSep_univ_prod (fun ck : Dev nD × Key => iprop(∃ κ : ℕ, cellInv ER (Rd (stg m)) κ (kcell ck))),
    bigSep_congr (s := Finset.univ) (fun (c : Dev nD) _ => bigSep_sep' Finset.univ (fun k : Key => (pos0 (F := F) (c, k) : SP F)) (fun k => reached ER (kcell (c, k)) 0)),
    bigSep_sep', ← bigSep_univ_prod (fun ck : Dev nD × Key => (reached ER (kcell ck) 0 : SP F))]
  iintro ⟨HI, ⟨Hat, #HR⟩, Htok⟩
  ihave HK := (BI.bigSep_exists_pi Finset.univ (fun (ck : Dev nD × Key) (κ : ℕ) => (cellInv ER (Rd (stg m)) κ (kcell ck) : SP F))) $$ HI
  icases HK with ⟨%K, #HI⟩
  iapply (each_with (R := shared m K) fun c => give m K c)
  isplitr
  · unfold shared; isplitl; · iexact HI
    iexact HR
  · iapply (Entails.of_eq (bigSep_sep' Finset.univ (fun c : Dev nD => bigSep Finset.univ fun k : Key => (pos0 (F := F) (c, k) : SP F)) toks).symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : SP F)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred (fun d : Dev nD => tl (due0 d)) c ∗ prngReg c (ρ c) ∗ G' m c)
      ⊢ |={Set.univ}=> iprop(start m c ∗ emp) := by
  unfold G' start
  iintro ⟨-, Hlev, Hcr, -, ⟨%K, ⟨HI, HR⟩, Hp, Ht⟩⟩
  imodintro
  isplitl
  · iexists K
    isplitl [HI HR Hlev]
    · unfold recs
      isplitl [HI]; · iexact HI
      isplitl [HR] <;> iassumption
    iapply (base_intro c)
    isplitl [Hp]; · iexact Hp
    isplitl [Ht] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ scr
  iintro ⟨Hz, Hr⟩
  ihave Hz := (Entails.of_eq (sems_eq (F := F) c)) $$ Hz
  icases Hz with ⟨Hu, Ho⟩
  isplitl [Hu]; · iexact Hu
  isplitl [Ho]; · iexact Ho
  iexact Hr

theorem stage_free : ∀ (w : Fin 6) (s : Fin (spec0 w).nbuf), keyOf (SemLoc.dma ((spec0 w).sem s)) = none := by
  have h : ∀ (w : Fin 6) (s : Fin (spec0 w).nbuf) (k : Key), csem k ≠ SemLoc.dma ((spec0 w).sem s) := by decide +kernel
  intro w s
  unfold keyOf
  exact dif_neg fun ⟨k, hk⟩ => h w s k hk

theorem due0_pos : ∀ c : Fin 8, ∀ x ∈ due0 c, 0 < lvK x.2 := by decide +kernel

theorem stage_waits (c : Dev nD) : (levAts L lv : SP F) ⊢ Pipeline.cellsWaits cfgs (dats m) () 0 c :=
  Pipeline.cellsWaits_intro cfgs (dats m) () 0 c fun w s t => by
    have h0 : lvO (keyOf (SemLoc.dma ((spec0 w).sem s))) ≤ 0 := by rw [stage_free w s]; exact Nat.le_refl 0
    rcases t with ⟨_ | _, ht⟩
    · exact may c _ (due0 c) 0 h0 (due0_pos c)
    · exact may c _ [] 0 h0 fun x hx => nomatch hx

/-! ### The run -/

/-- The arrays in the end. -/
def QC : PUnit × MemSt nD τ sig (Elt F) → Prop := fun r =>
  ∀ c : Dev nD, ∀ w : Fin cfg0.W, r.2.mem ((cfg0.win w).arr.view.loc (c : Thread nD τ)) = (dats m 0 c).arrAt w cfg0.N

theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d : Dev nD => tl (due0 d)) (howed₀ := fun _ => rfl) (howedN := fun _ => rfl)
    (L := L) (lv := lv) (hL := L_of_ne) (hwaits := stage_waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end

end Cert.Attn
-- ==== Proof.Ends.lean ====
/- What the arrays of every device hold when the run is over. -/
module

public import proofs.«01_k».proof.Proof.Launch

@[expose] public section

namespace Cert.Attn

open Cert.KernelIdeal Cert.KernelIdeal.Gen
open Idealize.ShloMosaic Idealize.ShloMosaic.TcCoe
open Idealize.SL.Sem

noncomputable section

variable {F : FTy → Type} [FloatOps F]
variable (m : (ℓ : Loc nD τ sig) → Buf (Elt F) ℓ) (ρ : Dev nD → PrngReg)

/-- The argument arrays of a device as launched. -/
def args (c : Dev nD) : Stg F where
  x := m ((c : Thread nD τ).loc main_arg0)
  wq := m ((c : Thread nD τ).loc main_arg1)
  k := m ((c : Thread nD τ).loc main_arg2)
  v := m ((c : Thread nD τ).loc main_arg3)
  wo := m ((c : Thread nD τ).loc main_arg4)

/-- Every window is its whole array, so what is staged is the arrays. -/
theorem stg_eq : stg m = args m := by
  funext c
  have z0 : (fun a => (win0_0.index t0_0) a * main_arg0.ty.shape.size a) = fun _ => 0 := funext fun a => by fin_cases a <;> decide
  have z1 : (fun a => (win0_1.index t0_0) a * main_arg1.ty.shape.size a) = fun _ => 0 := funext fun a => by fin_cases a <;> decide
  have z2 : (fun a => (win0_2.index t0_0) a * main_arg2.ty.shape.size a) = fun _ => 0 := funext fun a => by fin_cases a <;> decide
  have z3 : (fun a => (win0_3.index t0_0) a * main_arg3.ty.shape.size a) = fun _ => 0 := funext fun a => by fin_cases a <;> decide
  have z4 : (fun a => (win0_4.index t0_0) a * main_arg4.ty.shape.size a) = fun _ => 0 := funext fun a => by fin_cases a <;> decide
  unfold stg args
  congr 1
  · exact Memref.read_access_unit_zero (Elt F) main_arg0 z0 (fun a => by fin_cases a <;> decide) _
  · exact Memref.read_access_unit_zero (Elt F) main_arg1 z1 (fun a => by fin_cases a <;> decide) _
  · exact Memref.read_access_unit_zero (Elt F) main_arg2 z2 (fun a => by fin_cases a <;> decide) _
  · exact Memref.read_access_unit_zero (Elt F) main_arg3 z3 (fun a => by fin_cases a <;> decide) _
  · exact Memref.read_access_unit_zero (Elt F) main_arg4 z4 (fun a => by fin_cases a <;> decide) _

/-- The result array ends holding what the body left in its staging buffer. -/
theorem out_end (c : Dev nD) : (dats m 0 c).arrAt (5 : Fin 6) cfg0.N = OUTF (args m) c := by
  have z5 : (fun a => (win0_5.index t0_0) a * main_v1.ty.shape.size a) = fun _ => 0 := funext fun a => by fin_cases a <;> decide
  have hr := fun f => Memref.read_access_unit_zero (Elt F) main_v1 z5 (fun a => by fin_cases a <;> decide) f
  have ho : (win0_5.blk t0_0).view.read (Elt F) ((dats m 0 c).arrAt (5 : Fin 6) cfg0.N) = (dats m 0 c).flushed (5 : Fin 6) t0_0 := by
    rw [show cfg0.N = (t0_0 : Fin cfg0.N).val + 1 from rfl, (dats m 0 c).arrAt_succ (5 : Fin 6) t0_0]
    rw [show (cfg0.win (5 : Fin 6)).flush t0_0 = true from by decide, if_pos rfl]
    exact View.read_write_univ _ _
  rw [← stg_eq m]
  exact (hr _).symm.trans ho

/-- The run, for any float values: every result array holds `OUTF` of the arguments, the arguments are unchanged,
    and every counter is at zero. -/
theorem run_ends : θ_run defs (onTc (τ := τ) (main (F := F))) ⟨m, fun _ => 0, ρ⟩ (fun r => (∀ c : Dev nD,
      r.2.mem ((c.tc : Thread nD τ).loc main_v1) = OUTF (args m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(h.1 c 5).trans (out_end m c),
      (h.1 c 0).trans ((dats m 0 c).arrAt_in 0 rfl _), (h.1 c 1).trans ((dats m 0 c).arrAt_in 1 rfl _),
      (h.1 c 2).trans ((dats m 0 c).arrAt_in 2 rfl _), (h.1 c 3).trans ((dats m 0 c).arrAt_in 3 rfl _),
      (h.1 c 4).trans ((dats m 0 c).arrAt_in 4 rfl _)⟩, h.2⟩) (run_main m ρ)

end

end Cert.Attn
-- ==== Proof.Twin.lean ====
/- The kernel and its ideal reading are printed as two programs with one text. This module says so of their bodies and of
   the tables of procedures that hold them, so that what is proved of one is proved of the other. -/
module

public import proofs.«01_k».proof.Proof.Gen.Kernel
public import proofs.«01_k».proof.Proof.Gen.KernelIdeal
public import Idealize.ShloMosaic.Lib.Pipeline.Regions

@[expose] public section

noncomputable section

namespace Cert.Attn

open Idealize.ShloMosaic Idealize.SL.Sem Cert.Kernel

variable {F : FTy → Type} [FloatOps F]

section
variable (a0 : Memref sig .tc .vmem S2x512x768 .f32) (h0 : a0.IsWhole) (a1 : Memref sig .tc .vmem S768x512 .f32) (h1 : a1.IsWhole)
  (a2 : Memref sig .tc .vmem S2x512x8x64 .f32) (h2 : a2.IsWhole) (a3 : Memref sig .tc .vmem S2x512x8x64 .f32) (h3 : a3.IsWhole)
  (a4 : Memref sig .tc .vmem S512x768 .f32) (h4 : a4.IsWhole) (a5 : Memref sig .tc .vmem S2x512x768 .f32) (h5 : a5.IsWhole)
  (a6 : Memref sig .tc .vmem S8x2x66x512 .bf16) (h6 : a6.IsWhole) (a7 : Memref sig .tc .vmem S7x2x66x512 .bf16) (h7 : a7.IsWhole)
  (a8 : Memref sig .tc .vmem S8x2x64x512 .bf16) (h8 : a8.IsWhole) (a9 : Memref sig .tc .vmem S2x64x512 .f32) (h9 : a9.IsWhole)
  (s4 : DmaSems sig S2x8) (s5 s6 s7 : DmaSems sig S2x7)

/-- The two programs' bodies are the same text. -/
theorem twin_body : (Cert.Kernel.cc0_body (F := F) a0 h0 a1 h1 a2 h2 a3 h3 a4 h4 a5 h5 a6 h6 a7 h7 a8 h8 a9 h9 s4 s5 s6 s7)
    = Cert.KernelIdeal.cc0_body (F := F) a0 h0 a1 h1 a2 h2 a3 h3 a4 h4 a5 h5 a6 h6 a7 h7 a8 h8 a9 h9 s4 s5 s6 s7 := by chain_rfl
end

/-- So are the tables that hold them. -/
theorem twin_table : Cert.Kernel.defs₀ (F := F) = Cert.KernelIdeal.defs₀ (F := F) := by
  unfold Cert.Kernel.defs₀ Cert.KernelIdeal.defs₀
  refine congrArg Defs.onTc ?_
  funext p x
  obtain ⟨p, hp⟩ := p
  cases p with
  | zero => obtain ⟨t, s⟩ := x; exact twin_body ..
  | succ n => exact absurd hp (Nat.not_lt.2 (Nat.le_add_left _ _))

/-- The whole tables of procedures of the two programs are one table. -/
theorem twin_defs : Cert.Kernel.defs (F := F) = Cert.KernelIdeal.defs (F := F) := by
  unfold Cert.Kernel.defs Cert.KernelIdeal.defs
  rw [twin_table]; rfl
end Cert.Attn
end
-- ==== Proof.Soft.lean ====
/- Softmax sums taken part by part. The state of such a sum over some of the parts is a real number subtracted from every
   score, the sum of the exponentials, and the sum of the values weighted by the exponentials. Which real number is
   subtracted does not matter to the quotient in the end: it need not be the largest score. The values may be infinite,
   the scores may not. -/
module

public import Idealize.ShloMosaic.PureOps.Ideal
public import Mathlib.Algebra.BigOperators.Fin
public import Mathlib.Tactic.FieldSimp

@[expose] public section

namespace Cert.Attn

open Idealize.ShloMosaic
open scoped BigOperators

noncomputable section

/-! ### Extended reals that are real -/

/-- A value that is a real number. -/
def IsR (x : EReal) : Prop := ∃ r : ℝ, x = (r : EReal)

theorem IsR.mul {x y : EReal} : IsR x → IsR y → IsR (x * y)
  | ⟨a, ha⟩, ⟨b, hb⟩ => ⟨a * b, by rw [ha, hb, EReal.coe_mul]⟩

theorem IsR.add {x y : EReal} : IsR x → IsR y → IsR (x + y)
  | ⟨a, ha⟩, ⟨b, hb⟩ => ⟨a + b, by rw [ha, hb, EReal.coe_add]⟩

theorem IsR.sum {ι : Type} (s : Finset ι) (f : ι → EReal) (h : ∀ i, IsR (f i)) : IsR (∑ i ∈ s, f i) := by
  classical
  induction s using Finset.induction_on with
  | empty => exact ⟨0, by simp⟩
  | insert a s ha ih => rw [Finset.sum_insert ha]; exact (h a).add ih

theorem isR_iff (x : EReal) : IsR x ↔ x ≠ ⊤ ∧ x ≠ ⊥ := by
  constructor
  · rintro ⟨r, rfl⟩; exact ⟨EReal.coe_ne_top r, EReal.coe_ne_bot r⟩
  · rintro ⟨h1, h2⟩; exact ⟨x.toReal, (EReal.coe_toReal h1 h2).symm⟩

/-- The largest of finitely many values none of which is `⊤`, some of which is real. -/
theorem isR_fold {ι : Type} (s : Finset ι) (f : ι → EReal) (h : ∀ i, f i ≠ ⊤) (i₀ : ι) (hi : i₀ ∈ s) (h₀ : IsR (f i₀)) :
    IsR (s.fold max ⊥ f) := by
  rw [isR_iff]
  constructor
  · have : s.fold max ⊥ f < ⊤ := (Finset.fold_max_lt (c := ⊤)).2 ⟨bot_lt_top, fun i _ => lt_top_iff_ne_top.2 (h i)⟩
    exact this.ne
  · have : f i₀ ≤ s.fold max ⊥ f := (Finset.le_fold_max (f i₀)).2 (Or.inr ⟨i₀, hi, le_refl _⟩)
    intro e
    rw [e, le_bot_iff] at this
    exact ((isR_iff _).1 h₀).2 this

/-- Real sums are extended sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into a sum, whatever is summed. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

/-- The same of a list's sum. -/
theorem listSum_mul_real {ι : Type} (D : List ι) (f : ι → EReal) (c : ℝ) (hc : 0 ≤ c) :
    (D.map f).sum * (c : EReal) = (D.map fun i => f i * (c : EReal)).sum := by
  induction D with
  | nil => simp
  | cons a D ih =>
    rw [List.map_cons, List.sum_cons, List.map_cons, List.sum_cons,
      EReal.right_distrib_of_nonneg_of_ne_top (EReal.coe_nonneg.2 hc) (EReal.coe_ne_top c), ih]

/-! ### The state of a softmax sum -/

variable {ι κ : Type} [Fintype κ]

/-- The sum of the exponentials over the parts `D`, `μ` subtracted. -/
def wts (D : List ι) (f : ι → κ → ℝ) (μ : ℝ) : ℝ := (D.map fun e => ∑ t, Real.exp (f e t - μ)).sum

/-- The sum of the values weighted by them. -/
def vals (D : List ι) (f : ι → κ → ℝ) (v : ι → κ → EReal) (μ : ℝ) : EReal :=
  (D.map fun e => ∑ t, (Real.exp (f e t - μ) : EReal) * v e t).sum

/-- `m`, `l`, `a` are a state of the softmax sum over the parts `D`. -/
def Soft (D : List ι) (f : ι → κ → ℝ) (v : ι → κ → EReal) (m l a : EReal) : Prop :=
  ∃ μ : ℝ, m = μ ∧ l = (wts D f μ : ℝ) ∧ a = vals D f v μ

/-- Another number subtracted multiplies the sum of the exponentials. -/
theorem wts_scale (D : List ι) (f : ι → κ → ℝ) (μ ν : ℝ) : Real.exp (μ - ν) * wts D f μ = wts D f ν := by
  unfold wts
  rw [← List.sum_map_mul_left]
  refine congrArg List.sum (List.map_congr_left fun e _ => ?_)
  rw [Finset.mul_sum]
  refine Finset.sum_congr rfl fun t _ => ?_
  rw [← Real.exp_add]
  congr 1; ring

/-- And the weighted sum. -/
theorem vals_scale (D : List ι) (f : ι → κ → ℝ) (v : ι → κ → EReal) (μ ν : ℝ) :
    vals D f v μ * (Real.exp (μ - ν) : EReal) = vals D f v ν := by
  unfold vals
  rw [listSum_mul_real _ _ _ (Real.exp_pos _).le]
  refine congrArg List.sum (List.map_congr_left fun e _ => ?_)
  rw [sum_mul_real _ _ _ (Real.exp_pos _).le]
  refine Finset.sum_congr rfl fun t _ => ?_
  rw [mul_right_comm, ← EReal.coe_mul, ← Real.exp_add]
  congr 3; ring

/-- Two states merged: the larger of the two numbers is subtracted from all. -/
theorem Soft.merge {D D' : List ι} {f : ι → κ → ℝ} {v : ι → κ → EReal} {m l a m' l' a' : EReal}
    (h : Soft D f v m l a) (h' : Soft D' f v m' l' a') :
    Soft (D ++ D') f v (max m m') (Ideal.exp (m - max m m') * l + Ideal.exp (m' - max m m') * l')
      (a * Ideal.exp (m - max m m') + a' * Ideal.exp (m' - max m m')) := by
  obtain ⟨μ, rfl, rfl, rfl⟩ := h
  obtain ⟨μ', rfl, rfl, rfl⟩ := h'
  have hm : max (μ : EReal) (μ' : EReal) = ((max μ μ' : ℝ) : EReal) := (Monotone.map_max (f := fun r : ℝ => (r : EReal)) fun _ _ h => EReal.coe_le_coe_iff.2 h).symm
  refine ⟨max μ μ', hm, ?_, ?_⟩
  · rw [hm, ← EReal.coe_sub, ← EReal.coe_sub]
    show (Real.exp _ : EReal) * _ + (Real.exp _ : EReal) * _ = _
    rw [← EReal.coe_mul, ← EReal.coe_mul, ← EReal.coe_add, wts_scale, wts_scale]
    unfold wts
    rw [List.map_append, List.sum_append]
  · rw [hm, ← EReal.coe_sub, ← EReal.coe_sub]
    show _ * (Real.exp _ : EReal) + _ * (Real.exp _ : EReal) = _
    rw [vals_scale, vals_scale]
    unfold vals
    rw [List.map_append, List.sum_append]

/-- The sum over one part, the number subtracted any real number. -/
theorem soft_one (e : ι) {f : ι → κ → ℝ} {v : ι → κ → EReal} {s : κ → EReal} {m : EReal} (hs : ∀ t, s t = (f e t : EReal)) (hm : IsR m) :
    Soft [e] f v m (∑ t, Ideal.exp (s t - m)) (∑ t, Ideal.exp (s t - m) * v e t) := by
  obtain ⟨μ, rfl⟩ := hm
  have he : ∀ t, Ideal.exp (s t - (μ : EReal)) = (Real.exp (f e t - μ) : EReal) := fun t => by
    rw [hs, ← EReal.coe_sub]; rfl
  refine ⟨μ, rfl, ?_, ?_⟩
  · unfold wts
    rw [List.map_singleton, List.sum_singleton, coe_sum]
    exact Finset.sum_congr rfl fun t _ => he t
  · unfold vals
    rw [List.map_singleton, List.sum_singleton]
    exact Finset.sum_congr rfl fun t _ => by rw [he]

/-- The quotient in the end: every part's values weighted by the quotients of the exponentials, any real `M` subtracted. -/
theorem Soft.out {n : Nat} [NeZero n] [Nonempty κ] {D : List (Fin n)} (hD : D.Perm (List.finRange n)) {f : Fin n → κ → ℝ}
    {v : Fin n → κ → EReal} {m l a : EReal} (h : Soft D f v m l a) (M : ℝ) :
    a * Ideal.div 1 l
      = ∑ e, ∑ t, v e t * Ideal.div (Real.exp (f e t - M) : EReal) ((∑ e, ∑ t, Real.exp (f e t - M) : ℝ) : EReal) := by
  obtain ⟨μ, rfl, rfl, rfl⟩ := h
  have hw : ∀ ν, wts D f ν = ∑ e, ∑ t, Real.exp (f e t - ν) := fun ν => by
    unfold wts; rw [Fin.sum_univ_def]; exact (hD.map _).sum_eq
  have hv : vals D f v μ = ∑ e, ∑ t, (Real.exp (f e t - μ) : EReal) * v e t := by
    unfold vals; rw [Fin.sum_univ_def]; exact (hD.map _).sum_eq
  have hpos : ∀ ν, 0 < wts D f ν := fun ν => by
    rw [hw]
    exact Finset.sum_pos (fun e _ => Finset.sum_pos (fun t _ => Real.exp_pos _) Finset.univ_nonempty) Finset.univ_nonempty
  have hs : wts D f M = Real.exp (μ - M) * wts D f μ := (wts_scale D f μ M).symm
  have hc : 0 ≤ 1 / wts D f μ := (one_div_pos.2 (hpos μ)).le
  rw [← hw M, Ideal.div_coe (hpos μ).ne', one_mul, hv, sum_mul_real _ _ _ hc]
  refine Finset.sum_congr rfl fun e _ => ?_
  rw [sum_mul_real _ _ _ hc]
  refine Finset.sum_congr rfl fun t _ => ?_
  rw [Ideal.div_coe (hpos M).ne', mul_right_comm, ← EReal.coe_mul, ← EReal.coe_mul, mul_comm]
  refine congrArg (fun r : ℝ => v e t * (r : EReal)) ?_
  have h1 : Real.exp (f e t - M) = Real.exp (μ - M) * Real.exp (f e t - μ) := by
    rw [← Real.exp_add]; congr 1; ring
  have h2 := (hpos μ).ne'
  have h3 := (Real.exp_pos (μ - M)).ne'
  rw [hs, h1]
  field_simp

end

end Cert.Attn
-- ==== Proof.Finite.lean ====
/- What the precondition says of a device's blocks: the inputs and the keys and the query weights are real numbers. -/
module

public import proofs.«01_k».proof.Pre_finite_scores_KernelIdeal
public import proofs.«01_k».proof.Pre_finite_scores_ReferenceIdeal
public import proofs.«01_k».proof.Proof.Soft
public import Idealize.ShloMosaic.Lib.ReduceAll
public import Idealize.ShloMosaic.Lib.Affine

@[expose] public section

namespace Cert.Attn

open Idealize.ShloMosaic

noncomputable section

/-- The shape relations the precondition states, of a device's blocks and of the whole arrays. -/
theorem factsPre : Cert.Pre_finite_scores_KernelIdeal.Facts where
  bcast_S_S2x512x768 := by decide
  reducesTo_S2x512x768_S_d0_1_2 := by decide
  h_S_ := by decide
  bcast_S_S768x512 := by decide
  reducesTo_S768x512_S_d0_1 := by decide
  bcast_S_S2x512x8x64 := by decide
  reducesTo_S2x512x8x64_S_d0_1_2_3 := by decide

theorem factsPreRef : Cert.Pre_finite_scores_ReferenceIdeal.Facts where
  bcast_S_S2x512x768 := by decide
  reducesTo_S2x512x768_S_d0_1_2 := by decide
  h_S_ := by decide
  bcast_S_S768x512 := by decide
  reducesTo_S768x512_S_d0_1 := by decide
  bcast_S_S2x4096x8x64 := by decide
  reducesTo_S2x4096x8x64_S_d0_1_2_3 := by decide

theorem ofBits_posInf : Ideal.ofBits .f32 0x7F800000#32 = (⊤ : EReal) := by simp [Ideal.ofBits, Ideal.ieee]

/-- A number whose absolute value is below infinity is real. -/
theorem real_of_abs {a : EReal} (h : Ideal.cmp .olt (max a (-a)) (Ideal.ofBits .f32 0x7F800000#32) = 1#1) : IsR a := by
  rw [ofBits_posInf] at h
  have h' : max a (-a) < ⊤ := by
    by_contra hn
    simp [Ideal.cmp, hn] at h
  rw [isR_iff]
  constructor
  · rintro rfl; exact absurd h' (by simp)
  · rintro rfl; exact absurd h' (by simp)

/-- An array all of whose elements pass the comparison holds real numbers. -/
theorem real_all {s t u : Shape} {axes : List (Fin s.rank)} [Subsingleton t.Idx] (x : FVec Ideal s .f32) (c : FVec Ideal s .f32)
    (hc : ∀ i, c i = Ideal.ofBits .f32 0x7F800000#32) (v : IVec u 1) (h : s.ReducesTo axes t) (hu : 0 < u.numel) (j : t.Idx)
    (e : Host.reduce IntOp.andi (cmpf .olt (Host.absf x) c) v h hu j = 1#1) (i : s.Idx) : IsR (x i) := by
  refine real_of_abs ?_
  rw [← hc i]
  exact Host.reduce_andi_all _ _ _ _ _ e i

open Cert.Pre_finite_scores_KernelIdeal in
theorem real_of_pre [Cert.Pre_finite_scores_KernelIdeal.Facts] (x : FVec Ideal S2x512x768 .f32) (wq : FVec Ideal S768x512 .f32)
    (k v : FVec Ideal S2x512x8x64 .f32) (wo : FVec Ideal S512x768 .f32) (h : fn (F := Ideal) x wq k v wo = fun _ => 1#1) :
    (∀ i, IsR (x i)) ∧ (∀ i, IsR (wq i)) ∧ (∀ i, IsR (k i)) := by
  have e := congrFun h (fun a => a.elim0)
  haveI : Subsingleton S_.Idx := ⟨fun a b => funext fun i => i.elim0⟩
  obtain ⟨e1, e2⟩ := IntOp.andi_eq_one.1 e
  obtain ⟨e3, e4⟩ := IntOp.andi_eq_one.1 e1
  exact ⟨real_all x _ (fun _ => rfl) _ _ _ _ e3, real_all wq _ (fun _ => rfl) _ _ _ _ e4, real_all k _ (fun _ => rfl) _ _ _ _ e2⟩

end

end Cert.Attn
-- ==== Proof.Tile.lean ====
/- One tile of one device over the extended reals, read element by element: its scores, its rows' largest scores, their
   sums of exponentials, and their weighted sums of values, as the partial results hold them. -/
module

public import proofs.«01_k».proof.Proof.Cont
public import proofs.«01_k».proof.Proof.Soft
public import Idealize.ShloMosaic.Lib.Pointwise

@[expose] public section

namespace Cert.Attn

open Idealize.ShloMosaic Idealize.SL.Sem
open Cert.KernelIdeal Cert.KernelIdeal.Gen

noncomputable section

/-! ### Positions -/

/-- Row `t` of the tile of the blocks `r` and `r + 4`. -/
def kx (r : Fin 4) (t : Fin 128) : Fin 512 := ⟨64 * r.val + 256 * (t.val / 64) + t.val % 64, by omega⟩
/-- Column `d` of head `h`. -/
def hc (h : Fin 8) (d : Fin 64) : Fin 512 := ⟨64 * h.val + d.val, by omega⟩
/-- Row `i` of the query block `q`: the blocks are as long as the heads are wide. -/
abbrev qx (q : Fin 8) (i : Fin 64) : Fin 512 := hc q i

theorem hd_hc (h : Fin 8) (d : Fin 64) : hd (hc h d) = h := Fin.ext (by show (64 * h.val + d.val) / 64 = _; omega)
theorem lo_hc (h : Fin 8) (d : Fin 64) : lo (hc h d) = d := Fin.ext (by show (64 * h.val + d.val) % 64 = _; omega)
theorem hc_hd (c : Fin 512) : hc (hd c) (lo c) = c := Fin.ext (by show 64 * (c.val / 64) + c.val % 64 = _; omega)

/-- The row of a tile that a half's row is. -/
def tr (g : Fin 2) (i : Fin 64) : Fin 128 := ⟨64 * g.val + i.val, by omega⟩
theorem kx_tr (q : Fin 8) (i : Fin 64) : kx (q4 q) (tr (q2 q) i) = qx q i :=
  Fin.ext (by show 64 * (q.val % 4) + 256 * ((64 * (q.val / 4) + i.val) / 64) + (64 * (q.val / 4) + i.val) % 64 = 64 * q.val + i.val; omega)

/-! ### The steps at an index -/

theorem qV_at (x : Vec Ideal S1x512x768 .f32) (w : Vec Ideal S768x512 .f32) (i : Fin 512) (c : Fin 512) :
    qV x (wqV w) (ix2 i c) = ∑ k : Fin 768, x (ix3 0 i k) * w (ix2 k c) := by
  pointwise [qV, wqV, dot_S512x768_S768x512_S512x512_1_0_0_1_n_n]

theorem tQ_at (q : FVec Ideal S512x512 .bf16) (h : Fin 8) (r : Fin 4) (ρ : Fin 128) (d : Fin 64) :
    tQ q h r (ix2 ρ d) = q (ix2 (kx r ρ) (hc h d)) := by
  pointwise [tQ]
  split
  · exact congrArg (fun i : Fin 512 => q (ix2 i (hc h d))) (Fin.ext (by simp only [kx]; omega))
  · exact congrArg (fun i : Fin 512 => q (ix2 i (hc h d))) (Fin.ext (by simp only [kx]; omega))

theorem tK_at (k : FVec Ideal S512x8x64 .bf16) (h : Fin 8) (r : Fin 4) (ρ : Fin 128) (d : Fin 64) :
    tK k h r (ix2 ρ d) = k (ix3 (kx r ρ) h d) := by
  pointwise [tK]
  split
  · exact congrArg (fun i : Fin 512 => k (ix3 i h d)) (Fin.ext (by simp only [kx]; omega))
  · exact congrArg (fun i : Fin 512 => k (ix3 i h d)) (Fin.ext (by simp only [kx]; omega))

theorem kvV_at (k : Vec Ideal S1x512x8x64 .f32) (i : Fin 512) (h : Fin 8) (d : Fin 64) : kvV k (ix3 i h d) = k (ix4 0 i h d) := by
  pointwise [kvV]

/-- The factor of the scores: an eighth. -/
def eighth : EReal := Ideal.ofBits .f32 0x3E000000#32

theorem tS_at (q k : FVec Ideal S128x64 .bf16) (ρ t : Fin 128) : tS q k (ix2 ρ t) = (∑ x, q (ix2 ρ x) * k (ix2 t x)) * eighth := by
  pointwise [tS, dot_S128x64_S128x64_S128x128_1_1_0_0_n_n, eighth]

theorem ofBits_negInf : Ideal.ofBits .f32 0xFF800000#32 = (⊥ : EReal) := by simp [Ideal.ofBits, Ideal.ieee]

theorem tM_at (s : FVec Ideal S128x128 .f32) (ρ : Fin 128) : tM s (ix1 ρ) = Finset.univ.fold max ⊥ fun x : Fin 128 => s (ix2 ρ x) := by
  rw [← ofBits_negInf]
  pointwise [tM]

theorem tW_at (s : FVec Ideal S128x128 .f32) (ρ t : Fin 128) : tW s (ix2 ρ t) = Ideal.exp (s (ix2 ρ t) - tM s (ix1 ρ)) := by
  pointwise [tW]

theorem tL_at (s : FVec Ideal S128x128 .bf16) (ρ : Fin 128) : tL s (ix1 ρ) = ∑ x : Fin 128, s (ix2 ρ x) := by
  pointwise [tL]

theorem tA_at (w : FVec Ideal S128x128 .bf16) (v : FVec Ideal S128x64 .bf16) (ρ : Fin 128) (d : Fin 64) :
    tA w v (ix2 ρ d) = ∑ x : Fin 128, w (ix2 ρ x) * v (ix2 x d) := by
  pointwise [tA, dot_S128x128_S128x64_S128x64_1_0_0_1_n_n]

theorem stA_at (a : FVec Ideal S128x64 .bf16) (g : Fin 2) (r : Fin 64) (d : Fin 64) : stA a g (ix4 0 0 r d) = a (ix2 (tr g r) d) := by
  pointwise [stA, tr]

theorem stS_at0 (m l : FVec Ideal S128 .f32) (g : Fin 2) (d : Fin 64) : stS m l g (ix4 0 0 0 d) = m (ix1 (tr g d)) := by
  pointwise [stS, tr]

theorem stS_at1 (m l : FVec Ideal S128 .f32) (g : Fin 2) (d : Fin 64) : stS m l g (ix4 0 0 1 d) = l (ix1 (tr g d)) := by
  pointwise [stS, tr]

/-! ### The loads at an index -/

variable (s : Stg Ideal)

theorem ldX_at (b : Fin 2) (i : Fin 512) (k : Fin 768) : ldX s b (ix3 0 i k) = s.x (ix3 b i k) := by
  refine congrArg s.x (funext (forall3 ?_ ?_ ?_)) <;> refine Fin.ext ?_
  · exact (emb_of (xR b) _ 0 _ rfl rfl).trans rfl
  · exact (emb_of (xR b) _ 1 _ rfl rfl).trans (Nat.zero_add _)
  · exact (emb_of (xR b) _ 2 _ rfl rfl).trans (Nat.zero_add _)

theorem kv_emb (b : Fin 2) (i : Fin 512) (h : Fin 8) (d : Fin 64) : (kvR b).emb (ix4 (0 : Fin 1) i h d : S1x512x8x64.Idx) = ix4 b i h d := by
  refine funext (forall4 ?_ ?_ ?_ ?_) <;> refine Fin.ext ?_
  · exact (emb_of (kvR b) _ 0 _ rfl rfl).trans rfl
  · exact (emb_of (kvR b) _ 1 _ rfl rfl).trans (Nat.zero_add _)
  · exact (emb_of (kvR b) _ 2 _ rfl rfl).trans (Nat.zero_add _)
  · exact (emb_of (kvR b) _ 3 _ rfl rfl).trans (Nat.zero_add _)

theorem ldK_at (b : Fin 2) (i : Fin 512) (h : Fin 8) (d : Fin 64) : ldK s b (ix4 0 i h d) = s.k (ix4 b i h d) := congrArg s.k (kv_emb b i h d)
theorem ldV_at (b : Fin 2) (i : Fin 512) (h : Fin 8) (d : Fin 64) : ldV s b (ix4 0 i h d) = s.v (ix4 b i h d) := congrArg s.v (kv_emb b i h d)

theorem ldWq_at (k : Fin 768) (c : Fin 512) : ldWq s (ix2 k c) = s.wq (ix2 k c) := by
  refine congrArg s.wq (funext fun a => Fin.ext ?_)
  fin_cases a <;> exact (emb_of _ _ _ _ rfl rfl).trans (Nat.zero_add _)
theorem ldWo_at (k : Fin 512) (c : Fin 768) : ldWo s (ix2 k c) = s.wo (ix2 k c) := by
  refine congrArg s.wo (funext fun a => Fin.ext ?_)
  fin_cases a <;> exact (emb_of _ _ _ _ rfl rfl).trans (Nat.zero_add _)

/-! ### The partial results -/

/-- The score of row `i` of the sequence `b`, head `h`, with a key. -/
def scoreE (x : S2x512x768.Idx → EReal) (wq : S768x512.Idx → EReal) (b : Fin 2) (h : Fin 8) (i : Fin 512) (key : Fin 64 → EReal) : EReal :=
  (∑ d : Fin 64, (∑ k : Fin 768, x (ix3 b i k) * wq (ix2 k (hc h d))) * key d) * eighth

/-- The scores of one query row with the keys of its tile. -/
def scQ (b : Fin 2) (h : Fin 8) (q : Fin 8) (i : Fin 64) (t : Fin 128) : EReal :=
  scoreE s.x s.wq b h (qx q i) fun d => s.k (ix4 b (kx (q4 q) t) h d)

/-- The largest of them. -/
def mx (b : Fin 2) (h : Fin 8) (q : Fin 8) (i : Fin 64) : EReal := Finset.univ.fold max ⊥ (scQ s b h q i)

theorem sc_at (b : Fin 2) (h : Fin 8) (q : Fin 8) (i : Fin 64) (t : Fin 128) :
    sc s b h (q4 q) (ix2 (tr (q2 q) i) t) = scQ s b h q i t := by
  unfold sc scQ scoreE
  simp only [tS_at, tQ_at, tK_at, kvV_at, ldK_at, qV_at, ldX_at, ldWq_at, kx_tr]

theorem tM_sc (b : Fin 2) (h : Fin 8) (q : Fin 8) (i : Fin 64) : tM (sc s b h (q4 q)) (ix1 (tr (q2 q) i)) = mx s b h q i := by
  unfold mx
  simp only [tM_at, sc_at]

theorem gAt_acc (q : Fin 8) (b : Fin 2) (i : Fin 64) (h : Fin 8) (d : Fin 64) :
    gAt s q b ⟨i.val, by omega⟩ (hc h d)
      = ∑ t, Ideal.exp (scQ s b h q i t - mx s b h q i) * (s.v (ix4 b (kx (q4 q) t) h d) : EReal) := by
  unfold gAt
  rw [dif_pos i.isLt, hd_hc, lo_hc]
  unfold gA
  simp only [stA_at, tA_at, tW_at, sc_at, tM_sc, tK_at, kvV_at, ldV_at]

theorem gAt_max (q : Fin 8) (b : Fin 2) (h : Fin 8) (i : Fin 64) : gAt s q b 64 (hc h i) = mx s b h q i := by
  unfold gAt
  rw [dif_neg (by decide), hd_hc, lo_hc]
  unfold gS
  exact (stS_at0 _ _ _ _).trans (tM_sc s b h q i)

theorem gAt_sum (q : Fin 8) (b : Fin 2) (h : Fin 8) (i : Fin 64) :
    gAt s q b 65 (hc h i) = ∑ t, Ideal.exp (scQ s b h q i t - mx s b h q i) := by
  unfold gAt
  rw [dif_neg (by decide), hd_hc, lo_hc]
  unfold gS
  refine (stS_at1 _ _ _ _).trans ?_
  simp only [tL_at, tW_at, sc_at, tM_sc]

end

end Cert.Attn
-- ==== Proof.Merge.lean ====
/- What the kernel computes, element by element, over the extended reals: the merge of the eight devices' partial results
   keeps a softmax sum's state for every row and column, whichever device merges; the finished blocks are its quotients;
   the result is their product with the output weights. -/
module

public import proofs.«01_k».proof.Proof.Tile

@[expose] public section

namespace Cert.Attn

open Idealize.ShloMosaic Idealize.SL.Sem
open Cert.KernelIdeal Cert.KernelIdeal.Gen

noncomputable section

/-! ### The steps at an index -/

theorem accV_at (p : Vec Ideal S1x1x64x512 .bf16) (r : Fin 64) (d : Fin 512) : accV p (ix3 0 r d) = p (ix4 0 0 r d) := by
  pointwise [accV]

theorem rowV_at (p : Vec Ideal S1x1x1x512 .bf16) (d : Fin 512) : rowV p (ix1 d) = p (ix4 0 0 0 d) := by
  pointwise [rowV]

theorem spread_at (a : FVec Ideal S512 .f32) (h : Fin 8) (r d : Fin 64) : spread a h (ix2 r d) = a (ix1 (hc h r)) := by
  pointwise [spread, hc]

theorem mAcc_at (a e : FVec Ideal S512 .f32) (h : Fin 8) (r : Vec Ideal S1x64x64 .f32) (p : Vec Ideal S1x1x64x64 .bf16) (i d : Fin 64) :
    mAcc a e h r p (ix3 0 i d) = r (ix3 0 i d) * a (ix1 (hc h i)) + p (ix4 0 0 i d) * e (ix1 (hc h i)) := by
  rw [← spread_at a h i d, ← spread_at e h i d]
  pointwise [mAcc]

theorem inv_at (l : FVec Ideal S512 .f32) (p : Fin 512) : inv l (ix1 p) = Ideal.div 1 (l (ix1 p)) := by
  pointwise [inv]

theorem fin_at (i : FVec Ideal S512 .f32) (h : Fin 8) (r : Vec Ideal S1x64x64 .f32) (j d : Fin 64) :
    fin i h r (ix4 0 0 j d) = r (ix3 0 j d) * i (ix1 (hc h j)) := by
  rw [← spread_at i h j d]
  pointwise [fin]

theorem outV_at (wo : Vec Ideal S512x768 .f32) (p : Vec Ideal S1x1x64x512 .bf16) (i : Fin 64) (d : Fin 768) :
    outV (woV wo) p (ix3 0 i d) = ∑ x : Fin 512, p (ix4 0 0 i x) * wo (ix2 x d) := by
  pointwise [outV, woV, dot_S64x512_S512x768_S64x768_1_0_0_1_n_n]

/-! ### The loads at an index -/

/-- A partial result, as a number. -/
abbrev gE (s : Stg Ideal) (q : Fin 8) (b : Fin 2) (row : Fin 66) (p : Fin 512) : EReal := gAt s q b row p
/-- A weighted sum of a merge's state, as a number. -/
abbrev aE (s : MS Ideal) (b : Fin 2) (i : Fin 64) (p : Fin 512) : EReal := s.a (ix3 b i p : S2x64x512.Idx)

variable (E : Dev nD → Stg Ideal)

/-- A finished element, as a number. -/
abbrev agE (q : Fin 8) (b : Fin 2) (i : Fin 64) (p : Fin 512) : EReal := AGF E (ix4 q b i p : S8x2x64x512.Idx)
/-- A value, an output weight, and an element of the result, as numbers. -/
abbrev vE (e : Dev nD) (b : Fin 2) (j : Fin 512) (h : Fin 8) (d : Fin 64) : EReal := (E e).v (ix4 b j h d : S2x512x8x64.Idx)
abbrev woE (c : Dev nD) (p : Fin 512) (n : Fin 768) : EReal := (E c).wo (ix2 p n : S512x768.Idx)
abbrev outE (c : Dev nD) (b : Fin 2) (i : Fin 512) (n : Fin 768) : EReal := OUTF E c (ix3 b i n : S2x512x768.Idx)

/-- Rows of the partial results. -/
abbrev row66 (j : Fin 2) : Fin 66 := ⟨64 + j.val, by omega⟩
theorem row66_0 : row66 0 = 64 := by decide
theorem row66_1 : row66 1 = 65 := by decide
abbrev row64 (i : Fin 64) : Fin 66 := ⟨i.val, by omega⟩

theorem partR_at (c : Fin 8) (b j : Fin 2) (p : Fin 512) :
    rd cc0_scratch0 (partR c b j) (GF (E c)) (ix4 (0 : Fin 1) (0 : Fin 1) (0 : Fin 1) p : S1x1x1x512.Idx) = gE (E c) c b (row66 j) p := by
  refine congrArg (GF (E c)) (a₂ := ix4 c b (row66 j) p) (funext (forall4 ?_ ?_ ?_ ?_)) <;> refine Fin.ext ?_
  · exact (emb_of (partR c b j) _ 0 _ rfl rfl).trans rfl
  · exact (emb_of (partR c b j) _ 1 _ rfl rfl).trans rfl
  · exact (emb_of (partR c b j) _ 2 _ rfl rfl).trans rfl
  · exact (emb_of (partR c b j) _ 3 _ rfl rfl).trans (Nat.zero_add _)

theorem partA_at (c : Fin 8) (b : Fin 2) (i : Fin 64) (p : Fin 512) :
    rd cc0_scratch0 (partA c b) (GF (E c)) (ix4 (0 : Fin 1) (0 : Fin 1) i p : S1x1x64x512.Idx) = gE (E c) c b (row64 i) p := by
  refine congrArg (GF (E c)) (a₂ := ix4 c b (row64 i) p) (funext (forall4 ?_ ?_ ?_ ?_)) <;> refine Fin.ext ?_
  · exact (emb_of (partA c b) _ 0 _ rfl rfl).trans rfl
  · exact (emb_of (partA c b) _ 1 _ rfl rfl).trans rfl
  · exact (emb_of (partA c b) _ 2 _ rfl rfl).trans (Nat.zero_add _)
  · exact (emb_of (partA c b) _ 3 _ rfl rfl).trans (Nat.zero_add _)

theorem rrR_at (c : Fin 8) (k : Fin 7) (b j : Fin 2) (p : Fin 512) :
    rd cc0_scratch1 (rrR k b j) (RRF E c) (ix4 (0 : Fin 1) (0 : Fin 1) (0 : Fin 1) p : S1x1x1x512.Idx) = gE (E (up c k)) c b (row66 j) p := by
  refine congrArg (RRF E c) (a₂ := ix4 k b (row66 j) p) (funext (forall4 ?_ ?_ ?_ ?_)) <;> refine Fin.ext ?_
  · exact (emb_of (rrR k b j) _ 0 _ rfl rfl).trans rfl
  · exact (emb_of (rrR k b j) _ 1 _ rfl rfl).trans rfl
  · exact (emb_of (rrR k b j) _ 2 _ rfl rfl).trans rfl
  · exact (emb_of (rrR k b j) _ 3 _ rfl rfl).trans (Nat.zero_add _)

theorem rrH_at (c : Fin 8) (k : Fin 7) (b : Fin 2) (h : Fin 8) (i d : Fin 64) :
    rd cc0_scratch1 (rrH k b h) (RRF E c) (ix4 (0 : Fin 1) (0 : Fin 1) i d : S1x1x64x64.Idx) = gE (E (up c k)) c b (row64 i) (hc h d) := by
  refine congrArg (RRF E c) (a₂ := ix4 k b (row64 i) (hc h d)) (funext (forall4 ?_ ?_ ?_ ?_)) <;> refine Fin.ext ?_
  · exact (emb_of (rrH k b h) _ 0 _ rfl rfl).trans rfl
  · exact (emb_of (rrH k b h) _ 1 _ rfl rfl).trans rfl
  · exact (emb_of (rrH k b h) _ 2 _ rfl rfl).trans (Nat.zero_add _)
  · exact (emb_of (rrH k b h) _ 3 _ rfl rfl).trans rfl

theorem accH_at (b : Fin 2) (h : Fin 8) (f : S2x64x512.Idx → EReal) (i d : Fin 64) :
    rd (F := Ideal) cc0_scratch3 (accH b h) f (ix3 (0 : Fin 1) i d : S1x64x64.Idx) = f (ix3 b i (hc h d)) := by
  refine congrArg f (funext (forall3 ?_ ?_ ?_)) <;> refine Fin.ext ?_
  · exact (emb_of (accH b h) _ 0 _ rfl rfl).trans rfl
  · exact (emb_of (accH b h) _ 1 _ rfl rfl).trans (Nat.zero_add _)
  · exact (emb_of (accH b h) _ 2 _ rfl rfl).trans rfl

theorem rowK_at (c : Fin 8) (b : Fin 2) (k : Fin 7) (j : Fin 2) (p : Fin 512) :
    rowK E c b k j (ix1 p) = gE (E (up c k)) c b (row66 j) p := (rowV_at _ p).trans (rrR_at E c k b j p)
theorem rowK_max (c : Fin 8) (b : Fin 2) (k : Fin 7) (p : Fin 512) : rowK E c b k 0 (ix1 p) = gE (E (up c k)) c b 64 p :=
  (rowK_at E c b k 0 p).trans (by rw [row66_0])
theorem rowK_sum (c : Fin 8) (b : Fin 2) (k : Fin 7) (p : Fin 512) : rowK E c b k 1 (ix1 p) = gE (E (up c k)) c b 65 p :=
  (rowK_at E c b k 1 p).trans (by rw [row66_1])

/-! ### The state of the merge -/

/-- The state of a merge at row `i`, head `h`, column `d` is that of the softmax sum over the devices `D`. -/
def SoftAt (f : Dev nD → Fin 128 → ℝ) (v : Dev nD → Fin 128 → EReal) (b : Fin 2) (h : Fin 8) (i d : Fin 64) (D : List (Dev nD)) (s : MS Ideal) : Prop :=
  Soft D f v (s.m (ix1 (hc h i))) (s.l (ix1 (hc h i))) (aE s b i (hc h d))

section state

variable (c : Dev nD) (b : Fin 2) (h : Fin 8) (i d : Fin 64) (f : Dev nD → Fin 128 → ℝ)
  (hf : ∀ e t, scQ (E e) b h c i t = (f e t : EReal))

/-- The values of the tile's keys. -/
abbrev valT (e : Dev nD) (t : Fin 128) : EReal := vE E e b (kx (q4 c) t) h d

include hf

theorem mx_real (e : Dev nD) : IsR (mx (E e) b h c i) :=
  isR_fold _ _ (fun t => by rw [hf]; exact EReal.coe_ne_top _) (0 : Fin 128) (Finset.mem_univ _) ⟨_, hf e 0⟩

/-- One device's part. -/
theorem soft_dev (e : Dev nD) : Soft [e] f (valT E c b h d) (gE (E e) c b 64 (hc h i)) (gE (E e) c b 65 (hc h i)) (gE (E e) c b (row64 i) (hc h d)) := by
  have hm : gE (E e) c b 64 (hc h i) = mx (E e) b h c i := gAt_max _ _ _ _ _
  have hl : gE (E e) c b 65 (hc h i) = _ := gAt_sum _ _ _ _ _
  have ha : gE (E e) c b (row64 i) (hc h d) = _ := gAt_acc _ _ _ _ _ _
  rw [hm, hl, ha]
  exact soft_one e (fun t => hf e t) (mx_real E c b h i f hf e)

theorem soft0 : SoftAt f (valT E c b h d) b h i d [c] (ms0 E c b) := by
  have hm : (ms0 E c b).m (ix1 (hc h i)) = gE (E c) c b 64 (hc h i) := by
    show rowV _ _ = _
    rw [rowV_at, partR_at, row66_0]
  have hl : (ms0 E c b).l (ix1 (hc h i)) = gE (E c) c b 65 (hc h i) := by
    show rowV _ _ = _
    rw [rowV_at, partR_at, row66_1]
  have ha : aE (ms0 E c b) b i (hc h d) = gE (E c) c b (row64 i) (hc h d) := by
    show accV (rd cc0_scratch0 (partA c b) (GF (E c))) (ix3 (0 : Fin 1) i (hc h d)) = _
    rw [accV_at, partA_at]
  unfold SoftAt
  rw [hm, hl, ha]
  exact soft_dev E c b h i d f hf c

theorem soft_step (D : List (Dev nD)) (s : MS Ideal) (k : Fin 7) (hs : SoftAt f (valT E c b h d) b h i d D s) :
    SoftAt f (valT E c b h d) b h i d (D ++ [up c k]) (msStep E c b s k) := by
  have hM : msM E c b s k (ix1 (hc h i)) = max (s.m (ix1 (hc h i))) (gE (E (up c k)) c b 64 (hc h i)) := by
    rw [← rowK_max E c b k]; rfl
  have hA : aE (msStep E c b s k) b i (hc h d)
      = aE s b i (hc h d) * Ideal.exp (s.m (ix1 (hc h i)) - msM E c b s k (ix1 (hc h i)))
        + gE (E (up c k)) c b (row64 i) (hc h d) * Ideal.exp (gE (E (up c k)) c b 64 (hc h i) - msM E c b s k (ix1 (hc h i))) := by
    show msH E c b s k (hd (hc h d)) (ix3 (0 : Fin 1) i (lo (hc h d))) = _
    rw [hd_hc, lo_hc]
    refine (mAcc_at _ _ _ _ _ _ _).trans ?_
    rw [accH_at, rrH_at, ← rowK_max E c b k]; rfl
  have hL : (msStep E c b s k).l (ix1 (hc h i))
      = Ideal.exp (s.m (ix1 (hc h i)) - msM E c b s k (ix1 (hc h i))) * s.l (ix1 (hc h i))
        + Ideal.exp (gE (E (up c k)) c b 64 (hc h i) - msM E c b s k (ix1 (hc h i))) * gE (E (up c k)) c b 65 (hc h i) := by
    rw [← rowK_max E c b k, ← rowK_sum E c b k]; rfl
  have hm : (msStep E c b s k).m (ix1 (hc h i)) = msM E c b s k (ix1 (hc h i)) := rfl
  unfold SoftAt
  rw [hA, hL, hm, hM]
  exact Soft.merge hs (soft_dev E c b h i d f hf (up c k))

theorem soft_foldl (l : List (Fin 7)) : ∀ (D : List (Dev nD)) (s : MS Ideal), SoftAt f (valT E c b h d) b h i d D s →
    SoftAt f (valT E c b h d) b h i d (D ++ l.map (up c)) (l.foldl (msStep E c b) s) := by
  induction l with
  | nil => intro D s hs; simpa using hs
  | cons k l ih =>
    intro D s hs
    have := ih _ _ (soft_step E c b h i d f hf D s k hs)
    rwa [List.append_assoc] at this

end state

/-- Every device merges all eight parts. -/
theorem all_devs : ∀ c : Dev nD, ([c] ++ slots.map (up c)).Perm (List.finRange 8) := by decide

/-- A finished element: the quotient of the softmax sums over all devices, any real `M` subtracted from the scores. -/
theorem AGF_at (c : Dev nD) (b : Fin 2) (h : Fin 8) (i d : Fin 64) (f : Dev nD → Fin 128 → ℝ)
    (hf : ∀ e t, scQ (E e) b h c i t = (f e t : EReal)) (M : ℝ) :
    agE E c b i (hc h d)
      = ∑ e : Fin 8, ∑ t : Fin 128, vE E e b (kx (q4 c) t) h d
        * Ideal.div (Real.exp (f e t - M) : EReal) ((∑ e : Fin 8, ∑ t : Fin 128, Real.exp (f e t - M) : ℝ) : EReal) := by
  have hs : SoftAt f (valT E c b h d) b h i d ([c] ++ slots.map (up c)) (ms E c b slots) :=
    soft_foldl E c b h i d f hf slots _ _ (soft0 E c b h i d f hf)
  have := Soft.out (n := 8) (all_devs c) hs M
  rw [← this]
  show agB E c b (hd (hc h d)) (ix4 (0 : Fin 1) (0 : Fin 1) i (lo (hc h d))) = _
  rw [hd_hc, lo_hc]
  refine (fin_at _ _ _ _ _).trans ?_
  rw [accH_at, inv_at]

/-- The result on a device: the finished elements against its output weights. -/
theorem OUTF_at (c : Dev nD) (b : Fin 2) (q : Fin 8) (i : Fin 64) (n : Fin 768) :
    outE E c b (qx q i) n
      = ∑ x : Fin 512, agE E q b i x * woE E c x n := by
  show outB E c b (hd (qx q i)) (ix3 (0 : Fin 1) (lo (qx q i)) n) = _
  rw [hd_hc, lo_hc]
  refine (outV_at _ _ _ _).trans (Finset.sum_congr rfl fun x _ => ?_)
  rw [ldWo_at]
  refine congrArg (fun z : EReal => z * _) (congrArg (AGF E) (funext (forall4 ?_ ?_ ?_ ?_))) <;> refine Fin.ext ?_
  · exact (emb_of (agW q b) _ 0 _ rfl rfl).trans rfl
  · exact (emb_of (agW q b) _ 1 _ rfl rfl).trans rfl
  · exact (emb_of (agW q b) _ 2 _ rfl rfl).trans (Nat.zero_add _)
  · exact (emb_of (agW q b) _ 3 _ rfl rfl).trans (Nat.zero_add _)

end

end Cert.Attn
-- ==== Proof.Ref.lean ====
/- What the reference computes, element by element, over the extended reals. Its composed term is folded into the steps of
   its mathematics: the mask of the pairs of blocks, the scores, the masked scores, the softmax weights, the weighted
   values, the output. Each step is then read at an index. -/
module

public import proofs.«01_k».proof.Proof.Gen.ReferenceIdeal.Run
public import proofs.«01_k».proof.Proof.Tile

@[expose] public section

namespace Cert.Attn.Ref

open Cert.ReferenceIdeal Cert.ReferenceIdeal.Gen Idealize.ShloMosaic Idealize.ShloMosaic.TcCoe Idealize.SL.Sem

noncomputable section

/-! ### The mask -/

/-- Division by 64, rounded down. -/
def fdivV (s : Shape) (h : S_.BroadcastsInDim s ![]) (x : IVec s 32) : IVec s 32 :=
  select (andi (cmpi .ne (signi x) (broadcastInDim s ![] h (signi (id (constantI S_ 32 64#32)))))
      (cmpi .ne (Host.remsi x (broadcastInDim s ![] h (id (constantI S_ 32 64#32)))) (broadcastInDim s ![] h (constantI S_ 32 0#32))))
    (subi (Host.divsi x (broadcastInDim s ![] h (id (constantI S_ 32 64#32)))) (broadcastInDim s ![] h (constantI S_ 32 1#32)))
    (Host.divsi x (broadcastInDim s ![] h (id (constantI S_ 32 64#32))))

/-- The divisor 4, guarded against 0. -/
def four : IVec S_ 32 := select (cmpi .eq (id (constantI S_ 32 4#32)) (constantI S_ 32 0#32)) (constantI S_ 32 1#32) (id (constantI S_ 32 4#32))

/-- The remainder by 4, of the divisor's sign. -/
def remV (s : Shape) (h : S_.BroadcastsInDim s ![]) (x : IVec s 32) : IVec s 32 :=
  select (andi (cmpi .ne (cmpi .slt (Host.remsi x (broadcastInDim s ![] h four)) (broadcastInDim s ![] h (constantI S_ 32 0#32)))
        (broadcastInDim s ![] h (cmpi .slt four (constantI S_ 32 0#32))))
      (cmpi .ne (Host.remsi x (broadcastInDim s ![] h four)) (broadcastInDim s ![] h (constantI S_ 32 0#32))))
    (addi (Host.remsi x (broadcastInDim s ![] h four)) (broadcastInDim s ![] h four)) (Host.remsi x (broadcastInDim s ![] h four))

/-- The query blocks, as a column; the key blocks, as a row. -/
def qbV : IVec S512x1 32 := broadcastInDim S512x1 ![0] bcast_S512_S512x1_0 (fdivV S512 bcast_S_S512 (iotaInDim S512 32 0))
def kbV : IVec S1x4096 32 := broadcastInDim S1x4096 ![1] bcast_S4096_S1x4096_1 (fdivV S4096 bcast_S_S4096 (iotaInDim S4096 32 0))

/-- Which key a query sees. -/
def maskV : IVec S512x4096 1 :=
  ori (cmpi .eq (broadcastInDim S512x4096 ![0, 1] bcast_S512x1_S512x4096_0_1 qbV) (broadcastInDim S512x4096 ![0, 1] bcast_S1x4096_S512x4096_0_1 kbV))
    (cmpi .eq (broadcastInDim S512x4096 ![0, 1] bcast_S1x4096_S512x4096_0_1 (remV S1x4096 bcast_S_S1x4096 kbV))
      (broadcastInDim S512x4096 ![0, 1] bcast_S512x1_S512x4096_0_1 (remV S512x1 bcast_S_S512x1 qbV)))

/-- Whether a query sees any key. -/
def keepV : IVec S512 1 := Host.reduce IntOp.ori maskV (constantI S_ 1 0#1) reducesTo_S512x4096_S512_d1 h_S_
def keepC : IVec S1x1x512x1 1 := broadcastInDim S1x1x512x1 ![2] bcast_S512_S1x1x512x1_2 keepV

/-! ### The steps -/

/-- The queries. -/
def qR (x : FVec Ideal S2x512x768 .f32) (wq : FVec Ideal S768x512 .f32) : FVec Ideal S2x512x8x64 .f32 :=
  shapeCast S2x512x8x64 (Host.dotGeneral dot_S2x512x768_S768x512_S2x512x512_2_0_01_1_n_n none x wq) shapeCasts_S2x512x512_S2x512x8x64

/-- The scaled scores. -/
def sR (q : FVec Ideal S2x512x8x64 .f32) (k : FVec Ideal S2x4096x8x64 .f32) : FVec Ideal S2x8x512x4096 .f32 :=
  mulf (Host.dotGeneral dot_S2x512x8x64_S2x4096x8x64_S2x8x512x4096_3_3_1_1_02_02 none q k) (broadcastInDim S2x8x512x4096 ![] bcast_S_S2x8x512x4096 (constant S_ .f32 0x3E000000#32))

/-- The masked scores. -/
def kR (s : FVec Ideal S2x8x512x4096 .f32) : FVec Ideal S2x8x512x4096 .f32 :=
  select (broadcastInDim S2x8x512x4096 ![0, 1, 2, 3] bcast_S1x1x512x4096_S2x8x512x4096_0_1_2_3 (broadcastInDim S1x1x512x4096 ![2, 3] bcast_S512x4096_S1x1x512x4096_2_3 maskV))
    s (broadcastInDim S2x8x512x4096 ![] bcast_S_S2x8x512x4096 (id (constant S_ .f32 0xFF800000#32)))

/-- Each query's largest score. -/
def mR (s : FVec Ideal S2x8x512x4096 .f32) : FVec Ideal S2x8x512 .f32 :=
  Host.reduce FloatOps.maximumf s (constant S_ .f32 0xFF800000#32) reducesTo_S2x8x512x4096_S2x8x512_d3 h_S_

/-- The exponentials. -/
def wR (s : FVec Ideal S2x8x512x4096 .f32) : FVec Ideal S2x8x512x4096 .f32 :=
  Host.exp (subf s (broadcastInDim S2x8x512x4096 ![0, 1, 2, 3] bcast_S2x8x512x1_S2x8x512x4096_0_1_2_3 (broadcastInDim S2x8x512x1 ![0, 1, 2] bcast_S2x8x512_S2x8x512x1_0_1_2 (mR s))))

/-- Their sums; one where a query sees no key. -/
def lR (w : FVec Ideal S2x8x512x4096 .f32) : FVec Ideal S2x8x512x1 .f32 :=
  select (broadcastInDim S2x8x512x1 ![0, 1, 2, 3] bcast_S1x1x512x1_S2x8x512x1_0_1_2_3 keepC)
    (broadcastInDim S2x8x512x1 ![0, 1, 2] bcast_S2x8x512_S2x8x512x1_0_1_2 (Host.reduceAdd w (constant S_ .f32 0x00000000#32) reducesTo_S2x8x512x4096_S2x8x512_d3 h_S_))
    (broadcastInDim S2x8x512x1 ![] bcast_S_S2x8x512x1 (id (constant S_ .f32 0x3F800000#32)))

/-- The softmax weights; zero where a query sees no key. -/
def pR (w : FVec Ideal S2x8x512x4096 .f32) (l : FVec Ideal S2x8x512x1 .f32) : FVec Ideal S2x8x512x4096 .f32 :=
  select (broadcastInDim S2x8x512x4096 ![0, 1, 2, 3] bcast_S1x1x512x1_S2x8x512x4096_0_1_2_3 keepC)
    (Host.divf w (broadcastInDim S2x8x512x4096 ![0, 1, 2, 3] bcast_S2x8x512x1_S2x8x512x4096_0_1_2_3 l))
    (broadcastInDim S2x8x512x4096 ![] bcast_S_S2x8x512x4096 (id (constant S_ .f32 0x00000000#32)))

/-- The softmax of the masked scores. -/
def smR (s : FVec Ideal S2x8x512x4096 .f32) : FVec Ideal S2x8x512x4096 .f32 := pR (wR (kR s)) (lR (wR (kR s)))

/-- The weighted values, a query's heads side by side. -/
def cR (v : FVec Ideal S2x4096x8x64 .f32) (p : FVec Ideal S2x8x512x4096 .f32) : FVec Ideal S2x512x512 .f32 :=
  shapeCast S2x512x512 (transpose S2x512x8x64 [0, 3, 1, 2] (Host.dotGeneral dot_S2x4096x8x64_S2x8x512x4096_S2x8x64x512_1_3_3_2_02_01 none v p : FVec Ideal S2x8x64x512 .f32)
    transposes_S2x8x64x512_S2x512x8x64_0_3_1_2) shapeCasts_S2x512x8x64_S2x512x512

/-- The result. -/
def oR (c : FVec Ideal S2x512x512 .f32) (wo : FVec Ideal S512x768 .f32) : FVec Ideal S2x512x768 .f32 :=
  Host.dotGeneral dot_S2x512x512_S512x768_S2x512x768_2_0_01_1_n_n none c wo

set_option maxRecDepth 8192 in
/-- The reference's term is these steps. -/
theorem res_eq (m : (ℓ : Loc nD τ sig) → Buf (Elt Ideal) ℓ) (c : Dev nD) :
    Value.res_out0 m c = oR (cR (m ((c.tc : Thread nD τ).loc main_arg3))
      (smR (sR (qR (m ((c.tc : Thread nD τ).loc main_arg0)) (m ((c.tc : Thread nD τ).loc main_arg1))) (m ((c.tc : Thread nD τ).loc main_arg2)))))
      (m ((c.tc : Thread nD τ).loc main_arg4)) := by
  unfold Value.res_out0 Value.res_main_v39
  rfl

/-! ### The mask at an index -/

/-- A word's sign. -/
def sgnW (x : BitVec 32) : BitVec 32 := if x = 0 then 0 else if x.msb then -1 else 1
/-- Division by 64 and remainder by 4, of one word. -/
def fdivW (x : BitVec 32) : BitVec 32 :=
  Scalar.select (IntOp.andi (IntOp.cmpi .ne (sgnW x) (sgnW 64#32)) (IntOp.cmpi .ne (IntOp.remsi .host x 64#32) 0#32))
    (IntOp.subi (IntOp.divsi .host x 64#32) 1#32) (IntOp.divsi .host x 64#32)
def remW (x : BitVec 32) : BitVec 32 :=
  Scalar.select (IntOp.andi (IntOp.cmpi .ne (IntOp.cmpi .slt (IntOp.remsi .host x 4#32) 0#32) 0#1) (IntOp.cmpi .ne (IntOp.remsi .host x 4#32) 0#32))
    (IntOp.addi (IntOp.remsi .host x 4#32) 4#32) (IntOp.remsi .host x 4#32)

theorem fdivV_at (s : Shape) (h : S_.BroadcastsInDim s ![]) (x : IVec s 32) (i : s.Idx) : fdivV s h x i = fdivW (x i) := rfl
theorem remV_at (s : Shape) (h : S_.BroadcastsInDim s ![]) (x : IVec s 32) (i : s.Idx) : remV s h x i = remW (x i) := rfl

theorem fdivW_nat : ∀ n : Fin 4096, fdivW (BitVec.ofNat 32 n.val) = BitVec.ofNat 32 (n.val / 64) := by decide +kernel
/-- Which key block a query block sees, in words. -/
theorem maskW : ∀ (p : Fin 8) (q : Fin 64),
    IntOp.ori (IntOp.cmpi .eq (BitVec.ofNat 32 p.val) (BitVec.ofNat 32 q.val)) (IntOp.cmpi .eq (remW (BitVec.ofNat 32 q.val)) (remW (BitVec.ofNat 32 p.val)))
      = if q.val % 4 = p.val % 4 then 1#1 else 0#1 := by decide +kernel

theorem qbV_at (i : Fin 512) : qbV (ix2 i 0) = BitVec.ofNat 32 (i.val / 64) := by
  refine Eq.trans ?_ (fdivW_nat ⟨i.val, by omega⟩)
  pointwise [qbV, fdivV_at, iotaInDim]
theorem kbV_at (J : Fin 4096) : kbV (ix2 0 J) = BitVec.ofNat 32 (J.val / 64) := by
  refine Eq.trans ?_ (fdivW_nat J)
  pointwise [kbV, fdivV_at, iotaInDim]

theorem maskV_at (i : Fin 512) (J : Fin 4096) : maskV (ix2 i J) = if J.val / 64 % 4 = i.val / 64 % 4 then 1#1 else 0#1 := by
  refine Eq.trans ?_ (maskW ⟨i.val / 64, by omega⟩ ⟨J.val / 64, by omega⟩)
  show _ = IntOp.ori (IntOp.cmpi .eq (BitVec.ofNat 32 (i.val / 64)) (BitVec.ofNat 32 (J.val / 64))) (IntOp.cmpi .eq (remW (BitVec.ofNat 32 (J.val / 64))) (remW (BitVec.ofNat 32 (i.val / 64))))
  rw [← qbV_at, ← kbV_at]
  pointwise [maskV, remV_at]

theorem maskV_iff (i : Fin 512) (J : Fin 4096) : maskV (ix2 i J) = 1#1 ↔ J.val / 64 % 4 = i.val / 64 % 4 := by
  rw [maskV_at]
  split <;> simp_all

theorem ori_one : ∀ a b : BitVec 1, a = 1#1 ∨ b = 1#1 → IntOp.ori a b = 1#1 := by decide

theorem fold_ori {ι : Type} [DecidableEq ι] (f : ι → BitVec 1) (i₀ : ι) (h₀ : f i₀ = 1#1) (S : Finset ι) (hS : i₀ ∈ S) :
    S.fold IntOp.ori 0#1 f = 1#1 := by
  rw [← Finset.insert_erase hS, Finset.fold_insert (Finset.notMem_erase _ _)]
  exact ori_one _ _ (Or.inl h₀)

/-- Every query sees a key: the one at its own position. -/
theorem keepV_at (i : Fin 512) : keepV (ix1 i) = 1#1 := by
  pointwise [keepV]
  refine fold_ori (fun J : Fin 4096 => maskV (ix2 i J)) (⟨i.val, by omega⟩ : Fin 4096) ?_ _ (Finset.mem_univ _)
  exact (maskV_iff i _).2 rfl

/-! ### The steps at an index -/

theorem qR_at (x : FVec Ideal S2x512x768 .f32) (wq : FVec Ideal S768x512 .f32) (b : Fin 2) (i : Fin 512) (h : Fin 8) (d : Fin 64) :
    qR x wq (ix4 b i h d) = ∑ k : Fin 768, x (ix3 b i k) * wq (ix2 k (hc h d)) := by
  have e : hc h d = ⟨h.val * 64 + d.val, by omega⟩ := Fin.ext (by simp only [hc]; omega)
  rw [e]
  pointwise [qR, dot_S2x512x768_S768x512_S2x512x512_2_0_01_1_n_n]

theorem sR_at (q : FVec Ideal S2x512x8x64 .f32) (k : FVec Ideal S2x4096x8x64 .f32) (b : Fin 2) (h : Fin 8) (i : Fin 512) (J : Fin 4096) :
    sR q k (ix4 b h i J) = (∑ d : Fin 64, q (ix4 b i h d) * k (ix4 b J h d)) * eighth := by
  pointwise [sR, eighth, dot_S2x512x8x64_S2x4096x8x64_S2x8x512x4096_3_3_1_1_02_02]

theorem kR_at (s : FVec Ideal S2x8x512x4096 .f32) (b : Fin 2) (h : Fin 8) (i : Fin 512) (J : Fin 4096) :
    kR s (ix4 b h i J) = if J.val / 64 % 4 = i.val / 64 % 4 then s (ix4 b h i J) else ⊥ := by
  have : kR s (ix4 b h i J) = Scalar.select (maskV (ix2 i J)) (s (ix4 b h i J)) (Ideal.ofBits .f32 0xFF800000#32) := by
    pointwise [kR, id]
  rw [this, ofBits_negInf, maskV_at]
  split <;> rfl

theorem mR_at (s : FVec Ideal S2x8x512x4096 .f32) (b : Fin 2) (h : Fin 8) (i : Fin 512) :
    mR s (ix3 b h i) = Finset.univ.fold max ⊥ fun J : Fin 4096 => s (ix4 b h i J) := by
  rw [← ofBits_negInf]
  pointwise [mR]

theorem wR_at (s : FVec Ideal S2x8x512x4096 .f32) (b : Fin 2) (h : Fin 8) (i : Fin 512) (J : Fin 4096) :
    wR s (ix4 b h i J) = Ideal.exp (s (ix4 b h i J) - mR s (ix3 b h i)) := by
  pointwise [wR]

theorem select_one {α : Type} (a b : α) : Scalar.select 1#1 a b = a := rfl

theorem lR_at (w : FVec Ideal S2x8x512x4096 .f32) (b : Fin 2) (h : Fin 8) (i : Fin 512) :
    lR w (ix4 b h i 0) = ∑ J : Fin 4096, w (ix4 b h i J) := by
  have : lR w (ix4 b h i 0) = Scalar.select (keepV (ix1 i)) (∑ J : Fin 4096, w (ix4 b h i J)) (1 : EReal) := by
    pointwise [lR, keepC, id]
  rw [this, keepV_at, select_one]

theorem pR_at (w : FVec Ideal S2x8x512x4096 .f32) (l : FVec Ideal S2x8x512x1 .f32) (b : Fin 2) (h : Fin 8) (i : Fin 512) (J : Fin 4096) :
    pR w l (ix4 b h i J) = Ideal.div (w (ix4 b h i J)) (l (ix4 b h i 0)) := by
  have : pR w l (ix4 b h i J) = Scalar.select (keepV (ix1 i)) (Ideal.div (w (ix4 b h i J)) (l (ix4 b h i 0))) (0 : EReal) := by
    pointwise [pR, keepC, id]
  rw [this, keepV_at, select_one]

theorem smR_at (s : FVec Ideal S2x8x512x4096 .f32) (b : Fin 2) (h : Fin 8) (i : Fin 512) (J : Fin 4096) :
    smR s (ix4 b h i J) = Ideal.div (wR (kR s) (ix4 b h i J)) (∑ J : Fin 4096, wR (kR s) (ix4 b h i J)) := by
  unfold smR
  rw [pR_at, lR_at]

theorem cR_at (v : FVec Ideal S2x4096x8x64 .f32) (p : FVec Ideal S2x8x512x4096 .f32) (b : Fin 2) (i : Fin 512) (h : Fin 8) (d : Fin 64) :
    cR v p (ix3 b i (hc h d)) = ∑ J : Fin 4096, v (ix4 b J h d) * p (ix4 b h i J) := by
  pointwise [cR, hc, dot_S2x4096x8x64_S2x8x512x4096_S2x8x64x512_1_3_3_2_02_01]

theorem oR_at (c : FVec Ideal S2x512x512 .f32) (wo : FVec Ideal S512x768 .f32) (b : Fin 2) (i : Fin 512) (n : Fin 768) :
    oR c wo (ix3 b i n) = ∑ x : Fin 512, c (ix3 b i x) * wo (ix2 x n) := by
  pointwise [oR, dot_S2x512x512_S512x768_S2x512x768_2_0_01_1_n_n]

/-! ### The softmax over the keys a query sees -/

/-- Key `j` of device `e`'s share. -/
def gx (e : Fin 8) (j : Fin 512) : Fin 4096 := ⟨512 * e.val + j.val, by omega⟩

/-- A sum over all keys that vanishes on those of other blocks than a tile's goes over every device's part of the tile. -/
theorem sum_seen (g : Fin 4096 → EReal) (r : Fin 4) (h0 : ∀ J : Fin 4096, J.val / 64 % 4 ≠ r.val → g J = 0) :
    ∑ J, g J = ∑ e : Fin 8, ∑ t : Fin 128, g (gx e (kx r t)) := by
  have h1 : ∑ J, g J = ∑ e : Fin 8, ∑ j : Fin 512, g (gx e j) := by
    rw [← Fintype.sum_prod_type' (f := fun e j => g (gx e j))]
    refine (Fintype.sum_bijective (fun p : Fin 8 × Fin 512 => gx p.1 p.2) ⟨?_, ?_⟩ _ _ fun _ => rfl).symm
    · rintro ⟨e, j⟩ ⟨e', j'⟩ h
      have : 512 * e.val + j.val = 512 * e'.val + j'.val := congrArg Fin.val h
      exact Prod.ext (Fin.ext (by show e.val = e'.val; omega)) (Fin.ext (by show j.val = j'.val; omega))
    · intro J
      exact ⟨(⟨J.val / 512, by omega⟩, ⟨J.val % 512, by omega⟩), Fin.ext (by show 512 * (J.val / 512) + J.val % 512 = _; omega)⟩
  rw [h1]
  refine Finset.sum_congr rfl fun e _ => ?_
  refine (Fintype.sum_of_injective (kx r) ?_ _ _ ?_ fun _ => rfl).symm
  · intro t t' h
    have : 64 * r.val + 256 * (t.val / 64) + t.val % 64 = 64 * r.val + 256 * (t'.val / 64) + t'.val % 64 := congrArg Fin.val h
    exact Fin.ext (by omega)
  · intro j hj
    refine h0 _ fun hr => hj ⟨⟨64 * (j.val / 256) + j.val % 64, by omega⟩, Fin.ext ?_⟩
    have hr' : (512 * e.val + j.val) / 64 % 4 = r.val := hr
    show 64 * r.val + 256 * ((64 * (j.val / 256) + j.val % 64) / 64) + (64 * (j.val / 256) + j.val % 64) % 64 = j.val
    omega

/-- The block of a tile's key. -/
theorem gx_kx (e : Fin 8) (r : Fin 4) (t : Fin 128) : (gx e (kx r t)).val / 64 % 4 = r.val := by
  show (512 * e.val + (64 * r.val + 256 * (t.val / 64) + t.val % 64)) / 64 % 4 = r.val
  omega

/-- The weighted values of a query of block `q`: each device's part of the tile, weighted by the quotients of the
    exponentials, some real number subtracted from every score. -/
theorem ctx_at (s : FVec Ideal S2x8x512x4096 .f32) (v : FVec Ideal S2x4096x8x64 .f32) (b : Fin 2) (h : Fin 8) (q : Fin 8) (i d : Fin 64)
    (f : Fin 8 → Fin 128 → ℝ) (hf : ∀ e t, s (ix4 b h (qx q i) (gx e (kx (q4 q) t))) = (f e t : EReal)) :
    ∃ M : ℝ, cR v (smR s) (ix3 b (qx q i) (hc h d))
      = ∑ e : Fin 8, ∑ t : Fin 128, v (ix4 b (gx e (kx (q4 q) t)) h d)
        * Ideal.div (Real.exp (f e t - M) : EReal) ((∑ e : Fin 8, ∑ t : Fin 128, Real.exp (f e t - M) : ℝ) : EReal) := by
  have hq : (qx q i).val / 64 % 4 = (q4 q).val := by show (64 * q.val + i.val) / 64 % 4 = q.val % 4; omega
  have hk : ∀ e t, kR s (ix4 b h (qx q i) (gx e (kx (q4 q) t))) = (f e t : EReal) := fun e t => by
    rw [kR_at, if_pos ((gx_kx e _ t).trans hq.symm), hf]
  have hk' : ∀ J : Fin 4096, J.val / 64 % 4 ≠ (q4 q).val → kR s (ix4 b h (qx q i) J) = ⊥ := fun J hJ => by
    rw [kR_at, if_neg (fun e => hJ (e.trans hq))]
  have hM : IsR (mR (kR s) (ix3 b h (qx q i))) := by
    rw [mR_at]
    refine isR_fold _ _ (fun J => ?_) (gx 0 (kx (q4 q) 0)) (Finset.mem_univ _) ⟨_, hk 0 0⟩
    by_cases hJ : J.val / 64 % 4 = (q4 q).val
    · obtain ⟨e, t, rfl⟩ : ∃ e t, gx e (kx (q4 q) t) = J := by
        refine ⟨⟨J.val / 512, by omega⟩, ⟨64 * (J.val % 512 / 256) + J.val % 64, by omega⟩, Fin.ext ?_⟩
        show 512 * (J.val / 512) + (64 * (q4 q).val + 256 * ((64 * (J.val % 512 / 256) + J.val % 64) / 64) + (64 * (J.val % 512 / 256) + J.val % 64) % 64) = J.val
        omega
      rw [hk]; exact EReal.coe_ne_top _
    · rw [hk' J hJ]; exact bot_ne_top
  obtain ⟨M, hM⟩ := hM
  have hw : ∀ e t, wR (kR s) (ix4 b h (qx q i) (gx e (kx (q4 q) t))) = (Real.exp (f e t - M) : EReal) := fun e t => by
    rw [wR_at, hk, hM, ← EReal.coe_sub]; rfl
  have hw' : ∀ J : Fin 4096, J.val / 64 % 4 ≠ (q4 q).val → wR (kR s) (ix4 b h (qx q i) J) = 0 := fun J hJ => by
    rw [wR_at, hk' J hJ, EReal.bot_sub]; rfl
  have hl : ∑ J : Fin 4096, wR (kR s) (ix4 b h (qx q i) J) = ((∑ e : Fin 8, ∑ t : Fin 128, Real.exp (f e t - M) : ℝ) : EReal) := by
    rw [sum_seen _ (q4 q) hw', coe_sum]
    refine Finset.sum_congr rfl fun e _ => ?_
    rw [coe_sum]
    exact Finset.sum_congr rfl fun t _ => hw e t
  have hpos : (∑ e : Fin 8, ∑ t : Fin 128, Real.exp (f e t - M)) ≠ 0 :=
    (Finset.sum_pos (fun e _ => Finset.sum_pos (fun t _ => Real.exp_pos _) Finset.univ_nonempty) Finset.univ_nonempty).ne'
  refine ⟨M, ?_⟩
  rw [cR_at, sum_seen _ (q4 q) fun J hJ => by rw [smR_at, hw' J hJ, hl, Ideal.div_coe hpos, zero_mul, mul_zero]]
  refine Finset.sum_congr rfl fun e _ => Finset.sum_congr rfl fun t _ => ?_
  rw [smR_at, hl, hw]

/-- The scores. -/
theorem score_at (x : FVec Ideal S2x512x768 .f32) (wq : FVec Ideal S768x512 .f32) (k : FVec Ideal S2x4096x8x64 .f32) (b : Fin 2) (h : Fin 8)
    (i : Fin 512) (J : Fin 4096) : sR (qR x wq) k (ix4 b h i J) = scoreE x wq b h i fun d => k (ix4 b J h d) := by
  rw [sR_at]
  unfold scoreE
  simp only [qR_at]

end

end Cert.Attn.Ref
-- ==== Proof.Equal.lean ====
/- The equation: where the scores' inputs are real numbers, what every device's result holds is what the reference computes. -/
module

public import proofs.«01_k».proof.Proof.Merge
public import proofs.«01_k».proof.Proof.Ref
public import Idealize.ShloMosaic.Lib.Layout

@[expose] public section

namespace Cert.Attn

open Idealize.ShloMosaic Idealize.SL.Sem
open Cert.KernelIdeal Cert.KernelIdeal.Gen

noncomputable section

theorem eighth_real : IsR eighth := ⟨8388608 * (2 ^ 26)⁻¹, by simp [eighth, Ideal.ofBits, Ideal.ieee, EReal.coe_mul]⟩

/-- The scores of real inputs, real query weights and real keys are real. -/
theorem score_real (x : S2x512x768.Idx → EReal) (wq : S768x512.Idx → EReal) (hx : ∀ i, IsR (x i)) (hw : ∀ i, IsR (wq i)) (b : Fin 2) (h : Fin 8) (i : Fin 512)
    (key : Fin 64 → EReal) (hk : ∀ d, IsR (key d)) : IsR (scoreE x wq b h i key) :=
  IsR.mul (IsR.sum _ _ fun _ => IsR.mul (IsR.sum _ _ fun _ => IsR.mul (hx _) (hw _)) (hk _))
    eighth_real

/-- Device `e`'s key or value `j` is the whole array's `512 e + j`. -/
theorem block_at (w : (⟨4, ![2, 4096, 8, 64]⟩ : Shape).Idx → EReal)
    (e : Fin 8) (b : Fin 2) (j : Fin 512) (h : Fin 8) (d : Fin 64) :
    (Layout.block ⟨4, ![2, 512, 8, 64]⟩ ⟨4, ![2, 4096, 8, 64]⟩ 1 8 e w) (ix4 b j h d) = w (ix4 b (Ref.gx e j) h d) := by
  refine congrArg w (funext (forall4 ?_ ?_ ?_ ?_)) <;> refine Fin.ext ?_
  · rfl
  · exact congrArg (· + j.val) (Nat.mul_comm e.val 512)
  · rfl
  · rfl

variable (E : Dev nD → Stg Ideal) (x : FVec Ideal S2x512x768 .f32) (wq : FVec Ideal S768x512 .f32)
  (k v : FVec Ideal ⟨4, ![2, 4096, 8, 64]⟩ .f32) (wo : FVec Ideal S512x768 .f32)

/-- The devices' blocks of the whole arrays. -/
structure Blocks : Prop where
  x : ∀ c, (E c).x = x
  wq : ∀ c, (E c).wq = wq
  k : ∀ c, (E c).k = Layout.block ⟨4, ![2, 512, 8, 64]⟩ ⟨4, ![2, 4096, 8, 64]⟩ 1 8 c k
  v : ∀ c, (E c).v = Layout.block ⟨4, ![2, 512, 8, 64]⟩ ⟨4, ![2, 4096, 8, 64]⟩ 1 8 c v
  wo : ∀ c, (E c).wo = wo

variable {E x wq k v wo}

/-- A finished element is the reference's weighted value. -/
theorem ag_eq (B : Blocks E x wq k v wo) (hx : ∀ i, IsR (x i)) (hw : ∀ i, IsR (wq i)) (hk : ∀ c i, IsR ((E c).k i))
    (q : Fin 8) (b : Fin 2) (i : Fin 64) (h : Fin 8) (d : Fin 64) :
    agE E q b i (hc h d) = Ref.cR v (Ref.smR (Ref.sR (Ref.qR x wq) k)) (ix3 b (qx q i) (hc h d)) := by
  have hs : ∀ e t, IsR (scQ (E e) b h q i t) := fun e t =>
    score_real _ _ (by rw [B.x]; exact hx) (by rw [B.wq]; exact hw) _ _ _ _ fun d => hk e _
  have hf : ∀ e t, scQ (E e) b h q i t = ((scQ (E e) b h q i t).toReal : EReal) := fun e t =>
    (EReal.coe_toReal ((isR_iff _).1 (hs e t)).1 ((isR_iff _).1 (hs e t)).2).symm
  obtain ⟨M, hM⟩ := Ref.ctx_at (Ref.sR (Ref.qR x wq) k) v b h q i d (fun e t => (scQ (E e) b h q i t).toReal) fun e t => by
    rw [← hf, Ref.score_at]
    unfold scQ
    rw [B.x, B.wq, B.k]
    exact congrArg (scoreE x wq b h (qx q i)) (funext fun d => (block_at k e b _ h d).symm)
  rw [hM, AGF_at E q b h i d _ hf M]
  refine Finset.sum_congr rfl fun e _ => Finset.sum_congr rfl fun t _ => ?_
  refine congrArg (fun z : EReal => z * _) ?_
  show (E e).v _ = _
  rw [B.v]
  exact block_at v e b _ h d

/-- Every device's result is the reference's. -/
theorem out_eq (B : Blocks E x wq k v wo) (hx : ∀ i, IsR (x i)) (hw : ∀ i, IsR (wq i)) (hk : ∀ c i, IsR ((E c).k i)) (c : Dev nD) :
    OUTF E c = Ref.oR (Ref.cR v (Ref.smR (Ref.sR (Ref.qR x wq) k))) wo := by
  funext (j : S2x512x768.Idx)
  obtain ⟨b, i, n, rfl⟩ : ∃ (b : Fin 2) (i : Fin 512) (n : Fin 768), j = ix3 b i n := ⟨j 0, j 1, j 2, funext (forall3 rfl rfl rfl)⟩
  have e := OUTF_at E c b (hd i) (lo i) n
  rw [show qx (hd i) (lo i) = i from hc_hd i] at e
  refine e.trans (Eq.trans ?_ (Ref.oR_at _ _ b i n).symm)
  refine Finset.sum_congr rfl fun p _ => ?_
  have a := ag_eq B hx hw hk (hd i) b (lo i) (hd p) (lo p)
  rw [hc_hd, show qx (hd i) (lo i) = i from hc_hd i] at a
  rw [a]
  refine congrArg (fun z : EReal => _ * z) ?_
  show (E c).wo _ = _
  rw [B.wo]

end

end Cert.Attn
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ends
public import proofs.«01_k».proof.Proof.Twin
public import proofs.«01_k».proof.Proof.Finite
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel's frame, from the run over any float values: the two programs have the same text. -/
theorem frame_kernel : Cert.quiescent_Kernel := fun m ρ _ => by
  rw [Cert.Attn.twin_defs]
  exact (θ_run Cert.KernelIdeal.defs _ _).mono (fun _ h => ⟨fun c => (h.1 c).2, h.2⟩) (Cert.Attn.run_ends (F := Bits) m ρ)

/-- The frame of the kernel's ideal reading. -/
theorem frame_kernelIdeal : Cert.quiescent_KernelIdeal := fun m ρ _ =>
  (θ_run Cert.KernelIdeal.defs _ _).mono (fun _ h => ⟨fun c => (h.1 c).2, h.2⟩) (Cert.Attn.run_ends (F := Ideal) m ρ)

/-- The reference's frame: it has no semaphores. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩) (Cert.ReferenceIdeal.Value.run (F := Ideal) m ρ)

/-- The value claim: both run, and what every device's result holds is what the reference's does. -/
theorem value : Cert.algebraic_KernelIdeal_ReferenceIdeal_pre_finite_scores_KernelIdeal
    (hPre_finite_scores_KernelIdeal := Cert.Attn.factsPre) := fun m ρ m' ρ' hp hb => by
  have hr := fun c => @Cert.Attn.real_of_pre Cert.Attn.factsPre _ _ _ _ _ (hp c)
  have B : Cert.Attn.Blocks (Cert.Attn.args m)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    ⟨fun c => (hb c).1, fun c => (hb c).2.1, fun c => (hb c).2.2.1, fun c => (hb c).2.2.2.1, fun c => (hb c).2.2.2.2⟩
  have hx := (hr (0 : Dev Cert.KernelIdeal.nD)).1
  have hw := (hr (0 : Dev Cert.KernelIdeal.nD)).2.1
  rw [(hb 0).1] at hx
  rw [(hb 0).2.1] at hw
  refine ⟨Cert.ReferenceIdeal.Value.res_out0 m' 0, (θ_run Cert.KernelIdeal.defs _ _).mono (fun r h c => ⟨?_, (h.1 c).2⟩)
    (Cert.Attn.run_ends (F := Ideal) m ρ), (θ_run Cert.ReferenceIdeal.defs _ _).mono (fun r h => h 0) (Cert.ReferenceIdeal.Value.run (F := Ideal) m' ρ')⟩
  exact (h.1 c).1.trans ((Cert.Attn.out_eq B hx hw (fun c => (hr c).2.2) c).trans (Cert.Attn.Ref.res_eq m' 0).symm)

theorem claim : Cert.Claim := ⟨Cert.Kernel.Gen.facts, Cert.KernelIdeal.Gen.facts, Cert.ReferenceIdeal.Gen.facts, Cert.Attn.factsPre, Cert.Attn.factsPreRef,
  frame_kernel, frame_kernelIdeal, fun m ρ _ => frame_kernelIdeal m ρ ⟨⟩, frame_reference, fun m ρ _ => frame_reference m ρ ⟨⟩, trivial, value⟩

end Cert.Proof

end
